-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 [hPre_experts : Cert.Pre_experts.Facts] (m : (ℓ : Loc Cert.Kernel2.nD Cert.Kernel2.τ Cert.Kernel2.sig) → Buf (Elt Bits) ℓ) : Prop :=
  ∀ c : Dev Cert.Kernel2.nD,
    (Cert.Pre_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3))).1 = (fun _ => 1#1)
    ∧ (Cert.Pre_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3))).2 = (fun _ => 1#1)

def Pre_Kernel2Ideal [hPre_experts : Cert.Pre_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts [hPre_experts : Cert.Pre_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2 = (fun _ => 1#1)

def Pre_Kernel3 [hPre_gathers : Cert.Pre_gathers.Facts] (m : (ℓ : Loc Cert.Kernel3.nD Cert.Kernel3.τ Cert.Kernel3.sig) → Buf (Elt Bits) ℓ) : Prop :=
  ∀ c : Dev Cert.Kernel3.nD,
    (Cert.Pre_gathers.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).1 = (fun _ => 1#1)
    ∧ (Cert.Pre_gathers.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).2.1 = (fun _ => 1#1)
    ∧ (Cert.Pre_gathers.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).2.2.1 = (fun _ => 1#1)
    ∧ (Cert.Pre_gathers.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).2.2.2 = (fun _ => 1#1)

def Pre_Kernel3Ideal [hPre_gathers : Cert.Pre_gathers.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_gathers.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_gathers.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_gathers.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_gathers.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_gathers [hPre_gathers : Cert.Pre_gathers.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_gathers.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_gathers.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_gathers.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_gathers.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2 = (fun _ => 1#1)

def Pre_Kernel4 [hPre_dense_up : Cert.Pre_dense_up.Facts] (m : (ℓ : Loc Cert.Kernel4.nD Cert.Kernel4.τ Cert.Kernel4.sig) → Buf (Elt Bits) ℓ) : Prop :=
  ∀ c : Dev Cert.Kernel4.nD,
    (Cert.Pre_dense_up.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4))).1 = (fun _ => 1#1)
    ∧ (Cert.Pre_dense_up.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4))).2 = (fun _ => 1#1)

def Pre_Kernel4Ideal [hPre_dense_up : Cert.Pre_dense_up.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_dense_up.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_dense_up.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_dense_up [hPre_dense_up : Cert.Pre_dense_up.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_dense_up.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_dense_up.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2 = (fun _ => 1#1)

def Pre_Kernel5 [hPre_dense_down : Cert.Pre_dense_down.Facts] (m : (ℓ : Loc Cert.Kernel5.nD Cert.Kernel5.τ Cert.Kernel5.sig) → Buf (Elt Bits) ℓ) : Prop :=
  ∀ c : Dev Cert.Kernel5.nD,
    (Cert.Pre_dense_down.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3))).1 = (fun _ => 1#1)
    ∧ (Cert.Pre_dense_down.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3))).2 = (fun _ => 1#1)

def Pre_Kernel5Ideal [hPre_dense_down : Cert.Pre_dense_down.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_dense_down.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).1 = (fun _ => 1#1)
    ∧ (Cert.Pre_dense_down.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_dense_down [hPre_dense_down : Cert.Pre_dense_down.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_dense_down.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).1 = (fun _ => 1#1)
    ∧ (Cert.Pre_dense_down.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_experts : Cert.Pre_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_experts [hReference2Ideal : Cert.Reference2Ideal.Facts] [hPre_experts : Cert.Pre_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_gathers : Cert.Pre_gathers.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_gathers : Cert.Pre_gathers.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_gathers [hReference3Ideal : Cert.Reference3Ideal.Facts] [hPre_gathers : Cert.Pre_gathers.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_gathers m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] [hPre_dense_up : Cert.Pre_dense_up.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] [hPre_dense_up : Cert.Pre_dense_up.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_dense_up [hReference4Ideal : Cert.Reference4Ideal.Facts] [hPre_dense_up : Cert.Pre_dense_up.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_dense_up m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] [hPre_dense_down : Cert.Pre_dense_down.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] [hPre_dense_down : Cert.Pre_dense_down.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_dense_down [hReference5Ideal : Cert.Reference5Ideal.Facts] [hPre_dense_down : Cert.Pre_dense_down.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_dense_down m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_gathers : Cert.Pre_gathers.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] [hPre_dense_up : Cert.Pre_dense_up.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] [hPre_dense_down : Cert.Pre_dense_down.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_experts : Cert.Pre_experts.Facts) (hPre_gathers : Cert.Pre_gathers.Facts) (hPre_dense_up : Cert.Pre_dense_up.Facts) (hPre_dense_down : Cert.Pre_dense_down.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts := hPre_experts)
    ∧ quiescent_Kernel2Ideal (hKernel2Ideal := hKernel2Ideal) (hPre_experts := hPre_experts)
    ∧ quiescent_Reference2Ideal (hReference2Ideal := hReference2Ideal)
    ∧ quiescent_Reference2Ideal_pre_experts (hReference2Ideal := hReference2Ideal) (hPre_experts := hPre_experts)
    ∧ quiescent_Kernel3 (hKernel3 := hKernel3) (hPre_gathers := hPre_gathers)
    ∧ quiescent_Kernel3Ideal (hKernel3Ideal := hKernel3Ideal) (hPre_gathers := hPre_gathers)
    ∧ quiescent_Reference3Ideal (hReference3Ideal := hReference3Ideal)
    ∧ quiescent_Reference3Ideal_pre_gathers (hReference3Ideal := hReference3Ideal) (hPre_gathers := hPre_gathers)
    ∧ quiescent_Kernel4 (hKernel4 := hKernel4) (hPre_dense_up := hPre_dense_up)
    ∧ quiescent_Kernel4Ideal (hKernel4Ideal := hKernel4Ideal) (hPre_dense_up := hPre_dense_up)
    ∧ quiescent_Reference4Ideal (hReference4Ideal := hReference4Ideal)
    ∧ quiescent_Reference4Ideal_pre_dense_up (hReference4Ideal := hReference4Ideal) (hPre_dense_up := hPre_dense_up)
    ∧ quiescent_Kernel5 (hKernel5 := hKernel5) (hPre_dense_down := hPre_dense_down)
    ∧ quiescent_Kernel5Ideal (hKernel5Ideal := hKernel5Ideal) (hPre_dense_down := hPre_dense_down)
    ∧ quiescent_Reference5Ideal (hReference5Ideal := hReference5Ideal)
    ∧ quiescent_Reference5Ideal_pre_dense_down (hReference5Ideal := hReference5Ideal) (hPre_dense_down := hPre_dense_down)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_experts := hPre_experts)
    ∧ preserves_Kernel3_Kernel3Ideal
    ∧ algebraic_Kernel3Ideal_Reference3Ideal (hKernel3Ideal := hKernel3Ideal) (hReference3Ideal := hReference3Ideal) (hPre_gathers := hPre_gathers)
    ∧ preserves_Kernel4_Kernel4Ideal
    ∧ algebraic_Kernel4Ideal_Reference4Ideal (hKernel4Ideal := hKernel4Ideal) (hReference4Ideal := hReference4Ideal) (hPre_dense_up := hPre_dense_up)
    ∧ preserves_Kernel5_Kernel5Ideal
    ∧ algebraic_Kernel5Ideal_Reference5Ideal (hKernel5Ideal := hKernel5Ideal) (hReference5Ideal := hReference5Ideal) (hPre_dense_down := hPre_dense_down)
    ∧ preserves_Kernel6_Kernel6Ideal
    ∧ algebraic_Kernel6Ideal_Reference6Ideal (hKernel6Ideal := hKernel6Ideal) (hReference6Ideal := hReference6Ideal)
-- ==== Pre_dense_down.lean ====
abbrev S9216x5632 : Shape := ⟨2, ![9216, 5632]⟩
abbrev S9 : Shape := ⟨1, ![9]⟩
abbrev S1x5632x2048 : Shape := ⟨3, ![1, 5632, 2048]⟩
abbrev S_ : Shape := ⟨0, ![]⟩

class Facts : Prop where
  bcast_S_S9 : S_.BroadcastsInDim S9 (![] : Fin 0 → Fin S9.rank)

variable [Facts]

def fn {F : FTy → Type} [FloatOps F] (main_arg0 : FVec F S9216x5632 .bf16) (main_arg1 : IVec S9 32) (main_arg2 : IVec S9 32) (main_arg3 : FVec F S1x5632x2048 .f32) : IVec S9 1 × IVec S9 1 :=
  let main_c : IVec S_ 32 := constantI S_ 32 0#32
  let main_v0 : IVec S9 32 := broadcastInDim S9 ![] bcast_S_S9 main_c
  let main_v1 : IVec S9 1 := cmpi .eq main_arg1 main_v0
  let main_c_0 : IVec S_ 32 := constantI S_ 32 0#32
  let main_v2 : IVec S9 32 := broadcastInDim S9 ![] bcast_S_S9 main_c_0
  let main_v3 : IVec S9 1 := cmpi .ne main_arg2 main_v2
  (main_v1, main_v3)
-- ==== Pre_dense_up.lean ====
abbrev S9216x2048 : Shape := ⟨2, ![9216, 2048]⟩
abbrev S9 : Shape := ⟨1, ![9]⟩
abbrev S1x2048x5632 : Shape := ⟨3, ![1, 2048, 5632]⟩
abbrev S_ : Shape := ⟨0, ![]⟩

class Facts : Prop where
  bcast_S_S9 : S_.BroadcastsInDim S9 (![] : Fin 0 → Fin S9.rank)

variable [Facts]

def fn {F : FTy → Type} [FloatOps F] (main_arg0 : FVec F S9216x2048 .f32) (main_arg1 : IVec S9 32) (main_arg2 : IVec S9 32) (main_arg3 : FVec F S1x2048x5632 .f32) (main_arg4 : FVec F S1x2048x5632 .f32) : IVec S9 1 × IVec S9 1 :=
  let main_c : IVec S_ 32 := constantI S_ 32 0#32
  let main_v0 : IVec S9 32 := broadcastInDim S9 ![] bcast_S_S9 main_c
  let main_v1 : IVec S9 1 := cmpi .eq main_arg1 main_v0
  let main_c_0 : IVec S_ 32 := constantI S_ 32 0#32
  let main_v2 : IVec S9 32 := broadcastInDim S9 ![] bcast_S_S9 main_c_0
  let main_v3 : IVec S9 1 := cmpi .ne main_arg2 main_v2
  (main_v1, main_v3)
-- ==== Pre_experts.lean ====
abbrev S24576x5632 : Shape := ⟨2, ![24576, 5632]⟩
abbrev S32 : Shape := ⟨1, ![32]⟩
abbrev S8x5632x2048 : Shape := ⟨3, ![8, 5632, 2048]⟩
abbrev S_ : Shape := ⟨0, ![]⟩

class Facts : Prop where
  bcast_S_S32 : S_.BroadcastsInDim S32 (![] : Fin 0 → Fin S32.rank)

variable [Facts]

def fn {F : FTy → Type} [FloatOps F] (main_arg0 : FVec F S24576x5632 .bf16) (main_arg1 : IVec S32 32) (main_arg2 : IVec S32 32) (main_arg3 : FVec F S8x5632x2048 .f32) : IVec S32 1 × IVec S32 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 8#32
  let main_v2 : IVec S32 32 := broadcastInDim S32 ![] bcast_S_S32 main_c_0
  let main_v3 : IVec S32 1 := cmpi .slt main_arg1 main_v2
  (main_v1, main_v3)
-- ==== Pre_finite.lean ====
abbrev S2x4096x8x256 : Shape := ⟨4, ![2, 4096, 8, 256]⟩
abbrev S2x4096x8x64 : Shape := ⟨4, ![2, 4096, 8, 64]⟩
abbrev S2x4096x256 : Shape := ⟨3, ![2, 4096, 256]⟩
abbrev S2x4096x64 : Shape := ⟨3, ![2, 4096, 64]⟩
abbrev S256x8x128 : Shape := ⟨3, ![256, 8, 128]⟩
abbrev S_ : Shape := ⟨0, ![]⟩

class Facts : Prop where
  bcast_S_S2x4096x8x256 : S_.BroadcastsInDim S2x4096x8x256 (![] : Fin 0 → Fin S2x4096x8x256.rank)
  bcast_S_S2x4096x8x64 : S_.BroadcastsInDim S2x4096x8x64 (![] : Fin 0 → Fin S2x4096x8x64.rank)
  bcast_S_S2x4096x256 : S_.BroadcastsInDim S2x4096x256 (![] : Fin 0 → Fin S2x4096x256.rank)
  bcast_S_S2x4096x64 : S_.BroadcastsInDim S2x4096x64 (![] : Fin 0 → Fin S2x4096x64.rank)

variable [Facts]

def fn {F : FTy → Type} [FloatOps F] (main_arg0 : FVec F S2x4096x8x256 .f32) (main_arg1 : FVec F S2x4096x8x64 .f32) (main_arg2 : FVec F S2x4096x256 .f32) (main_arg3 : FVec F S2x4096x64 .f32) (main_arg4 : FVec F S256x8x128 .f32) : IVec S2x4096x8x256 1 × IVec S2x4096x8x64 1 × IVec S2x4096x256 1 × IVec S2x4096x64 1 :=
  let main_v0 : FVec F S2x4096x8x256 .f32 := Host.absf main_arg0
  let main_cst : FVec F S_ .f32 := constant S_ .f32 0x7F800000#32
  let main_v1 : FVec F S2x4096x8x256 .f32 := broadcastInDim S2x4096x8x256 ![] bcast_S_S2x4096x8x256 main_cst
  let main_v2 : IVec S2x4096x8x256 1 := cmpf .olt main_v0 main_v1
  let main_v3 : FVec F S2x4096x8x64 .f32 := Host.absf main_arg1
  let main_cst_0 : FVec F S_ .f32 := constant S_ .f32 0x7F800000#32
  let main_v4 : FVec F S2x4096x8x64 .f32 := broadcastInDim S2x4096x8x64 ![] bcast_S_S2x4096x8x64 main_cst_0
  let main_v5 : IVec S2x4096x8x64 1 := cmpf .olt main_v3 main_v4
  let main_v6 : FVec F S2x4096x256 .f32 := Host.absf main_arg2
  let main_cst_1 : FVec F S_ .f32 := constant S_ .f32 0x7F800000#32
  let main_v7 : FVec F S2x4096x256 .f32 := broadcastInDim S2x4096x256 ![] bcast_S_S2x4096x256 main_cst_1
  let main_v8 : IVec S2x4096x256 1 := cmpf .olt main_v6 main_v7
  let main_v9 : FVec F S2x4096x64 .f32 := Host.absf main_arg3
  let main_cst_2 : FVec F S_ .f32 := constant S_ .f32 0x7F800000#32
  let main_v10 : FVec F S2x4096x64 .f32 := broadcastInDim S2x4096x64 ![] bcast_S_S2x4096x64 main_cst_2
  let main_v11 : IVec S2x4096x64 1 := cmpf .olt main_v9 main_v10
  (main_v2, main_v5, main_v8, main_v11)
-- ==== Pre_gathers.lean ====
abbrev S9216x2048 : Shape := ⟨2, ![9216, 2048]⟩
abbrev S32 : Shape := ⟨1, ![32]⟩
abbrev S24576 : Shape := ⟨1, ![24576]⟩
abbrev S8x2048x5632 : Shape := ⟨3, ![8, 2048, 5632]⟩
abbrev S_ : Shape := ⟨0, ![]⟩

class Facts : Prop where
  bcast_S_S32 : S_.BroadcastsInDim S32 (![] : Fin 0 → Fin S32.rank)
  bcast_S_S24576 : S_.BroadcastsInDim S24576 (![] : Fin 0 → Fin S24576.rank)

variable [Facts]

def fn {F : FTy → Type} [FloatOps F] (main_arg0 : FVec F S9216x2048 .f32) (main_arg1 : IVec S32 32) (main_arg2 : IVec S32 32) (main_arg3 : IVec S24576 32) (main_arg4 : FVec F S8x2048x5632 .f32) (main_arg5 : FVec F S8x2048x5632 .f32) : IVec S32 1 × IVec S32 1 × IVec S24576 1 × IVec S24576 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 8#32
  let main_v2 : IVec S32 32 := broadcastInDim S32 ![] bcast_S_S32 main_c_0
  let main_v3 : IVec S32 1 := cmpi .slt main_arg1 main_v2
  let main_c_1 : IVec S_ 32 := constantI S_ 32 0#32
  let main_v4 : IVec S24576 32 := broadcastInDim S24576 ![] bcast_S_S24576 main_c_1
  let main_v5 : IVec S24576 1 := cmpi .sge main_arg3 main_v4
  let main_c_2 : IVec S_ 32 := constantI S_ 32 9216#32
  let main_v6 : IVec S24576 32 := broadcastInDim S24576 ![] bcast_S_S24576 main_c_2
  let main_v7 : IVec S24576 1 := cmpi .slt main_arg3 main_v6
  (main_v1, main_v3, main_v5, main_v7)
-- ==== Kernel.lean ====
abbrev S2x4096x8x256 : Shape := ⟨4, ![2, 4096, 8, 256]⟩
abbrev S2x4096x8x64 : Shape := ⟨4, ![2, 4096, 8, 64]⟩
abbrev S2x4096x256 : Shape := ⟨3, ![2, 4096, 256]⟩
abbrev S2x4096x64 : Shape := ⟨3, ![2, 4096, 64]⟩
abbrev S256x8x128 : Shape := ⟨3, ![256, 8, 128]⟩
abbrev S_ : Shape := ⟨0, ![]⟩
abbrev S8192x2048 : Shape := ⟨2, ![8192, 2048]⟩
abbrev S8192x512 : Shape := ⟨2, ![8192, 512]⟩
abbrev S8x256x128 : Shape := ⟨3, ![8, 256, 128]⟩
abbrev S8192x256 : Shape := ⟨2, ![8192, 256]⟩
abbrev S8192x64 : Shape := ⟨2, ![8192, 64]⟩
abbrev S8192x1024 : Shape := ⟨2, ![8192, 1024]⟩
abbrev S512x2048 : Shape := ⟨2, ![512, 2048]⟩
abbrev S512x512 : Shape := ⟨2, ![512, 512]⟩
abbrev S512x256 : Shape := ⟨2, ![512, 256]⟩
abbrev S512x64 : Shape := ⟨2, ![512, 64]⟩
abbrev S512x1024 : Shape := ⟨2, ![512, 1024]⟩
abbrev S8x512x128 : Shape := ⟨3, ![8, 512, 128]⟩
abbrev S8x512x256 : Shape := ⟨3, ![8, 512, 256]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1x512x256 : Shape := ⟨3, ![1, 512, 256]⟩
abbrev S1x256x128 : Shape := ⟨3, ![1, 256, 128]⟩
abbrev S256x128 : Shape := ⟨2, ![256, 128]⟩

abbrev nBuf : Space → Nat
  | .hbm => 20
  | .vmem => 14
  | .smem => 0
  | _ => 0

abbrev bufTy : (tb : Table) → Fin (tcTables nBuf tb) → BufTy
  | .hbm, ⟨0, _⟩ => ⟨S2x4096x8x256, .f32⟩
  | .hbm, ⟨1, _⟩ => ⟨S2x4096x8x64, .f32⟩
  | .hbm, ⟨2, _⟩ => ⟨S2x4096x256, .f32⟩
  | .hbm, ⟨3, _⟩ => ⟨S2x4096x64, .f32⟩
  | .hbm, ⟨4, _⟩ => ⟨S256x8x128, .f32⟩
  | .hbm, ⟨5, _⟩ => ⟨S_, .f32⟩
  | .hbm, ⟨6, _⟩ => ⟨S2x4096x8x256, .f32⟩
  | .hbm, ⟨7, _⟩ => ⟨S2x4096x8x256, .f32⟩
  | .hbm, ⟨8, _⟩ => ⟨S2x4096x8x256, .bf16⟩
  | .hbm, ⟨9, _⟩ => ⟨S8192x2048, .bf16⟩
  | .hbm, ⟨10, _⟩ => ⟨S_, .f32⟩
  | .hbm, ⟨11, _⟩ => ⟨S2x4096x8x64, .f32⟩
  | .hbm, ⟨12, _⟩ => ⟨S2x4096x8x64, .f32⟩
  | .hbm, ⟨13, _⟩ => ⟨S2x4096x8x64, .bf16⟩
  | .hbm, ⟨14, _⟩ => ⟨S8192x512, .bf16⟩
  | .hbm, ⟨15, _⟩ => ⟨S256x8x128, .bf16⟩
  | .hbm, ⟨16, _⟩ => ⟨S8x256x128, .bf16⟩
  | .hbm, ⟨17, _⟩ => ⟨S8192x256, .f32⟩
  | .hbm, ⟨18, _⟩ => ⟨S8192x64, .f32⟩
  | .hbm, ⟨19, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S512x512, .bf16⟩
  | .local _ .vmem, ⟨3, _⟩ => ⟨S512x512, .bf16⟩
  | .local _ .vmem, ⟨4, _⟩ => ⟨S512x256, .f32⟩
  | .local _ .vmem, ⟨5, _⟩ => ⟨S512x256, .f32⟩
  | .local _ .vmem, ⟨6, _⟩ => ⟨S512x64, .f32⟩
  | .local _ .vmem, ⟨7, _⟩ => ⟨S512x64, .f32⟩
  | .local _ .vmem, ⟨8, _⟩ => ⟨S8x256x128, .bf16⟩
  | .local _ .vmem, ⟨9, _⟩ => ⟨S512x1024, .bf16⟩
  | .local _ .vmem, ⟨10, _⟩ => ⟨S512x1024, .bf16⟩
  | .local _ .vmem, ⟨11, _⟩ => ⟨S8x512x128, .f32⟩
  | .local _ .vmem, ⟨12, _⟩ => ⟨S8x512x128, .f32⟩
  | .local _ .vmem, ⟨13, _⟩ => ⟨S8x512x256, .f32⟩
  | _, _ => ⟨S2x4096x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![2, 8, 8], ![false, false, false]⟩

def k0_cond3 (i : grid0.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.minsi arg2 arg1
  let v2 : BitVec 32 := Scalar.addi v0 v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.minsi arg2 arg1
  let v2 : BitVec 32 := Scalar.addi v0 v1
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S8x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S2x4096x8x256 : Shape := ⟨4, ![2, 4096, 8, 256]⟩
abbrev S2x4096x8x64 : Shape := ⟨4, ![2, 4096, 8, 64]⟩
abbrev S2x4096x256 : Shape := ⟨3, ![2, 4096, 256]⟩
abbrev S2x4096x64 : Shape := ⟨3, ![2, 4096, 64]⟩
abbrev S256x8x128 : Shape := ⟨3, ![256, 8, 128]⟩
abbrev S2x4096x4096x8 : Shape := ⟨4, ![2, 4096, 4096, 8]⟩
abbrev S2x8x4096x4096 : Shape := ⟨4, ![2, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2x8x4096 : Shape := ⟨3, ![2, 8, 4096]⟩
abbrev S2x8x4096x1 : Shape := ⟨4, ![2, 8, 4096, 1]⟩
abbrev S2x256x8x4096 : Shape := ⟨4, ![2, 256, 8, 4096]⟩
abbrev S8x128x2x4096 : Shape := ⟨4, ![8, 128, 2, 4096]⟩
abbrev S2x4096x8x128 : Shape := ⟨4, ![2, 4096, 8, 128]⟩
abbrev S8192x1024 : Shape := ⟨2, ![8192, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x4096x8x256, .f32⟩
  | .hbm, ⟨1, _⟩ => ⟨S2x4096x8x64, .f32⟩
  | .hbm, ⟨2, _⟩ => ⟨S2x4096x256, .f32⟩
  | .hbm, ⟨3, _⟩ => ⟨S2x4096x64, .f32⟩
  | .hbm, ⟨4, _⟩ => ⟨S256x8x128, .f32⟩
  | .hbm, ⟨5, _⟩ => ⟨S2x4096x4096x8, .f32⟩
  | .hbm, ⟨6, _⟩ => ⟨S2x8x4096x4096, .f32⟩
  | .hbm, ⟨7, _⟩ => ⟨S2x4096x4096x8, .f32⟩
  | .hbm, ⟨8, _⟩ => ⟨S2x8x4096x4096, .f32⟩
  | .hbm, ⟨9, _⟩ => ⟨S2x8x4096x4096, .f32⟩
  | .hbm, ⟨10, _⟩ => ⟨S_, .f32⟩
  | .hbm, ⟨11, _⟩ => ⟨S2x8x4096x4096, .f32⟩
  | .hbm, ⟨12, _⟩ => ⟨S2x8x4096x4096, .f32⟩
  | .hbm, ⟨13, _⟩ => ⟨S4096, .i32⟩
  | .hbm, ⟨14, _⟩ => ⟨S4096x1, .i32⟩
  | .hbm, ⟨15, _⟩ => ⟨S1x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S2x8x4096x4096, .i1⟩
  | .hbm, ⟨22, _⟩ => ⟨S2x8x4096x4096, .f32⟩
  | .hbm, ⟨23, _⟩ => ⟨S2x8x4096x4096, .f32⟩
  | .hbm, ⟨24, _⟩ => ⟨S_, .f32⟩
  | .hbm, ⟨25, _⟩ => ⟨S2x8x4096, .f32⟩
  | .hbm, ⟨26, _⟩ => ⟨S_, .f32⟩
  | .hbm, ⟨27, _⟩ => ⟨S2x8x4096, .f32⟩
  | .hbm, ⟨28, _⟩ => ⟨S2x8x4096, .f32⟩
  | .hbm, ⟨29, _⟩ => ⟨S2x8x4096x1, .f32⟩
  | .hbm, ⟨30, _⟩ => ⟨S2x8x4096x4096, .f32⟩
  | .hbm, ⟨31, _⟩ => ⟨S2x8x4096x4096, .f32⟩
  | .hbm, ⟨32, _⟩ => ⟨S2x8x4096x4096, .f32⟩
  | .hbm, ⟨33, _⟩ => ⟨S_, .f32⟩
  | .hbm, ⟨34, _⟩ => ⟨S2x8x4096, .f32⟩
  | .hbm, ⟨35, _⟩ => ⟨S2x8x4096x1, .f32⟩
  | .hbm, ⟨36, _⟩ => ⟨S2x8x4096x4096, .f32⟩
  | .hbm, ⟨37, _⟩ => ⟨S2x8x4096x4096, .f32⟩
  | .hbm, ⟨38, _⟩ => ⟨S2x256x8x4096, .f32⟩
  | .hbm, ⟨39, _⟩ => ⟨S2x4096x8x256, .f32⟩
  | .hbm, ⟨40, _⟩ => ⟨S8x128x2x4096, .f32⟩
  | .hbm, ⟨41, _⟩ => ⟨S2x4096x8x128, .f32⟩
  | .hbm, ⟨42, _⟩ => ⟨S8192x1024, .f32⟩
  | .hbm, ⟨43, _⟩ => ⟨S8192x1024, .bf16⟩
  | _, _ => ⟨S2x4096x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel2.lean ====
abbrev S24576x5632 : Shape := ⟨2, ![24576, 5632]⟩
abbrev S32 : Shape := ⟨1, ![32]⟩
abbrev S8x5632x2048 : Shape := ⟨3, ![8, 5632, 2048]⟩
abbrev S24576x2048 : Shape := ⟨2, ![24576, 2048]⟩
abbrev S768x5632 : Shape := ⟨2, ![768, 5632]⟩
abbrev S1x5632x512 : Shape := ⟨3, ![1, 5632, 512]⟩
abbrev S1 : Shape := ⟨1, ![1]⟩
abbrev S768x512 : Shape := ⟨2, ![768, 512]⟩
abbrev S5632x512 : Shape := ⟨2, ![5632, 512]⟩

abbrev nBuf : Space → Nat
  | .hbm => 3
  | .vmem => 6
  | .smem => 2
  | _ => 0

abbrev bufTy : (tb : Table) → Fin (tcTables nBuf tb) → BufTy
  | .hbm, ⟨0, _⟩ => ⟨S24576x5632, .bf16⟩
  | .hbm, ⟨1, _⟩ => ⟨S8x5632x2048, .f32⟩
  | .hbm, ⟨2, _⟩ => ⟨S24576x2048, .f32⟩
  | .local _ .vmem, ⟨0, _⟩ => ⟨S768x5632, .bf16⟩
  | .local _ .vmem, ⟨1, _⟩ => ⟨S768x5632, .bf16⟩
  | .local _ .vmem, ⟨2, _⟩ => ⟨S1x5632x512, .f32⟩
  | .local _ .vmem, ⟨3, _⟩ => ⟨S1x5632x512, .f32⟩
  | .local _ .vmem, ⟨4, _⟩ => ⟨S768x512, .f32⟩
  | .local _ .vmem, ⟨5, _⟩ => ⟨S768x512, .f32⟩
  | .local _ .smem, ⟨0, _⟩ => ⟨S32, .i32⟩
  | .local _ .smem, ⟨1, _⟩ => ⟨S32, .i32⟩
  | _, _ => ⟨S24576x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_v0 : Ref sig .tc := ⟨.hbm, 2, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let v2 : Index := Scalar.indexCast arg0
  let v3 : BitVec 32 := pf.at 1 (Rect.unit (s := S32) ![v2.toNat] S1.size (k0_off1_inb i)) numel1_S1
  let c0_i32 : BitVec 32 := 0#32
  let v4 : BitVec 1 := Scalar.cmpi .ne v3 c0_i32
  let c3_i32 : BitVec 32 := 3#32
  let v5 : BitVec 32 := Scalar.select v4 arg1 c3_i32
  let c0_i32_0 : BitVec 32 := 0#32
  let c0_i32_1 : BitVec 32 := 0#32
  ![v1.toNat, c0_i32_0.toNat, v5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S24576x5632 : Shape := ⟨2, ![24576, 5632]⟩
abbrev S32 : Shape := ⟨1, ![32]⟩
abbrev S8x5632x2048 : Shape := ⟨3, ![8, 5632, 2048]⟩
abbrev S32x768x5632 : Shape := ⟨3, ![32, 768, 5632]⟩
abbrev S_ : Shape := ⟨0, ![]⟩
abbrev S32x1 : Shape := ⟨2, ![32, 1]⟩
abbrev S32x5632x2048 : Shape := ⟨3, ![32, 5632, 2048]⟩
abbrev S32x768x2048 : Shape := ⟨3, ![32, 768, 2048]⟩
abbrev S32x1x1 : Shape := ⟨3, ![32, 1, 1]⟩
abbrev S24576x2048 : Shape := ⟨2, ![24576, 2048]⟩

abbrev nBuf : Space → Nat
  | .hbm => 26
  | .vmem => 0
  | .smem => 0
  | _ => 0

abbrev bufTy : (tb : Table) → Fin (tcTables nBuf tb) → BufTy
  | .hbm, ⟨0, _⟩ => ⟨S24576x5632, .bf16⟩
  | .hbm, ⟨1, _⟩ => ⟨S32, .i32⟩
  | .hbm, ⟨2, _⟩ => ⟨S32, .i32⟩
  | .hbm, ⟨3, _⟩ => ⟨S8x5632x2048, .f32⟩
  | .hbm, ⟨4, _⟩ => ⟨S24576x5632, .f32⟩
  | .hbm, ⟨5, _⟩ => ⟨S32x768x5632, .f32⟩
  | .hbm, ⟨6, _⟩ => ⟨S_, .i32⟩
  | .hbm, ⟨7, _⟩ => ⟨S32, .i32⟩
  | .hbm, ⟨8, _⟩ => ⟨S32, .i1⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .i32⟩
  | .hbm, ⟨13, _⟩ => ⟨S32x1, .i32⟩
  | .hbm, ⟨14, _⟩ => ⟨S32x5632x2048, .f32⟩
  | .hbm, ⟨15, _⟩ => ⟨S32x768x2048, .f32⟩
  | .hbm, ⟨16, _⟩ => ⟨S32x1x1, .i32⟩
  | .hbm, ⟨17, _⟩ => ⟨S_, .i32⟩
  | .hbm, ⟨18, _⟩ => ⟨S32x1x1, .i32⟩
  | .hbm, ⟨19, _⟩ => ⟨S32x1x1, .i1⟩
  | .hbm, ⟨20, _⟩ => ⟨S_, .f32⟩
  | .hbm, ⟨21, _⟩ => ⟨S_, .f32⟩
  | .hbm, ⟨22, _⟩ => ⟨S32x768x2048, .i1⟩
  | .hbm, ⟨23, _⟩ => ⟨S32x768x2048, .f32⟩
  | .hbm, ⟨24, _⟩ => ⟨S32x768x2048, .f32⟩
  | .hbm, ⟨25, _⟩ => ⟨S24576x2048, .f32⟩
  | _, _ => ⟨S24576x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]
-- ==== Kernel3.lean ====
abbrev S9216x2048 : Shape := ⟨2, ![9216, 2048]⟩
abbrev S32 : Shape := ⟨1, ![32]⟩
abbrev S24576 : Shape := ⟨1, ![24576]⟩
abbrev S8x2048x5632 : Shape := ⟨3, ![8, 2048, 5632]⟩
abbrev S24576x5632 : Shape := ⟨2, ![24576, 5632]⟩
abbrev S1x2048x512 : Shape := ⟨3, ![1, 2048, 512]⟩
abbrev S1 : Shape := ⟨1, ![1]⟩
abbrev S768x512 : Shape := ⟨2, ![768, 512]⟩
abbrev S768x2048 : Shape := ⟨2, ![768, 2048]⟩
abbrev S_ : Shape := ⟨0, ![]⟩
abbrev S1x2048 : Shape := ⟨2, ![1, 2048]⟩
abbrev S2048x512 : Shape := ⟨2, ![2048, 512]⟩

abbrev nBuf : Space → Nat
  | .hbm => 4
  | .vmem => 8
  | .smem => 3
  | _ => 0

abbrev bufTy : (tb : Table) → Fin (tcTables nBuf tb) → BufTy
  | .hbm, ⟨0, _⟩ => ⟨S9216x2048, .f32⟩
  | .hbm, ⟨1, _⟩ => ⟨S8x2048x5632, .f32⟩
  | .hbm, ⟨2, _⟩ => ⟨S8x2048x5632, .f32⟩
  | .hbm, ⟨3, _⟩ => ⟨S24576x5632, .bf16⟩
  | .local _ .vmem, ⟨0, _⟩ => ⟨S1x2048x512, .f32⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S768x512, .bf16⟩
  | .local _ .vmem, ⟨5, _⟩ => ⟨S768x512, .bf16⟩
  | .local _ .vmem, ⟨6, _⟩ => ⟨S768x2048, .f32⟩
  | .local _ .vmem, ⟨7, _⟩ => ⟨S768x2048, .bf16⟩
  | .local _ .smem, ⟨0, _⟩ => ⟨S32, .i32⟩
  | .local _ .smem, ⟨1, _⟩ => ⟨S32, .i32⟩
  | .local _ .smem, ⟨2, _⟩ => ⟨S24576, .i32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 11], ![false, false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_6 : BitVec 32 := 0#32
  let c768_i32 : BitVec 32 := 768#32
  let v17 : BitVec 32 := Scalar.addi c0_i32_6 c768_i32
  let c1_i32 : BitVec 32 := 1#32
  ⟨c0_i32_6, v17, c1_i32⟩
def k0_off2 (i : grid0.Coords) (k0_t1 : Fin k0_t1_loop.trips) : Fin 1 → Nat :=
  let arg0 : BitVec 32 := BitVec.ofNat 32 (i 0).val
  let c768_i32_15 : BitVec 32 := 768#32
  let v24 : BitVec 32 := Scalar.muli arg0 c768_i32_15
  let c0_i32_6 : BitVec 32 := 0#32
  let c1_i32 : BitVec 32 := 1#32
  let arg12 : BitVec 32 := Scf.iv c0_i32_6 c1_i32 k0_t1
  let v25 : BitVec 32 := Scalar.addi v24 arg12
  let v26 : Index := Scalar.indexCast v25
  ![v26.toNat]
def k0_off3 (k0_t1 : Fin k0_t1_loop.trips) : Fin 2 → Nat :=
  let c0_i32_6 : BitVec 32 := 0#32
  let c1_i32 : BitVec 32 := 1#32
  let arg12 : BitVec 32 := Scf.iv c0_i32_6 c1_i32 k0_t1
  let c0_i32_16 : BitVec 32 := 0#32
  ![arg12.toNat, 0]
def k0_off4 (v27 : BitVec 32) : Fin 2 → Nat :=
  let c0_i32_17 : BitVec 32 := 0#32
  ![v27.toNat, 0]
def k0_cond1 (i : grid0.Coords) (v2 : BitVec 32) : BitVec 1 :=
  let arg1 : BitVec 32 := BitVec.ofNat 32 (i 1).val
  let c0_i32 : BitVec 32 := 0#32
  let v0 : BitVec 1 := Scalar.cmpi .eq arg1 c0_i32
  let c0_i32_0 : BitVec 32 := 0#32
  let v3 : BitVec 1 := Scalar.cmpi .ne v2 c0_i32_0
  let v4 : BitVec 1 := Scalar.andi v0 v3
  let v5 : BitVec 32 := Scalar.extui v4
  let c0_i32_1 : BitVec 32 := 0#32
  let v6 : BitVec 1 := Scalar.cmpi .ne v5 c0_i32_1
  v6

def k0_chk1 (i : grid0.Coords) (v2 : BitVec 32) (v27 : BitVec 32) : Prop :=
  (∀ (k0_h1 : k0_cond1 i v2 = 1#1), ∀ a, (k0_off4 v27) a + S1x2048.size a ≤ S9216x2048.size a)
theorem k0_off4_inb : ∀ (i : grid0.Coords) (v2 : BitVec 32) (v27 : BitVec 32) (k0_hw1 : k0_chk1 i v2 v27), ∀ (k0_h1 : k0_cond1 i v2 = 1#1), ∀ a, (k0_off4 v27) a + S1x2048.size a ≤ S9216x2048.size a := fun i v2 v27 k0_hw1 k0_h1 => k0_hw1 k0_h1

@[reducible] def k0_t2_loop : Scf.Loop 32 :=
  let c0_i32_8 : BitVec 32 := 0#32
  let c768_i32_9 : BitVec 32 := 768#32
  let v18 : BitVec 32 := Scalar.addi c0_i32_8 c768_i32_9
  let c1_i32_10 : BitVec 32 := 1#32
  ⟨c0_i32_8, v18, c1_i32_10⟩
def k0_off5 (k0_t2 : Fin k0_t2_loop.trips) : Fin 2 → Nat :=
  let c0_i32_8 : BitVec 32 := 0#32
  let c1_i32_10 : BitVec 32 := 1#32
  let arg12 : BitVec 32 := Scf.iv c0_i32_8 c1_i32_10 k0_t2
  let c0_i32_15 : BitVec 32 := 0#32
  ![arg12.toNat, 0]
def k0_off6 (k0_t2 : Fin k0_t2_loop.trips) : Fin 2 → Nat :=
  let c0_i32_8 : BitVec 32 := 0#32
  let c1_i32_10 : BitVec 32 := 1#32
  let arg12 : BitVec 32 := Scf.iv c0_i32_8 c1_i32_10 k0_t2
  let c0_i32_16 : BitVec 32 := 0#32
  ![arg12.toNat, 0]
def k0_off7 (i : grid0.Coords) : Fin 1 → Nat :=
  let arg0 : BitVec 32 := BitVec.ofNat 32 (i 0).val
  let v7 : Index := Scalar.indexCast arg0
  ![v7.toNat]
def k0_off8 (i : grid0.Coords) : Fin 1 → Nat :=
  let arg0 : BitVec 32 := BitVec.ofNat 32 (i 0).val
  let v12 : Index := Scalar.indexCast arg0
  ![v12.toNat]
def k0_cond2 (v8 : BitVec 32) : BitVec 1 :=
  let c0_i32_2 : BitVec 32 := 0#32
  let v9 : BitVec 1 := Scalar.cmpi .ne v8 c0_i32_2
  let v10 : BitVec 32 := Scalar.extui v9
  let c0_i32_3 : BitVec 32 := 0#32
  let v11 : BitVec 1 := Scalar.cmpi .ne v10 c0_i32_3
  v11

def k0_cond3 (v13 : BitVec 32) : BitVec 1 :=
  let c0_i32_4 : BitVec 32 := 0#32
  let v14 : BitVec 1 := Scalar.cmpi .eq v13 c0_i32_4
  let v15 : BitVec 32 := Scalar.extui v14
  let c0_i32_5 : BitVec 32 := 0#32
  let v16 : BitVec 1 := Scalar.cmpi .ne v15 c0_i32_5
  v16

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let v2 : Index := Scalar.indexCast arg0
  let v3 : BitVec 32 := pf.at 1 (Rect.unit (s := S32) ![v2.toNat] S1.size (k0_off1_inb i)) numel1_S1
  let c0_i32 : BitVec 32 := 0#32
  let v4 : BitVec 1 := Scalar.cmpi .ne v3 c0_i32
  let c10_i32 : BitVec 32 := 10#32
  let v5 : BitVec 32 := Scalar.select v4 arg1 c10_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let v2 : Index := Scalar.indexCast arg0
  let v3 : BitVec 32 := pf.at 1 (Rect.unit (s := S32) ![v2.toNat] S1.size (k0_off1_inb i)) numel1_S1
  let c0_i32 : BitVec 32 := 0#32
  let v4 : BitVec 1 := Scalar.cmpi .ne v3 c0_i32
  let c10_i32 : BitVec 32 := 10#32
  let v5 : BitVec 32 := Scalar.select v4 arg1 c10_i32
  let c0_i32_0 : BitVec 32 := 0#32
  let c0_i32_1 : BitVec 32 := 0#32
  ![v1.toNat, c0_i32_0.toNat, v5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S9216x2048 : Shape := ⟨2, ![9216, 2048]⟩
abbrev S32 : Shape := ⟨1, ![32]⟩
abbrev S24576 : Shape := ⟨1, ![24576]⟩
abbrev S8x2048x5632 : Shape := ⟨3, ![8, 2048, 5632]⟩
abbrev S_ : Shape := ⟨0, ![]⟩
abbrev S24576x1 : Shape := ⟨2, ![24576, 1]⟩
abbrev S24576x2048 : Shape := ⟨2, ![24576, 2048]⟩
abbrev S32x768x2048 : Shape := ⟨3, ![32, 768, 2048]⟩
abbrev S32x1 : Shape := ⟨2, ![32, 1]⟩
abbrev S32x2048x5632 : Shape := ⟨3, ![32, 2048, 5632]⟩
abbrev S32x768x5632 : Shape := ⟨3, ![32, 768, 5632]⟩
abbrev S32x1x1 : Shape := ⟨3, ![32, 1, 1]⟩
abbrev S24576x5632 : Shape := ⟨2, ![24576, 5632]⟩

abbrev nBuf : Space → Nat
  | .hbm => 57
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S32, .i32⟩
  | .hbm, ⟨2, _⟩ => ⟨S32, .i32⟩
  | .hbm, ⟨3, _⟩ => ⟨S24576, .i32⟩
  | .hbm, ⟨4, _⟩ => ⟨S8x2048x5632, .f32⟩
  | .hbm, ⟨5, _⟩ => ⟨S8x2048x5632, .f32⟩
  | .hbm, ⟨6, _⟩ => ⟨S_, .i32⟩
  | .hbm, ⟨7, _⟩ => ⟨S24576, .i32⟩
  | .hbm, ⟨8, _⟩ => ⟨S24576, .i1⟩
  | .hbm, ⟨9, _⟩ => ⟨S_, .i32⟩
  | .hbm, ⟨10, _⟩ => ⟨S24576, .i32⟩
  | .hbm, ⟨11, _⟩ => ⟨S24576, .i32⟩
  | .hbm, ⟨12, _⟩ => ⟨S24576, .i32⟩
  | .hbm, ⟨13, _⟩ => ⟨S24576x1, .i32⟩
  | .hbm, ⟨14, _⟩ => ⟨S24576x2048, .f32⟩
  | .hbm, ⟨15, _⟩ => ⟨S32x768x2048, .f32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S32, .i32⟩
  | .hbm, ⟨23, _⟩ => ⟨S32x1, .i32⟩
  | .hbm, ⟨24, _⟩ => ⟨S32x2048x5632, .f32⟩
  | .hbm, ⟨25, _⟩ => ⟨S32x768x5632, .f32⟩
  | .hbm, ⟨26, _⟩ => ⟨S_, .i32⟩
  | .hbm, ⟨27, _⟩ => ⟨S32, .i32⟩
  | .hbm, ⟨28, _⟩ => ⟨S32, .i1⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S32x1, .i32⟩
  | .hbm, ⟨34, _⟩ => ⟨S32x2048x5632, .f32⟩
  | .hbm, ⟨35, _⟩ => ⟨S32x768x5632, .f32⟩
  | .hbm, ⟨36, _⟩ => ⟨S32x768x5632, .f32⟩
  | .hbm, ⟨37, _⟩ => ⟨S32x768x5632, .f32⟩
  | .hbm, ⟨38, _⟩ => ⟨S_, .f32⟩
  | .hbm, ⟨39, _⟩ => ⟨S32x768x5632, .f32⟩
  | .hbm, ⟨40, _⟩ => ⟨S32x768x5632, .f32⟩
  | .hbm, ⟨41, _⟩ => ⟨S_, .f32⟩
  | .hbm, ⟨42, _⟩ => ⟨S32x768x5632, .f32⟩
  | .hbm, ⟨43, _⟩ => ⟨S32x768x5632, .f32⟩
  | .hbm, ⟨44, _⟩ => ⟨S32x768x5632, .f32⟩
  | .hbm, ⟨45, _⟩ => ⟨S32x768x5632, .f32⟩
  | .hbm, ⟨46, _⟩ => ⟨S32x1x1, .i32⟩
  | .hbm, ⟨47, _⟩ => ⟨S_, .i32⟩
  | .hbm, ⟨48, _⟩ => ⟨S32x1x1, .i32⟩
  | .hbm, ⟨49, _⟩ => ⟨S32x1x1, .i1⟩
  | .hbm, ⟨50, _⟩ => ⟨S_, .f32⟩
  | .hbm, ⟨51, _⟩ => ⟨S_, .f32⟩
  | .hbm, ⟨52, _⟩ => ⟨S32x768x5632, .i1⟩
  | .hbm, ⟨53, _⟩ => ⟨S32x768x5632, .f32⟩
  | .hbm, ⟨54, _⟩ => ⟨S32x768x5632, .f32⟩
  | .hbm, ⟨55, _⟩ => ⟨S24576x5632, .f32⟩
  | .hbm, ⟨56, _⟩ => ⟨S24576x5632, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_cst : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩

abbrev nD : Nat := 1
abbrev τ : Topo := Topo.v7x

variable {F : FTy → Type} [FloatOps F]
-- ==== Kernel4.lean ====
abbrev S9216x2048 : Shape := ⟨2, ![9216, 2048]⟩
abbrev S9 : Shape := ⟨1, ![9]⟩
abbrev S1x2048x5632 : Shape := ⟨3, ![1, 2048, 5632]⟩
abbrev S9216x5632 : Shape := ⟨2, ![9216, 5632]⟩
abbrev S1024x2048 : Shape := ⟨2, ![1024, 2048]⟩
abbrev S1x2048x512 : Shape := ⟨3, ![1, 2048, 512]⟩
abbrev S1 : Shape := ⟨1, ![1]⟩
abbrev S1024x512 : Shape := ⟨2, ![1024, 512]⟩
abbrev S2048x512 : Shape := ⟨2, ![2048, 512]⟩

abbrev nBuf : Space → Nat
  | .hbm => 4
  | .vmem => 8
  | .smem => 2
  | _ => 0

abbrev bufTy : (tb : Table) → Fin (tcTables nBuf tb) → BufTy
  | .hbm, ⟨0, _⟩ => ⟨S9216x2048, .f32⟩
  | .hbm, ⟨1, _⟩ => ⟨S1x2048x5632, .f32⟩
  | .hbm, ⟨2, _⟩ => ⟨S1x2048x5632, .f32⟩
  | .hbm, ⟨3, _⟩ => ⟨S9216x5632, .bf16⟩
  | .local _ .vmem, ⟨0, _⟩ => ⟨S1024x2048, .f32⟩
  | .local _ .vmem, ⟨1, _⟩ => ⟨S1024x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .smem, ⟨0, _⟩ => ⟨S9, .i32⟩
  | .local _ .smem, ⟨1, _⟩ => ⟨S9, .i32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 11], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S9.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S9) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S9.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S9) ![v0.toNat] S1.size (k0_off1_inb i)) numel1_S1
  let c0_i32 : BitVec 32 := 0#32
  let c0_i32_0 : BitVec 32 := 0#32
  ![v1.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S9216x2048 : Shape := ⟨2, ![9216, 2048]⟩
abbrev S9 : Shape := ⟨1, ![9]⟩
abbrev S1x2048x5632 : Shape := ⟨3, ![1, 2048, 5632]⟩
abbrev S2048x5632 : Shape := ⟨2, ![2048, 5632]⟩
abbrev S9216x5632 : Shape := ⟨2, ![9216, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S9, .i32⟩
  | .hbm, ⟨2, _⟩ => ⟨S9, .i32⟩
  | .hbm, ⟨3, _⟩ => ⟨S1x2048x5632, .f32⟩
  | .hbm, ⟨4, _⟩ => ⟨S1x2048x5632, .f32⟩
  | .hbm, ⟨5, _⟩ => ⟨S2048x5632, .f32⟩
  | .hbm, ⟨6, _⟩ => ⟨S9216x5632, .f32⟩
  | .hbm, ⟨7, _⟩ => ⟨S2048x5632, .f32⟩
  | .hbm, ⟨8, _⟩ => ⟨S9216x5632, .f32⟩
  | .hbm, ⟨9, _⟩ => ⟨S9216x5632, .f32⟩
  | .hbm, ⟨10, _⟩ => ⟨S9216x5632, .f32⟩
  | .hbm, ⟨11, _⟩ => ⟨S_, .f32⟩
  | .hbm, ⟨12, _⟩ => ⟨S9216x5632, .f32⟩
  | .hbm, ⟨13, _⟩ => ⟨S9216x5632, .f32⟩
  | .hbm, ⟨14, _⟩ => ⟨S_, .f32⟩
  | .hbm, ⟨15, _⟩ => ⟨S9216x5632, .f32⟩
  | .hbm, ⟨16, _⟩ => ⟨S9216x5632, .f32⟩
  | .hbm, ⟨17, _⟩ => ⟨S9216x5632, .f32⟩
  | .hbm, ⟨18, _⟩ => ⟨S9216x5632, .f32⟩
  | .hbm, ⟨19, _⟩ => ⟨S9216x5632, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Kernel5.lean ====
abbrev S9216x5632 : Shape := ⟨2, ![9216, 5632]⟩
abbrev S9 : Shape := ⟨1, ![9]⟩
abbrev S1x5632x2048 : Shape := ⟨3, ![1, 5632, 2048]⟩
abbrev S9216x2048 : Shape := ⟨2, ![9216, 2048]⟩
abbrev S1024x5632 : Shape := ⟨2, ![1024, 5632]⟩
abbrev S1x5632x256 : Shape := ⟨3, ![1, 5632, 256]⟩
abbrev S1 : Shape := ⟨1, ![1]⟩
abbrev S1024x256 : Shape := ⟨2, ![1024, 256]⟩
abbrev S5632x256 : Shape := ⟨2, ![5632, 256]⟩

abbrev nBuf : Space → Nat
  | .hbm => 3
  | .vmem => 6
  | .smem => 2
  | _ => 0

abbrev bufTy : (tb : Table) → Fin (tcTables nBuf tb) → BufTy
  | .hbm, ⟨0, _⟩ => ⟨S9216x5632, .bf16⟩
  | .hbm, ⟨1, _⟩ => ⟨S1x5632x2048, .f32⟩
  | .hbm, ⟨2, _⟩ => ⟨S9216x2048, .f32⟩
  | .local _ .vmem, ⟨0, _⟩ => ⟨S1024x5632, .bf16⟩
  | .local _ .vmem, ⟨1, _⟩ => ⟨S1024x5632, .bf16⟩
  | .local _ .vmem, ⟨2, _⟩ => ⟨S1x5632x256, .f32⟩
  | .local _ .vmem, ⟨3, _⟩ => ⟨S1x5632x256, .f32⟩
  | .local _ .vmem, ⟨4, _⟩ => ⟨S1024x256, .f32⟩
  | .local _ .vmem, ⟨5, _⟩ => ⟨S1024x256, .f32⟩
  | .local _ .smem, ⟨0, _⟩ => ⟨S9, .i32⟩
  | .local _ .smem, ⟨1, _⟩ => ⟨S9, .i32⟩
  | _, _ => ⟨S9216x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_v0 : Ref sig .tc := ⟨.hbm, 2, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 8], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S9.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S9) ![v0.toNat] S1.size (k0_off1_inb i)) numel1_S1
  let v2 : Index := Scalar.indexCast arg0
  let v3 : BitVec 32 := pf.at 1 (Rect.unit (s := S9) ![v2.toNat] S1.size (k0_off1_inb i)) numel1_S1
  let c0_i32 : BitVec 32 := 0#32
  let v4 : BitVec 1 := Scalar.cmpi .ne v3 c0_i32
  let c7_i32 : BitVec 32 := 7#32
  let v5 : BitVec 32 := Scalar.select v4 arg1 c7_i32
  let c0_i32_0 : BitVec 32 := 0#32
  let c0_i32_1 : BitVec 32 := 0#32
  ![v1.toNat, c0_i32_0.toNat, v5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S9216x5632 : Shape := ⟨2, ![9216, 5632]⟩
abbrev S9 : Shape := ⟨1, ![9]⟩
abbrev S1x5632x2048 : Shape := ⟨3, ![1, 5632, 2048]⟩
abbrev S5632x2048 : Shape := ⟨2, ![5632, 2048]⟩
abbrev S9216x2048 : Shape := ⟨2, ![9216, 2048]⟩

abbrev nBuf : Space → Nat
  | .hbm => 7
  | .vmem => 0
  | .smem => 0
  | _ => 0

abbrev bufTy : (tb : Table) → Fin (tcTables nBuf tb) → BufTy
  | .hbm, ⟨0, _⟩ => ⟨S9216x5632, .bf16⟩
  | .hbm, ⟨1, _⟩ => ⟨S9, .i32⟩
  | .hbm, ⟨2, _⟩ => ⟨S9, .i32⟩
  | .hbm, ⟨3, _⟩ => ⟨S1x5632x2048, .f32⟩
  | .hbm, ⟨4, _⟩ => ⟨S9216x5632, .f32⟩
  | .hbm, ⟨5, _⟩ => ⟨S5632x2048, .f32⟩
  | .hbm, ⟨6, _⟩ => ⟨S9216x2048, .f32⟩
  | _, _ => ⟨S9216x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel6.lean ====
abbrev S8192x2048 : Shape := ⟨2, ![8192, 2048]⟩
abbrev S1x2x1x12288 : Shape := ⟨4, ![1, 2, 1, 12288]⟩
abbrev S1x2048x4608 : Shape := ⟨3, ![1, 2048, 4608]⟩
abbrev S8192x4608 : Shape := ⟨2, ![8192, 4608]⟩
abbrev S1024x2048 : Shape := ⟨2, ![1024, 2048]⟩
abbrev S1x1x1x2048 : Shape := ⟨4, ![1, 1, 1, 2048]⟩
abbrev S1x2048x1536 : Shape := ⟨3, ![1, 2048, 1536]⟩
abbrev S1024x1536 : Shape := ⟨2, ![1024, 1536]⟩
abbrev S1x2048 : Shape := ⟨2, ![1, 2048]⟩
abbrev S2048x1536 : Shape := ⟨2, ![2048, 1536]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2x1x12288, .f32⟩
  | .hbm, ⟨2, _⟩ => ⟨S1x2x1x12288, .f32⟩
  | .hbm, ⟨3, _⟩ => ⟨S1x2048x4608, .bf16⟩
  | .hbm, ⟨4, _⟩ => ⟨S8192x4608, .f32⟩
  | .local _ .vmem, ⟨0, _⟩ => ⟨S1024x2048, .f32⟩
  | .local _ .vmem, ⟨1, _⟩ => ⟨S1024x2048, .f32⟩
  | .local _ .vmem, ⟨2, _⟩ => ⟨S1x1x1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x2048x1536, .bf16⟩
  | .local _ .vmem, ⟨7, _⟩ => ⟨S1x2048x1536, .bf16⟩
  | .local _ .vmem, ⟨8, _⟩ => ⟨S1024x1536, .f32⟩
  | .local _ .vmem, ⟨9, _⟩ => ⟨S1024x1536, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c1_i32_6 : BitVec 32 := 1#32
  let c0_i32_7 : BitVec 32 := 0#32
  ![c0_i32_4.toNat, v16.toNat, c0_i32_5.toNat, c1_i32_6.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S8192x2048 : Shape := ⟨2, ![8192, 2048]⟩
abbrev S1x2x1x12288 : Shape := ⟨4, ![1, 2, 1, 12288]⟩
abbrev S1x2048x4608 : Shape := ⟨3, ![1, 2048, 4608]⟩
abbrev S1x2x1x2048 : Shape := ⟨4, ![1, 2, 1, 2048]⟩
abbrev S2x1x2048 : Shape := ⟨3, ![2, 1, 2048]⟩
abbrev S2x4096x2048 : Shape := ⟨3, ![2, 4096, 2048]⟩
abbrev S_ : Shape := ⟨0, ![]⟩
abbrev S2048x4608 : Shape := ⟨2, ![2048, 4608]⟩
abbrev S2x4096x4608 : Shape := ⟨3, ![2, 4096, 4608]⟩
abbrev S8192x4608 : Shape := ⟨2, ![8192, 4608]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2x1x12288, .f32⟩
  | .hbm, ⟨2, _⟩ => ⟨S1x2x1x12288, .f32⟩
  | .hbm, ⟨3, _⟩ => ⟨S1x2048x4608, .bf16⟩
  | .hbm, ⟨4, _⟩ => ⟨S1x2x1x2048, .f32⟩
  | .hbm, ⟨5, _⟩ => ⟨S2x1x2048, .f32⟩
  | .hbm, ⟨6, _⟩ => ⟨S1x2x1x2048, .f32⟩
  | .hbm, ⟨7, _⟩ => ⟨S2x1x2048, .f32⟩
  | .hbm, ⟨8, _⟩ => ⟨S2x4096x2048, .f32⟩
  | .hbm, ⟨9, _⟩ => ⟨S_, .f32⟩
  | .hbm, ⟨10, _⟩ => ⟨S2x1x2048, .f32⟩
  | .hbm, ⟨11, _⟩ => ⟨S2x1x2048, .f32⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S2048x4608, .bf16⟩
  | .hbm, ⟨17, _⟩ => ⟨S2048x4608, .f32⟩
  | .hbm, ⟨18, _⟩ => ⟨S2x4096x4608, .f32⟩
  | .hbm, ⟨19, _⟩ => ⟨S8192x4608, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Same.lean ====
/- The kernel's printed text and its ideal twin's are the same, so a run of the one is a run of the other. -/
module

public import proofs.«01_k».proof.Proof.Gen.Kernel
public import proofs.«01_k».proof.Proof.Gen.KernelIdeal

@[expose] public section

set_option maxRecDepth 16384

noncomputable section

namespace Cert.Attn

open Idealize.ShloMosaic

variable {F : FTy → Type} [FloatOps F]

/-- The two bodies. -/
theorem body_same : @Cert.Kernel.cc0_attn_prompt F _ _ = @Cert.KernelIdeal.cc0_attn_prompt F _ _ := rfl

/-- The two tables of bodies. -/
theorem bodies_same : Cert.Kernel.defs₀ (F := F) = Cert.KernelIdeal.defs₀ (F := F) := by
  funext p
  match p with
  | .tc =>
    funext ℓ a
    match ℓ, a with
    | ⟨0, _⟩, (t, s) => exact congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _
  | .scScalar _ => rfl
  | .scVector _ _ => rfl

theorem defs_same : Cert.Kernel.defs (F := F) = Cert.KernelIdeal.defs (F := F) :=
  congrArg (Pipeline.defs Cert.KernelIdeal.pcfgs) bodies_same

theorem main_same : Cert.Kernel.main (F := F) = Cert.KernelIdeal.main (F := F) := rfl

end Cert.Attn

end
-- ==== Proof.Setup.lean ====
/- What the body of the attention call is called with: which of its three branches a grid point takes, where the output's
   window is idle, and the memrefs of a point. The grid is (batch 2, query block 8, key block 8); point `t` has key block
   `t % 8`, query block `t / 8 % 8`. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first branch is taken: the scratch is set to its start. -/
abbrev starts (i : grid0.Coords) : Prop :=
  (Scalar.cmpi .ne (Scalar.extui (Scalar.cmpi .eq (BitVec.ofNat 32 (i 2).val) 0#32)) 0#32) = 1#1

/-- The second branch is taken: a key block wholly before the query block. -/
abbrev below (i : grid0.Coords) : Prop :=
  (Scalar.cmpi .ne (Scalar.extui (Scalar.cmpi .slt (BitVec.ofNat 32 (i 2).val) (BitVec.ofNat 32 (i 1).val))) 0#32) = 1#1

/-- The third branch is taken: the key block on the diagonal. -/
abbrev diag (i : grid0.Coords) : Prop := k0_cond3 i = 1#1

theorem starts_iff : ∀ t : Fin cfg0.N, starts (grid0.coords t) ↔ t.val % 8 = 0 :=
  (by decide +kernel : ∀ t : Fin grid0.N, starts (grid0.coords t) ↔ t.val % 8 = 0)

theorem below_iff : ∀ t : Fin cfg0.N, below (grid0.coords t) ↔ t.val % 8 < t.val / 8 % 8 :=
  (by decide +kernel : ∀ t : Fin grid0.N, below (grid0.coords t) ↔ t.val % 8 < t.val / 8 % 8)

theorem diag_iff : ∀ t : Fin cfg0.N, diag (grid0.coords t) ↔ t.val % 8 = t.val / 8 % 8 :=
  (by decide +kernel : ∀ t : Fin grid0.N, diag (grid0.coords t) ↔ t.val % 8 = t.val / 8 % 8)

theorem idle_in (w : Fin 6) (hw : w ≠ 5) (t : Fin cfg0.N) : cfg0.idle w (grid0.coords t) = false := by
  fin_cases w <;> first | rfl | exact absurd rfl hw

/-- The output's window is idle off the diagonal. -/
theorem idle_out : ∀ t : Fin cfg0.N, cfg0.idle 5 (grid0.coords t) = decide (t.val % 8 ≠ t.val / 8 % 8) :=
  (by decide +kernel : ∀ t : Fin grid0.N, cfg0.idle 5 (grid0.coords t) = decide (t.val % 8 ≠ t.val / 8 % 8))

theorem N_eq : cfg0.N = 128 := N_0

/-- The staging memrefs of a point. -/
abbrev q0 (t : Fin cfg0.N) : Memref sig .tc .vmem S512x2048 .bf16 := win0_0.stage (cfg0.slots t 0)
abbrev q1 (t : Fin cfg0.N) : Memref sig .tc .vmem S512x512 .bf16 := win0_1.stage (cfg0.slots t 1)
abbrev q2 (t : Fin cfg0.N) : Memref sig .tc .vmem S512x256 .f32 := win0_2.stage (cfg0.slots t 2)
abbrev q3 (t : Fin cfg0.N) : Memref sig .tc .vmem S512x64 .f32 := win0_3.stage (cfg0.slots t 3)
abbrev q4 (t : Fin cfg0.N) : Memref sig .tc .vmem S8x256x128 .bf16 := win0_4.stage (cfg0.slots t 4)
abbrev q5 (t : Fin cfg0.N) : Memref sig .tc .vmem S512x1024 .bf16 := win0_5.stage (cfg0.slots t 5)

/-- The scratch: the running maxima, the running sums, the running weighted rows. -/
abbrev scM : Memref sig .tc .vmem S8x512x128 .f32 := Memref.whole cc0_scratch0
abbrev scL : Memref sig .tc .vmem S8x512x128 .f32 := Memref.whole cc0_scratch1
abbrev scA : Memref sig .tc .vmem S8x512x256 .f32 := Memref.whole cc0_scratch2

/-- What the launch hands the pipeline beside its windows: the scratch and the generator's register. -/
theorem launch_scratch (c : Dev nD) :
    (Pipeline.ΦA spec0 c : sProp 𝕄)
      = iprop(iprop((∃ d, owns (c : Thread nD τ) scM fullShare d) ∗ (∃ d, owns (c : Thread nD τ) scL fullShare d)
          ∗ (∃ d, owns (c : Thread nD τ) scA fullShare d)) ∗ (∃ r, prngReg c r)) := by
  unfold Pipeline.ΦA; rw [scopedRest0_eq]; simp only [scM, scL, scA, owns_whole]; try rfl

end Cert.Attn

end
-- ==== Proof.Steps.lean ====
/- One step of the online softmax, as the body computes it: for one head, then for the eight heads at once over the
   scratch's three buffers. -/
module

public import proofs.«01_k».proof.Proof.Setup
public import Idealize.ShloMosaic.Lib.Pipeline.ReadBack

@[expose] public section

set_option maxRecDepth 16384

noncomputable section

namespace Cert.Attn

open Idealize.ShloMosaic Idealize.ShloMosaic.TcCoe
open Cert.KernelIdeal Cert.KernelIdeal.Gen

variable {F : FTy → Type} [FloatOps F]

/-! ## One head -/

/-- The scores of one head's query rows against a block of keys. -/
def score (lat : Vec F S512x256 .f32) (kp : Vec F S512x64 .f32) (q : Vec F S512x256 .bf16) (p : Vec F S512x64 .bf16) :
    FVec F S512x512 .f32 :=
  addf
    (matmul dot_S512x256_S512x256_S512x512_1_1_0_0_n_n none (shapeCast S512x256 q shapeCasts_S512x256_S512x256)
      (k0_pay5 lat) (constant S512x512 .f32 0x00000000#32))
    (matmul dot_S512x64_S512x64_S512x512_1_1_0_0_n_n none (shapeCast S512x64 p shapeCasts_S512x64_S512x64)
      (k0_pay6 kp) (constant S512x512 .f32 0x00000000#32))

/-- The scores on the diagonal block: those of later keys replaced. -/
def scoreDiag (lat : Vec F S512x256 .f32) (kp : Vec F S512x64 .f32) (q : Vec F S512x256 .bf16) (p : Vec F S512x64 .bf16) :
    FVec F S512x512 .f32 :=
  select k0_pay80 (score lat kp q p) (broadcast S512x512 (Scalar.ofBits .f32 0xFF800000#32))

variable (sc : FVec F S512x512 .f32)

def maxNew (m : Vec F S1x512x128 .f32) : FVec F S512x128 .f32 :=
  maximumf (shapeCast S512x128 m shapeCasts_S1x512x128_S512x128)
    (broadcastTo S512x128
      (shapeCast S512x1 (multiReduction .maximumf [1] S512 sc 0xFF800000#32 reduces_S512x512_S512 (.inl rfl) rfl)
        shapeCasts_S512_S512x1) broadcasts_S512x1_S512x128)

def scaleOld (m : Vec F S1x512x128 .f32) : FVec F S512x128 .f32 :=
  exp (subf (shapeCast S512x128 m shapeCasts_S1x512x128_S512x128) (maxNew sc m))

def weights (m : Vec F S1x512x128 .f32) : FVec F S512x512 .f32 :=
  exp (subf sc (broadcastTo S512x512 (extractStridedSlice S512x1 ![0, 0] (maxNew sc m) slices_S512x128_o0_0_S512x1)
    broadcasts_S512x1_S512x512))

def headM (m : Vec F S1x512x128 .f32) : FVec F S1x512x128 .f32 :=
  shapeCast S1x512x128 (maxNew sc m) shapeCasts_S512x128_S1x512x128

def headL (m l : Vec F S1x512x128 .f32) : FVec F S1x512x128 .f32 :=
  shapeCast S1x512x128
    (addf (mulf (scaleOld sc m) (shapeCast S512x128 l shapeCasts_S1x512x128_S512x128))
      (broadcastTo S512x128
        (shapeCast S512x1
          (multiReduction .add [1] S512 (weights sc m) 0x00000000#32 reduces_S512x512_S512 (.inl rfl) rfl)
          shapeCasts_S512_S512x1) broadcasts_S512x1_S512x128)) shapeCasts_S512x128_S1x512x128

def headA (lat : Vec F S512x256 .f32) (m : Vec F S1x512x128 .f32) (a : Vec F S1x512x256 .f32) : FVec F S1x512x256 .f32 :=
  shapeCast S1x512x256
    (addf
      (mulf (shapeCast S512x256 a shapeCasts_S1x512x256_S512x256)
        (broadcastTo S512x256 (extractStridedSlice S512x1 ![0, 0] (scaleOld sc m) slices_S512x128_o0_0_S512x1)
          broadcasts_S512x1_S512x256))
      (matmul dot_S512x512_S512x256_S512x256_1_0_0_1_n_n none (truncf .bf16 (weights sc m) bitsLt_bf16_f32)
        (k0_pay5 lat) (constant S512x256 .f32 0x00000000#32))) shapeCasts_S512x256_S1x512x256

/-- One head's output: the weighted rows over the sums, through the head's value matrix. -/
def headO (a : Vec F S1x512x256 .f32) (l : Vec F S1x512x128 .f32) (w : Vec F S1x256x128 .bf16) : FVec F S512x128 .bf16 :=
  truncf .bf16
    (matmul dot_S512x256_S256x128_S512x128_1_0_0_1_n_n none
      (truncf .bf16
        (divf (shapeCast S512x256 a shapeCasts_S1x512x256_S512x256)
          (broadcastTo S512x256
            (extractStridedSlice S512x1 ![0, 0] (shapeCast S512x128 l shapeCasts_S1x512x128_S512x128)
              slices_S512x128_o0_0_S512x1) broadcasts_S512x1_S512x256)) bitsLt_bf16_f32)
      (shapeCast S256x128 w shapeCasts_S1x256x128_S256x128) (constant S512x128 .f32 0x00000000#32)) bitsLt_bf16_f32

/-! ## The heads' places in the buffers -/

theorem inb_rows (h : Fin 8) : ∀ a, (![h.val, 0, 0] : Fin 3 → Nat) a + S1x512x128.size a ≤ S8x512x128.size a := by
  revert h; decide
theorem inb_acc (h : Fin 8) : ∀ a, (![h.val, 0, 0] : Fin 3 → Nat) a + S1x512x256.size a ≤ S8x512x256.size a := by
  revert h; decide
theorem inb_wuv (h : Fin 8) : ∀ a, (![h.val, 0, 0] : Fin 3 → Nat) a + S1x256x128.size a ≤ S8x256x128.size a := by
  revert h; decide
theorem inb_q (h : Fin 8) : ∀ a, (![0, 256 * h.val] : Fin 2 → Nat) a + S512x256.size a ≤ S512x2048.size a := by
  revert h; decide
theorem inb_p (h : Fin 8) : ∀ a, (![0, 64 * h.val] : Fin 2 → Nat) a + S512x64.size a ≤ S512x512.size a := by
  revert h; decide

abbrev rowsOf (M : Vec F S8x512x128 .f32) (h : Fin 8) : Vec F S1x512x128 .f32 :=
  View.ld M (Rect.unit (s := S8x512x128) ![h.val, 0, 0] S1x512x128.size (inb_rows h))
abbrev accOf (A : Vec F S8x512x256 .f32) (h : Fin 8) : Vec F S1x512x256 .f32 :=
  View.ld A (Rect.unit (s := S8x512x256) ![h.val, 0, 0] S1x512x256.size (inb_acc h))
abbrev wuvOf (W : Vec F S8x256x128 .bf16) (h : Fin 8) : Vec F S1x256x128 .bf16 :=
  View.ld W (Rect.unit (s := S8x256x128) ![h.val, 0, 0] S1x256x128.size (inb_wuv h))
abbrev qOf (x : Vec F S512x2048 .bf16) (h : Fin 8) : Vec F S512x256 .bf16 :=
  View.ld x (Rect.unit (s := S512x2048) ![0, 256 * h.val] S512x256.size (inb_q h))
abbrev pOf (x : Vec F S512x512 .bf16) (h : Fin 8) : Vec F S512x64 .bf16 :=
  View.ld x (Rect.unit (s := S512x512) ![0, 64 * h.val] S512x64.size (inb_p h))

/-! ## The eight heads at once -/

variable (x0 : Vec F S512x2048 .bf16) (x1 : Vec F S512x512 .bf16) (x2 : Vec F S512x256 .f32) (x3 : Vec F S512x64 .f32)

/-- The scores of head `h`, on the diagonal or below it. -/
def scores (onDiag : Bool) (h : Fin 8) : FVec F S512x512 .f32 :=
  match onDiag with
  | true => scoreDiag x2 x3 (qOf x0 h) (pOf x1 h)
  | false => score x2 x3 (qOf x0 h) (pOf x1 h)

variable (scs : Fin 8 → FVec F S512x512 .f32)

def stepM (M : Vec F S8x512x128 .f32) : Vec F S8x512x128 .f32 := fun y =>
  headM (scs (y 0)) (rowsOf M (y 0)) (fun | 0 => (0 : Fin 1) | 1 => y 1 | 2 => y 2)

def stepL (M L : Vec F S8x512x128 .f32) : Vec F S8x512x128 .f32 := fun y =>
  headL (scs (y 0)) (rowsOf M (y 0)) (rowsOf L (y 0)) (fun | 0 => (0 : Fin 1) | 1 => y 1 | 2 => y 2)

def stepA (M : Vec F S8x512x128 .f32) (A : Vec F S8x512x256 .f32) : Vec F S8x512x256 .f32 := fun y =>
  headA (scs (y 0)) x2 (rowsOf M (y 0)) (accOf A (y 0)) (fun | 0 => (0 : Fin 1) | 1 => y 1 | 2 => y 2)

def outBlk (W : Vec F S8x256x128 .bf16) (L : Vec F S8x512x128 .f32) (A : Vec F S8x512x256 .f32) : Vec F S512x1024 .bf16 :=
  fun y =>
    have hy : (y 1).val < 1024 := (y 1).isLt
    let h : Fin 8 := ⟨(y 1).val / 128, by omega⟩
    headO (accOf A h) (rowsOf L h) (wuvOf W h) (fun | 0 => y 0 | 1 => (⟨(y 1).val % 128, Nat.mod_lt _ (by decide)⟩ : Fin 128))

theorem stepM_at (M : Vec F S8x512x128 .f32) (y : S8x512x128.Idx) (k : Fin 8) (x : S1x512x128.Idx)
    (h0 : (y 0).val = k.val + (x 0).val) (h1 : (y 1).val = (x 1).val) (h2 : (y 2).val = (x 2).val) :
    headM (scs k) (rowsOf M k) x = stepM scs M y := by
  have hx : (x 0).val < 1 := (x 0).isLt
  have e0 : y 0 = k := Fin.ext (by omega)
  have ex : x = (fun | 0 => (0 : Fin 1) | 1 => y 1 | 2 => y 2) := by
    funext a; match a with
    | 0 => exact Fin.ext (by show (x 0).val = 0; omega)
    | 1 => exact Fin.ext h1.symm
    | 2 => exact Fin.ext h2.symm
  subst e0; unfold stepM; rw [← ex]

theorem stepL_at (M L : Vec F S8x512x128 .f32) (y : S8x512x128.Idx) (k : Fin 8) (x : S1x512x128.Idx)
    (h0 : (y 0).val = k.val + (x 0).val) (h1 : (y 1).val = (x 1).val) (h2 : (y 2).val = (x 2).val) :
    headL (scs k) (rowsOf M k) (rowsOf L k) x = stepL scs M L y := by
  have hx : (x 0).val < 1 := (x 0).isLt
  have e0 : y 0 = k := Fin.ext (by omega)
  have ex : x = (fun | 0 => (0 : Fin 1) | 1 => y 1 | 2 => y 2) := by
    funext a; match a with
    | 0 => exact Fin.ext (by show (x 0).val = 0; omega)
    | 1 => exact Fin.ext h1.symm
    | 2 => exact Fin.ext h2.symm
  subst e0; unfold stepL; rw [← ex]

theorem stepA_at (M : Vec F S8x512x128 .f32) (A : Vec F S8x512x256 .f32) (y : S8x512x256.Idx) (k : Fin 8) (x : S1x512x256.Idx)
    (h0 : (y 0).val = k.val + (x 0).val) (h1 : (y 1).val = (x 1).val) (h2 : (y 2).val = (x 2).val) :
    headA (scs k) x2 (rowsOf M k) (accOf A k) x = stepA x2 scs M A y := by
  have hx : (x 0).val < 1 := (x 0).isLt
  have e0 : y 0 = k := Fin.ext (by omega)
  have ex : x = (fun | 0 => (0 : Fin 1) | 1 => y 1 | 2 => y 2) := by
    funext a; match a with
    | 0 => exact Fin.ext (by show (x 0).val = 0; omega)
    | 1 => exact Fin.ext h1.symm
    | 2 => exact Fin.ext h2.symm
  subst e0; unfold stepA; rw [← ex]

theorem outBlk_at (W : Vec F S8x256x128 .bf16) (L : Vec F S8x512x128 .f32) (A : Vec F S8x512x256 .f32)
    (y : S512x1024.Idx) (k : Fin 8) (x : S512x128.Idx)
    (h0 : (y 0).val = (x 0).val) (h1 : (y 1).val = 128 * k.val + (x 1).val) :
    headO (accOf A k) (rowsOf L k) (wuvOf W k) x = outBlk W L A y := by
  have hx : (x 1).val < 128 := (x 1).isLt
  have hy : (y 1).val < 1024 := (y 1).isLt
  have ek : (⟨(y 1).val / 128, by omega⟩ : Fin 8) = k := Fin.ext (by show (y 1).val / 128 = k.val; omega)
  have ex : x = (fun | 0 => y 0 | 1 => (⟨(y 1).val % 128, Nat.mod_lt _ (by decide)⟩ : Fin 128)) := by
    funext a; match a with
    | 0 => exact Fin.ext h0.symm
    | 1 => exact Fin.ext (by show (x 1).val = (y 1).val % 128; simp only at h1; omega)
  unfold outBlk; dsimp only; rw [ek, ← ex]

theorem rowsOf_stepL (M L : Vec F S8x512x128 .f32) (k : Fin 8) :
    rowsOf (stepL scs M L) k = headL (scs k) (rowsOf M k) (rowsOf L k) :=
  funext fun x => (stepL_at scs M L _ k x (by rw [Rect.idx_unit_val]; rfl) (by rw [Rect.idx_unit_val]; exact Nat.zero_add _)
    (by rw [Rect.idx_unit_val]; exact Nat.zero_add _)).symm

theorem accOf_stepA (M : Vec F S8x512x128 .f32) (A : Vec F S8x512x256 .f32) (k : Fin 8) :
    accOf (stepA x2 scs M A) k = headA (scs k) x2 (rowsOf M k) (accOf A k) :=
  funext fun x => (stepA_at x2 scs M A _ k x (by rw [Rect.idx_unit_val]; rfl) (by rw [Rect.idx_unit_val]; exact Nat.zero_add _)
    (by rw [Rect.idx_unit_val]; exact Nat.zero_add _)).symm

/-- The output of head `k` right after a step. -/
theorem outBlk_step_at (W : Vec F S8x256x128 .bf16) (M L : Vec F S8x512x128 .f32) (A : Vec F S8x512x256 .f32)
    (y : S512x1024.Idx) (k : Fin 8) (x : S512x128.Idx)
    (h0 : (y 0).val = (x 0).val) (h1 : (y 1).val = 128 * k.val + (x 1).val) :
    headO (headA (scs k) x2 (rowsOf M k) (accOf A k)) (headL (scs k) (rowsOf M k) (rowsOf L k)) (wuvOf W k) x
      = outBlk W (stepL scs M L) (stepA x2 scs M A) y := by
  rw [← outBlk_at W _ _ y k x h0 h1, rowsOf_stepL, accOf_stepA]

/-- Stores that cover an index, over earlier ones: the earlier ones do not show there. -/
theorem canon_over {Val : EltTy → Type} {S : Shape} {e : EltTy} [∀ e, Nonempty (Val e)] (L' : List (View.Piece Val S e)) :
    ∀ (L : List (View.Piece Val S e)) (y : S.Idx), (∃ p ∈ L, y ∈ p.1.set) → View.canon (L ++ L') y = View.canon L y
  | [], _, h => by obtain ⟨p, hp, _⟩ := h; simp at hp
  | p :: L, y, h => by
    by_cases hm : y ∈ p.1.set
    · obtain ⟨x, rfl⟩ := p.1.exists_idx_of_mem hm
      rw [List.cons_append, show p.1.idx x = p.1.emb x from rfl]
      exact (View.canon_cons_emb p.1 p.2 _ x).trans (View.canon_cons_emb p.1 p.2 _ x).symm
    · rw [List.cons_append, View.canon_cons_of_not_mem _ _ hm, View.canon_cons_of_not_mem _ _ hm]
      obtain ⟨q, hq, hy⟩ := h
      rcases List.mem_cons.mp hq with rfl | hq
      · exact absurd hy hm
      · exact canon_over L' L y ⟨q, hq, hy⟩

end Cert.Attn

end
-- ==== Proof.RunBelow.lean ====
/- The body at a point strictly below the diagonal, not the first of its query block: one step over the scratch. -/
module

public import proofs.«01_k».proof.Proof.Steps

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 4000000 in
theorem run_below (c : Dev nD) (i : grid0.Coords) (arg3 : Memref sig .tc .vmem S512x2048 .bf16) (harg3 : arg3.IsWhole)
    (arg4 : Memref sig .tc .vmem S512x512 .bf16) (harg4 : arg4.IsWhole) (arg5 : Memref sig .tc .vmem S512x256 .f32)
    (harg5 : arg5.IsWhole) (arg6 : Memref sig .tc .vmem S512x64 .f32) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole)
    (hc0 : ¬starts i) (hc1 : below i) (hc2 : ¬diag i)
    (x0 : Vec F S512x2048 .bf16) (x1 : Vec F S512x512 .bf16) (x2 : Vec F S512x256 .f32) (x3 : Vec F S512x64 .f32)
    (M L : Vec F S8x512x128 .f32) (A : Vec F S8x512x256 .f32)
    (E : Set ℕ) (K : PUnit → sProp 𝕄) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg9 fullShare M
        ∗ owns (c : Thread nD τ) arg10 fullShare L
        ∗ owns (c : Thread nD τ) arg11 fullShare A
        ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg9 fullShare (stepM (scores x0 x1 x2 x3 false) M)
            ∗ owns (c : Thread nD τ) arg10 fullShare (stepL (scores x0 x1 x2 x3 false) M L)
            ∗ owns (c : Thread nD τ) arg11 fullShare (stepA x2 (scores x0 x1 x2 x3 false) M A)) -∗ K ⟨⟩))
      ⊢ wp frame (wpE (defs₀ (F := F)) Variants.none c none) E
          (cc0_attn_prompt i arg3 harg3 arg4 harg4 arg5 harg5 arg6 harg6 arg7 harg7 arg8 harg8 arg9 harg9 arg10 harg10
            arg11 harg11) K := by
  simp only [cc0_attn_prompt_eq_skeleton]; unfold cc0_attn_prompt_skel
  simp only [k0_part10_eq_skeleton, k0_part1_eq_skeleton, k0_part2_eq_skeleton, k0_part3_eq_skeleton,
    k0_part4_eq_skeleton, k0_part5_eq_skeleton, k0_part6_eq_skeleton, k0_part7_eq_skeleton,
    k0_part8_eq_skeleton, k0_part9_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  subst hf0 hf1 hf2 hf3 hfs0 hfs1 hfs2
  sl_exec (disch := first | sl_exact hc0 | sl_exact hc1 | sl_exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [HS0]
  · iexists _; isplitr; swap; · iexact HS0
    ipureintro
    refine (View.read_writes_eq_canon _ _ _ (View.cover_of_tiled_head _ _ _ (by rfl))).trans ?_
    funext y
    canon_tiles x h
    on_goal 1 => refine Eq.trans ?_ (stepM_at (scores _ _ _ _ false) _ y 7 x h0 h1 h2)
    on_goal 2 => refine Eq.trans ?_ (stepM_at (scores _ _ _ _ false) _ y 6 x h0 h1 h2)
    on_goal 3 => refine Eq.trans ?_ (stepM_at (scores _ _ _ _ false) _ y 5 x h0 h1 h2)
    on_goal 4 => refine Eq.trans ?_ (stepM_at (scores _ _ _ _ false) _ y 4 x h0 h1 h2)
    on_goal 5 => refine Eq.trans ?_ (stepM_at (scores _ _ _ _ false) _ y 3 x h0 h1 h2)
    on_goal 6 => refine Eq.trans ?_ (stepM_at (scores _ _ _ _ false) _ y 2 x h0 h1 h2)
    on_goal 7 => refine Eq.trans ?_ (stepM_at (scores _ _ _ _ false) _ y 1 x h0 h1 h2)
    on_goal 8 => refine Eq.trans ?_ (stepM_at (scores _ _ _ _ false) _ y 0 x (h0.trans (Nat.zero_add _).symm) h1 h2)
    all_goals
      sl_unfold_run_names
      open_payloads
      unfold headM maxNew scores
      dsimp only
      unfold score k0_pay5 k0_pay6
      rfl
  isplitl [HS1]
  · iexists _; isplitr; swap; · iexact HS1
    ipureintro
    refine (View.read_writes_eq_canon _ _ _ (View.cover_of_tiled_head _ _ _ (by rfl))).trans ?_
    funext y
    canon_tiles x h
    on_goal 1 => refine Eq.trans ?_ (stepL_at (scores _ _ _ _ false) _ _ y 7 x h0 h1 h2)
    on_goal 2 => refine Eq.trans ?_ (stepL_at (scores _ _ _ _ false) _ _ y 6 x h0 h1 h2)
    on_goal 3 => refine Eq.trans ?_ (stepL_at (scores _ _ _ _ false) _ _ y 5 x h0 h1 h2)
    on_goal 4 => refine Eq.trans ?_ (stepL_at (scores _ _ _ _ false) _ _ y 4 x h0 h1 h2)
    on_goal 5 => refine Eq.trans ?_ (stepL_at (scores _ _ _ _ false) _ _ y 3 x h0 h1 h2)
    on_goal 6 => refine Eq.trans ?_ (stepL_at (scores _ _ _ _ false) _ _ y 2 x h0 h1 h2)
    on_goal 7 => refine Eq.trans ?_ (stepL_at (scores _ _ _ _ false) _ _ y 1 x h0 h1 h2)
    on_goal 8 => refine Eq.trans ?_ (stepL_at (scores _ _ _ _ false) _ _ y 0 x (h0.trans (Nat.zero_add _).symm) h1 h2)
    all_goals
      sl_unfold_run_names
      open_payloads
      unfold headL weights scaleOld maxNew scores
      dsimp only
      unfold score k0_pay5 k0_pay6
      rfl
  iexists _; isplitr; swap; · iexact HS2
  ipureintro
  refine (View.read_writes_eq_canon _ _ _ (View.cover_of_tiled_head _ _ _ (by rfl))).trans ?_
  funext y
  canon_tiles x h
  on_goal 1 => refine Eq.trans ?_ (stepA_at _ (scores _ _ _ _ false) _ _ y 7 x h0 h1 h2)
  on_goal 2 => refine Eq.trans ?_ (stepA_at _ (scores _ _ _ _ false) _ _ y 6 x h0 h1 h2)
  on_goal 3 => refine Eq.trans ?_ (stepA_at _ (scores _ _ _ _ false) _ _ y 5 x h0 h1 h2)
  on_goal 4 => refine Eq.trans ?_ (stepA_at _ (scores _ _ _ _ false) _ _ y 4 x h0 h1 h2)
  on_goal 5 => refine Eq.trans ?_ (stepA_at _ (scores _ _ _ _ false) _ _ y 3 x h0 h1 h2)
  on_goal 6 => refine Eq.trans ?_ (stepA_at _ (scores _ _ _ _ false) _ _ y 2 x h0 h1 h2)
  on_goal 7 => refine Eq.trans ?_ (stepA_at _ (scores _ _ _ _ false) _ _ y 1 x h0 h1 h2)
  on_goal 8 => refine Eq.trans ?_ (stepA_at _ (scores _ _ _ _ false) _ _ y 0 x (h0.trans (Nat.zero_add _).symm) h1 h2)
  all_goals
    sl_unfold_run_names
    open_payloads
    unfold headA weights scaleOld maxNew scores
    dsimp only
    unfold score k0_pay5 k0_pay6
    rfl

end Cert.Attn

end
-- ==== Proof.RunStart.lean ====
/- The body at the first point of a query block below the diagonal: the scratch set to its start, then one step. -/
module

public import proofs.«01_k».proof.Proof.Steps

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 4000000 in
theorem run_start (c : Dev nD) (i : grid0.Coords) (arg3 : Memref sig .tc .vmem S512x2048 .bf16) (harg3 : arg3.IsWhole)
    (arg4 : Memref sig .tc .vmem S512x512 .bf16) (harg4 : arg4.IsWhole) (arg5 : Memref sig .tc .vmem S512x256 .f32)
    (harg5 : arg5.IsWhole) (arg6 : Memref sig .tc .vmem S512x64 .f32) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole)
    (hc0 : starts i) (hc1 : below i) (hc2 : ¬diag i)
    (x0 : Vec F S512x2048 .bf16) (x1 : Vec F S512x512 .bf16) (x2 : Vec F S512x256 .f32) (x3 : Vec F S512x64 .f32)
    (E : Set ℕ) (K : PUnit → sProp 𝕄) :
    iprop(owns (c : Thread nD τ) arg3 fullShare x0
        ∗ owns (c : Thread nD τ) arg4 fullShare x1
        ∗ owns (c : Thread nD τ) arg5 fullShare x2
        ∗ owns (c : Thread nD τ) arg6 fullShare x3
        ∗ (∃ d, owns (c : Thread nD τ) arg9 fullShare d)
        ∗ (∃ d, owns (c : Thread nD τ) arg10 fullShare d)
        ∗ (∃ d, owns (c : Thread nD τ) arg11 fullShare d)
        ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg9 fullShare (stepM (scores x0 x1 x2 x3 false) k0_pay1)
            ∗ owns (c : Thread nD τ) arg10 fullShare (stepL (scores x0 x1 x2 x3 false) k0_pay1 k0_pay2)
            ∗ owns (c : Thread nD τ) arg11 fullShare (stepA x2 (scores x0 x1 x2 x3 false) k0_pay1 k0_pay3)) -∗ K ⟨⟩))
      ⊢ wp frame (wpE (defs₀ (F := F)) Variants.none c none) E
          (cc0_attn_prompt i arg3 harg3 arg4 harg4 arg5 harg5 arg6 harg6 arg7 harg7 arg8 harg8 arg9 harg9 arg10 harg10
            arg11 harg11) K := by
  simp only [cc0_attn_prompt_eq_skeleton]; unfold cc0_attn_prompt_skel
  simp only [k0_part10_eq_skeleton, k0_part1_eq_skeleton, k0_part2_eq_skeleton, k0_part3_eq_skeleton,
    k0_part4_eq_skeleton, k0_part5_eq_skeleton, k0_part6_eq_skeleton, k0_part7_eq_skeleton,
    k0_part8_eq_skeleton, k0_part9_eq_skeleton]
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
  subst hf0 hf1 hf2 hf3
  sl_exec (disch := first | sl_exact hc0 | sl_exact hc1 | sl_exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [HS0]
  · iexists _; isplitr; swap; · iexact HS0
    ipureintro
    refine (View.read_writes_eq_canon _ _ _ (View.cover_of_tiled_head _ _ _ (by rfl))).trans ?_
    funext y
    sl_unfold_run_names
    refine (canon_over [_] [_, _, _, _, _, _, _, _] y (View.cover_of_tiled_head _ _ _ (by rfl) y)).trans ?_
    canon_tiles x h
    on_goal 1 => refine Eq.trans ?_ (stepM_at (scores _ _ _ _ false) k0_pay1 y 7 x h0 h1 h2)
    on_goal 2 => refine Eq.trans ?_ (stepM_at (scores _ _ _ _ false) k0_pay1 y 6 x h0 h1 h2)
    on_goal 3 => refine Eq.trans ?_ (stepM_at (scores _ _ _ _ false) k0_pay1 y 5 x h0 h1 h2)
    on_goal 4 => refine Eq.trans ?_ (stepM_at (scores _ _ _ _ false) k0_pay1 y 4 x h0 h1 h2)
    on_goal 5 => refine Eq.trans ?_ (stepM_at (scores _ _ _ _ false) k0_pay1 y 3 x h0 h1 h2)
    on_goal 6 => refine Eq.trans ?_ (stepM_at (scores _ _ _ _ false) k0_pay1 y 2 x h0 h1 h2)
    on_goal 7 => refine Eq.trans ?_ (stepM_at (scores _ _ _ _ false) k0_pay1 y 1 x h0 h1 h2)
    on_goal 8 => refine Eq.trans ?_ (stepM_at (scores _ _ _ _ false) k0_pay1 y 0 x (h0.trans (Nat.zero_add _).symm) h1 h2)
    all_goals
      sl_unfold_run_names
      simp (disch := decide) only [↓View.readCov_skip, ↓View.readCov_cons_toLoadRect, ↓View.readCov_fill]
      open_payloads
      unfold headM maxNew scores
      dsimp only
      unfold score k0_pay5 k0_pay6
      rfl
  isplitl [HS1]
  · iexists _; isplitr; swap; · iexact HS1
    ipureintro
    refine (View.read_writes_eq_canon _ _ _ (View.cover_of_tiled_head _ _ _ (by rfl))).trans ?_
    funext y
    sl_unfold_run_names
    refine (canon_over [_] [_, _, _, _, _, _, _, _] y (View.cover_of_tiled_head _ _ _ (by rfl) y)).trans ?_
    canon_tiles x h
    on_goal 1 => refine Eq.trans ?_ (stepL_at (scores _ _ _ _ false) k0_pay1 k0_pay2 y 7 x h0 h1 h2)
    on_goal 2 => refine Eq.trans ?_ (stepL_at (scores _ _ _ _ false) k0_pay1 k0_pay2 y 6 x h0 h1 h2)
    on_goal 3 => refine Eq.trans ?_ (stepL_at (scores _ _ _ _ false) k0_pay1 k0_pay2 y 5 x h0 h1 h2)
    on_goal 4 => refine Eq.trans ?_ (stepL_at (scores _ _ _ _ false) k0_pay1 k0_pay2 y 4 x h0 h1 h2)
    on_goal 5 => refine Eq.trans ?_ (stepL_at (scores _ _ _ _ false) k0_pay1 k0_pay2 y 3 x h0 h1 h2)
    on_goal 6 => refine Eq.trans ?_ (stepL_at (scores _ _ _ _ false) k0_pay1 k0_pay2 y 2 x h0 h1 h2)
    on_goal 7 => refine Eq.trans ?_ (stepL_at (scores _ _ _ _ false) k0_pay1 k0_pay2 y 1 x h0 h1 h2)
    on_goal 8 => refine Eq.trans ?_ (stepL_at (scores _ _ _ _ false) k0_pay1 k0_pay2 y 0 x (h0.trans (Nat.zero_add _).symm) h1 h2)
    all_goals
      sl_unfold_run_names
      simp (disch := decide) only [↓View.readCov_skip, ↓View.readCov_cons_toLoadRect, ↓View.readCov_fill]
      open_payloads
      unfold headL weights scaleOld maxNew scores
      dsimp only
      unfold score k0_pay5 k0_pay6
      rfl
  iexists _; isplitr; swap; · iexact HS2
  ipureintro
  refine (View.read_writes_eq_canon _ _ _ (View.cover_of_tiled_head _ _ _ (by rfl))).trans ?_
  funext y
  sl_unfold_run_names
  refine (canon_over [_] [_, _, _, _, _, _, _, _] y (View.cover_of_tiled_head _ _ _ (by rfl) y)).trans ?_
  canon_tiles x h
  on_goal 1 => refine Eq.trans ?_ (stepA_at _ (scores _ _ _ _ false) k0_pay1 k0_pay3 y 7 x h0 h1 h2)
  on_goal 2 => refine Eq.trans ?_ (stepA_at _ (scores _ _ _ _ false) k0_pay1 k0_pay3 y 6 x h0 h1 h2)
  on_goal 3 => refine Eq.trans ?_ (stepA_at _ (scores _ _ _ _ false) k0_pay1 k0_pay3 y 5 x h0 h1 h2)
  on_goal 4 => refine Eq.trans ?_ (stepA_at _ (scores _ _ _ _ false) k0_pay1 k0_pay3 y 4 x h0 h1 h2)
  on_goal 5 => refine Eq.trans ?_ (stepA_at _ (scores _ _ _ _ false) k0_pay1 k0_pay3 y 3 x h0 h1 h2)
  on_goal 6 => refine Eq.trans ?_ (stepA_at _ (scores _ _ _ _ false) k0_pay1 k0_pay3 y 2 x h0 h1 h2)
  on_goal 7 => refine Eq.trans ?_ (stepA_at _ (scores _ _ _ _ false) k0_pay1 k0_pay3 y 1 x h0 h1 h2)
  on_goal 8 => refine Eq.trans ?_ (stepA_at _ (scores _ _ _ _ false) k0_pay1 k0_pay3 y 0 x (h0.trans (Nat.zero_add _).symm) h1 h2)
  all_goals
    sl_unfold_run_names
    simp (disch := decide) only [↓View.readCov_skip, ↓View.readCov_cons_toLoadRect, ↓View.readCov_fill]
    open_payloads
    unfold headA weights scaleOld maxNew scores
    dsimp only
    unfold score k0_pay5 k0_pay6
    rfl

end Cert.Attn

end
-- ==== Proof.RunDiag.lean ====
/- The body on the diagonal, not at the first point of its query block: one masked step, then the output. -/
module

public import proofs.«01_k».proof.Proof.Steps

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 4000000 in
theorem run_diag (c : Dev nD) (i : grid0.Coords) (arg3 : Memref sig .tc .vmem S512x2048 .bf16) (harg3 : arg3.IsWhole)
    (arg4 : Memref sig .tc .vmem S512x512 .bf16) (harg4 : arg4.IsWhole) (arg5 : Memref sig .tc .vmem S512x256 .f32)
    (harg5 : arg5.IsWhole) (arg6 : Memref sig .tc .vmem S512x64 .f32) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole)
    (hc0 : ¬starts i) (hc1 : ¬below i) (hc2 : diag i)
    (x0 : Vec F S512x2048 .bf16) (x1 : Vec F S512x512 .bf16) (x2 : Vec F S512x256 .f32) (x3 : Vec F S512x64 .f32)
    (x4 : Vec F S8x256x128 .bf16)
    (M L : Vec F S8x512x128 .f32) (A : Vec F S8x512x256 .f32)
    (E : Set ℕ) (K : PUnit → sProp 𝕄) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ (∃ d, owns (c : Thread nD τ) arg8 fullShare d)
        ∗ owns (c : Thread nD τ) arg9 fullShare M
        ∗ owns (c : Thread nD τ) arg10 fullShare L
        ∗ owns (c : Thread nD τ) arg11 fullShare A
        ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare (outBlk x4 (stepL (scores x0 x1 x2 x3 true) M L) (stepA x2 (scores x0 x1 x2 x3 true) M A))
            ∗ owns (c : Thread nD τ) arg9 fullShare (stepM (scores x0 x1 x2 x3 true) M)
            ∗ owns (c : Thread nD τ) arg10 fullShare (stepL (scores x0 x1 x2 x3 true) M L)
            ∗ owns (c : Thread nD τ) arg11 fullShare (stepA x2 (scores x0 x1 x2 x3 true) M A)) -∗ K ⟨⟩))
      ⊢ wp frame (wpE (defs₀ (F := F)) Variants.none c none) E
          (cc0_attn_prompt i arg3 harg3 arg4 harg4 arg5 harg5 arg6 harg6 arg7 harg7 arg8 harg8 arg9 harg9 arg10 harg10
            arg11 harg11) K := by
  simp only [cc0_attn_prompt_eq_skeleton]; unfold cc0_attn_prompt_skel
  simp only [k0_part24_eq_skeleton, k0_part11_eq_skeleton, k0_part12_eq_skeleton, k0_part13_eq_skeleton,
    k0_part14_eq_skeleton, k0_part15_eq_skeleton, k0_part16_eq_skeleton, k0_part17_eq_skeleton,
    k0_part18_eq_skeleton, k0_part19_eq_skeleton, k0_part20_eq_skeleton, k0_part21_eq_skeleton,
    k0_part22_eq_skeleton, k0_part23_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
  subst hf0 hf1 hf2 hf3 hf4 hfs0 hfs1 hfs2
  sl_exec (disch := first | sl_exact hc0 | sl_exact hc1 | sl_exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; · iexact H5
    ipureintro
    refine (View.read_writes_eq_canon _ _ _ (View.cover_of_tiled_head _ _ _ (by rfl))).trans ?_
    funext y
    canon_tiles x h
    on_goal 1 => refine Eq.trans ?_ (outBlk_step_at _ (scores _ _ _ _ true) _ _ _ _ y 7 x h0 (by omega))
    on_goal 2 => refine Eq.trans ?_ (outBlk_step_at _ (scores _ _ _ _ true) _ _ _ _ y 6 x h0 (by omega))
    on_goal 3 => refine Eq.trans ?_ (outBlk_step_at _ (scores _ _ _ _ true) _ _ _ _ y 5 x h0 (by omega))
    on_goal 4 => refine Eq.trans ?_ (outBlk_step_at _ (scores _ _ _ _ true) _ _ _ _ y 4 x h0 (by omega))
    on_goal 5 => refine Eq.trans ?_ (outBlk_step_at _ (scores _ _ _ _ true) _ _ _ _ y 3 x h0 (by omega))
    on_goal 6 => refine Eq.trans ?_ (outBlk_step_at _ (scores _ _ _ _ true) _ _ _ _ y 2 x h0 (by omega))
    on_goal 7 => refine Eq.trans ?_ (outBlk_step_at _ (scores _ _ _ _ true) _ _ _ _ y 1 x h0 (by omega))
    on_goal 8 => refine Eq.trans ?_ (outBlk_step_at _ (scores _ _ _ _ true) _ _ _ _ y 0 x h0 (by omega))
    all_goals
      sl_unfold_run_names
      simp (disch := decide) only [↓View.readCov_skip, ↓View.readCov_cons_toLoadRect, ↓View.readCov_fill]
      open_payloads
      unfold headO headA headL weights scaleOld maxNew scores
      dsimp only
      unfold scoreDiag k0_pay80 score k0_pay5 k0_pay6
      rfl
  isplitl [HS0]
  · iexists _; isplitr; swap; · iexact HS0
    ipureintro
    refine (View.read_writes_eq_canon _ _ _ (View.cover_of_tiled_head _ _ _ (by rfl))).trans ?_
    funext y
    canon_tiles x h
    on_goal 1 => refine Eq.trans ?_ (stepM_at (scores _ _ _ _ true) _ y 7 x h0 h1 h2)
    on_goal 2 => refine Eq.trans ?_ (stepM_at (scores _ _ _ _ true) _ y 6 x h0 h1 h2)
    on_goal 3 => refine Eq.trans ?_ (stepM_at (scores _ _ _ _ true) _ y 5 x h0 h1 h2)
    on_goal 4 => refine Eq.trans ?_ (stepM_at (scores _ _ _ _ true) _ y 4 x h0 h1 h2)
    on_goal 5 => refine Eq.trans ?_ (stepM_at (scores _ _ _ _ true) _ y 3 x h0 h1 h2)
    on_goal 6 => refine Eq.trans ?_ (stepM_at (scores _ _ _ _ true) _ y 2 x h0 h1 h2)
    on_goal 7 => refine Eq.trans ?_ (stepM_at (scores _ _ _ _ true) _ y 1 x h0 h1 h2)
    on_goal 8 => refine Eq.trans ?_ (stepM_at (scores _ _ _ _ true) _ y 0 x (h0.trans (Nat.zero_add _).symm) h1 h2)
    all_goals
      sl_unfold_run_names
      open_payloads
      unfold headM maxNew scores
      dsimp only
      unfold scoreDiag k0_pay80 score k0_pay5 k0_pay6
      rfl
  isplitl [HS1]
  · iexists _; isplitr; swap; · iexact HS1
    ipureintro
    refine (View.read_writes_eq_canon _ _ _ (View.cover_of_tiled_head _ _ _ (by rfl))).trans ?_
    funext y
    canon_tiles x h
    on_goal 1 => refine Eq.trans ?_ (stepL_at (scores _ _ _ _ true) _ _ y 7 x h0 h1 h2)
    on_goal 2 => refine Eq.trans ?_ (stepL_at (scores _ _ _ _ true) _ _ y 6 x h0 h1 h2)
    on_goal 3 => refine Eq.trans ?_ (stepL_at (scores _ _ _ _ true) _ _ y 5 x h0 h1 h2)
    on_goal 4 => refine Eq.trans ?_ (stepL_at (scores _ _ _ _ true) _ _ y 4 x h0 h1 h2)
    on_goal 5 => refine Eq.trans ?_ (stepL_at (scores _ _ _ _ true) _ _ y 3 x h0 h1 h2)
    on_goal 6 => refine Eq.trans ?_ (stepL_at (scores _ _ _ _ true) _ _ y 2 x h0 h1 h2)
    on_goal 7 => refine Eq.trans ?_ (stepL_at (scores _ _ _ _ true) _ _ y 1 x h0 h1 h2)
    on_goal 8 => refine Eq.trans ?_ (stepL_at (scores _ _ _ _ true) _ _ y 0 x (h0.trans (Nat.zero_add _).symm) h1 h2)
    all_goals
      sl_unfold_run_names
      open_payloads
      unfold headL weights scaleOld maxNew scores
      dsimp only
      unfold scoreDiag k0_pay80 score k0_pay5 k0_pay6
      rfl
  iexists _; isplitr; swap; · iexact HS2
  ipureintro
  refine (View.read_writes_eq_canon _ _ _ (View.cover_of_tiled_head _ _ _ (by rfl))).trans ?_
  funext y
  canon_tiles x h
  on_goal 1 => refine Eq.trans ?_ (stepA_at _ (scores _ _ _ _ true) _ _ y 7 x h0 h1 h2)
  on_goal 2 => refine Eq.trans ?_ (stepA_at _ (scores _ _ _ _ true) _ _ y 6 x h0 h1 h2)
  on_goal 3 => refine Eq.trans ?_ (stepA_at _ (scores _ _ _ _ true) _ _ y 5 x h0 h1 h2)
  on_goal 4 => refine Eq.trans ?_ (stepA_at _ (scores _ _ _ _ true) _ _ y 4 x h0 h1 h2)
  on_goal 5 => refine Eq.trans ?_ (stepA_at _ (scores _ _ _ _ true) _ _ y 3 x h0 h1 h2)
  on_goal 6 => refine Eq.trans ?_ (stepA_at _ (scores _ _ _ _ true) _ _ y 2 x h0 h1 h2)
  on_goal 7 => refine Eq.trans ?_ (stepA_at _ (scores _ _ _ _ true) _ _ y 1 x h0 h1 h2)
  on_goal 8 => refine Eq.trans ?_ (stepA_at _ (scores _ _ _ _ true) _ _ y 0 x (h0.trans (Nat.zero_add _).symm) h1 h2)
  all_goals
    sl_unfold_run_names
    open_payloads
    unfold headA weights scaleOld maxNew scores
    dsimp only
    unfold scoreDiag k0_pay80 score k0_pay5 k0_pay6
    rfl

end Cert.Attn

end
-- ==== Proof.RunOnly.lean ====
/- The body on the diagonal at the first point of its query block: the scratch set to its start, one masked step, the output. -/
module

public import proofs.«01_k».proof.Proof.Steps

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

set_option maxHeartbeats 4000000 in
theorem run_only (c : Dev nD) (i : grid0.Coords) (arg3 : Memref sig .tc .vmem S512x2048 .bf16) (harg3 : arg3.IsWhole)
    (arg4 : Memref sig .tc .vmem S512x512 .bf16) (harg4 : arg4.IsWhole) (arg5 : Memref sig .tc .vmem S512x256 .f32)
    (harg5 : arg5.IsWhole) (arg6 : Memref sig .tc .vmem S512x64 .f32) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole)
    (hc0 : starts i) (hc1 : ¬below i) (hc2 : diag i)
    (x0 : Vec F S512x2048 .bf16) (x1 : Vec F S512x512 .bf16) (x2 : Vec F S512x256 .f32) (x3 : Vec F S512x64 .f32)
    (x4 : Vec F S8x256x128 .bf16)
    (E : Set ℕ) (K : PUnit → sProp 𝕄) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (iprop(owns (c : Thread nD τ) arg3 fullShare x0
            ∗ owns (c : Thread nD τ) arg4 fullShare x1
            ∗ owns (c : Thread nD τ) arg5 fullShare x2
            ∗ owns (c : Thread nD τ) arg6 fullShare x3
            ∗ owns (c : Thread nD τ) arg7 fullShare x4
            ∗ owns (c : Thread nD τ) arg8 fullShare (outBlk x4 (stepL (scores x0 x1 x2 x3 true) k0_pay1 k0_pay2) (stepA x2 (scores x0 x1 x2 x3 true) k0_pay1 k0_pay3))
            ∗ owns (c : Thread nD τ) arg9 fullShare (stepM (scores x0 x1 x2 x3 true) k0_pay1)
            ∗ owns (c : Thread nD τ) arg10 fullShare (stepL (scores x0 x1 x2 x3 true) k0_pay1 k0_pay2)
            ∗ owns (c : Thread nD τ) arg11 fullShare (stepA x2 (scores x0 x1 x2 x3 true) k0_pay1 k0_pay3)) -∗ K ⟨⟩))
      ⊢ wp frame (wpE (defs₀ (F := F)) Variants.none c none) E
          (cc0_attn_prompt i arg3 harg3 arg4 harg4 arg5 harg5 arg6 harg6 arg7 harg7 arg8 harg8 arg9 harg9 arg10 harg10
            arg11 harg11) K := by
  simp only [cc0_attn_prompt_eq_skeleton]; unfold cc0_attn_prompt_skel
  simp only [k0_part24_eq_skeleton, k0_part11_eq_skeleton, k0_part12_eq_skeleton, k0_part13_eq_skeleton,
    k0_part14_eq_skeleton, k0_part15_eq_skeleton, k0_part16_eq_skeleton, k0_part17_eq_skeleton,
    k0_part18_eq_skeleton, k0_part19_eq_skeleton, k0_part20_eq_skeleton, k0_part21_eq_skeleton,
    k0_part22_eq_skeleton, k0_part23_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
  subst hf0 hf1 hf2 hf3 hf4
  sl_exec (disch := first | sl_exact hc0 | sl_exact hc1 | sl_exact hc2)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; · iexact H5
    ipureintro
    refine (View.read_writes_eq_canon _ _ _ (View.cover_of_tiled_head _ _ _ (by rfl))).trans ?_
    funext y
    canon_tiles x h
    on_goal 1 => refine Eq.trans ?_ (outBlk_step_at _ (scores _ _ _ _ true) _ k0_pay1 k0_pay2 k0_pay3 y 7 x h0 (by omega))
    on_goal 2 => refine Eq.trans ?_ (outBlk_step_at _ (scores _ _ _ _ true) _ k0_pay1 k0_pay2 k0_pay3 y 6 x h0 (by omega))
    on_goal 3 => refine Eq.trans ?_ (outBlk_step_at _ (scores _ _ _ _ true) _ k0_pay1 k0_pay2 k0_pay3 y 5 x h0 (by omega))
    on_goal 4 => refine Eq.trans ?_ (outBlk_step_at _ (scores _ _ _ _ true) _ k0_pay1 k0_pay2 k0_pay3 y 4 x h0 (by omega))
    on_goal 5 => refine Eq.trans ?_ (outBlk_step_at _ (scores _ _ _ _ true) _ k0_pay1 k0_pay2 k0_pay3 y 3 x h0 (by omega))
    on_goal 6 => refine Eq.trans ?_ (outBlk_step_at _ (scores _ _ _ _ true) _ k0_pay1 k0_pay2 k0_pay3 y 2 x h0 (by omega))
    on_goal 7 => refine Eq.trans ?_ (outBlk_step_at _ (scores _ _ _ _ true) _ k0_pay1 k0_pay2 k0_pay3 y 1 x h0 (by omega))
    on_goal 8 => refine Eq.trans ?_ (outBlk_step_at _ (scores _ _ _ _ true) _ k0_pay1 k0_pay2 k0_pay3 y 0 x h0 (by omega))
    all_goals
      sl_unfold_run_names
      simp (disch := decide) only [↓View.readCov_skip, ↓View.readCov_cons_toLoadRect, ↓View.readCov_fill]
      open_payloads
      unfold headO headA headL weights scaleOld maxNew scores
      dsimp only
      unfold scoreDiag k0_pay80 score k0_pay5 k0_pay6
      rfl
  isplitl [HS0]
  · iexists _; isplitr; swap; · iexact HS0
    ipureintro
    refine (View.read_writes_eq_canon _ _ _ (View.cover_of_tiled_head _ _ _ (by rfl))).trans ?_
    funext y
    sl_unfold_run_names
    refine (canon_over [_] [_, _, _, _, _, _, _, _] y (View.cover_of_tiled_head _ _ _ (by rfl) y)).trans ?_
    canon_tiles x h
    on_goal 1 => refine Eq.trans ?_ (stepM_at (scores _ _ _ _ true) k0_pay1 y 7 x h0 h1 h2)
    on_goal 2 => refine Eq.trans ?_ (stepM_at (scores _ _ _ _ true) k0_pay1 y 6 x h0 h1 h2)
    on_goal 3 => refine Eq.trans ?_ (stepM_at (scores _ _ _ _ true) k0_pay1 y 5 x h0 h1 h2)
    on_goal 4 => refine Eq.trans ?_ (stepM_at (scores _ _ _ _ true) k0_pay1 y 4 x h0 h1 h2)
    on_goal 5 => refine Eq.trans ?_ (stepM_at (scores _ _ _ _ true) k0_pay1 y 3 x h0 h1 h2)
    on_goal 6 => refine Eq.trans ?_ (stepM_at (scores _ _ _ _ true) k0_pay1 y 2 x h0 h1 h2)
    on_goal 7 => refine Eq.trans ?_ (stepM_at (scores _ _ _ _ true) k0_pay1 y 1 x h0 h1 h2)
    on_goal 8 => refine Eq.trans ?_ (stepM_at (scores _ _ _ _ true) k0_pay1 y 0 x (h0.trans (Nat.zero_add _).symm) h1 h2)
    all_goals
      sl_unfold_run_names
      simp (disch := decide) only [↓View.readCov_skip, ↓View.readCov_cons_toLoadRect, ↓View.readCov_fill]
      open_payloads
      unfold headM maxNew scores
      dsimp only
      unfold scoreDiag k0_pay80 score k0_pay5 k0_pay6
      rfl
  isplitl [HS1]
  · iexists _; isplitr; swap; · iexact HS1
    ipureintro
    refine (View.read_writes_eq_canon _ _ _ (View.cover_of_tiled_head _ _ _ (by rfl))).trans ?_
    funext y
    sl_unfold_run_names
    refine (canon_over [_] [_, _, _, _, _, _, _, _] y (View.cover_of_tiled_head _ _ _ (by rfl) y)).trans ?_
    canon_tiles x h
    on_goal 1 => refine Eq.trans ?_ (stepL_at (scores _ _ _ _ true) k0_pay1 k0_pay2 y 7 x h0 h1 h2)
    on_goal 2 => refine Eq.trans ?_ (stepL_at (scores _ _ _ _ true) k0_pay1 k0_pay2 y 6 x h0 h1 h2)
    on_goal 3 => refine Eq.trans ?_ (stepL_at (scores _ _ _ _ true) k0_pay1 k0_pay2 y 5 x h0 h1 h2)
    on_goal 4 => refine Eq.trans ?_ (stepL_at (scores _ _ _ _ true) k0_pay1 k0_pay2 y 4 x h0 h1 h2)
    on_goal 5 => refine Eq.trans ?_ (stepL_at (scores _ _ _ _ true) k0_pay1 k0_pay2 y 3 x h0 h1 h2)
    on_goal 6 => refine Eq.trans ?_ (stepL_at (scores _ _ _ _ true) k0_pay1 k0_pay2 y 2 x h0 h1 h2)
    on_goal 7 => refine Eq.trans ?_ (stepL_at (scores _ _ _ _ true) k0_pay1 k0_pay2 y 1 x h0 h1 h2)
    on_goal 8 => refine Eq.trans ?_ (stepL_at (scores _ _ _ _ true) k0_pay1 k0_pay2 y 0 x (h0.trans (Nat.zero_add _).symm) h1 h2)
    all_goals
      sl_unfold_run_names
      simp (disch := decide) only [↓View.readCov_skip, ↓View.readCov_cons_toLoadRect, ↓View.readCov_fill]
      open_payloads
      unfold headL weights scaleOld maxNew scores
      dsimp only
      unfold scoreDiag k0_pay80 score k0_pay5 k0_pay6
      rfl
  iexists _; isplitr; swap; · iexact HS2
  ipureintro
  refine (View.read_writes_eq_canon _ _ _ (View.cover_of_tiled_head _ _ _ (by rfl))).trans ?_
  funext y
  sl_unfold_run_names
  refine (canon_over [_] [_, _, _, _, _, _, _, _] y (View.cover_of_tiled_head _ _ _ (by rfl) y)).trans ?_
  canon_tiles x h
  on_goal 1 => refine Eq.trans ?_ (stepA_at _ (scores _ _ _ _ true) k0_pay1 k0_pay3 y 7 x h0 h1 h2)
  on_goal 2 => refine Eq.trans ?_ (stepA_at _ (scores _ _ _ _ true) k0_pay1 k0_pay3 y 6 x h0 h1 h2)
  on_goal 3 => refine Eq.trans ?_ (stepA_at _ (scores _ _ _ _ true) k0_pay1 k0_pay3 y 5 x h0 h1 h2)
  on_goal 4 => refine Eq.trans ?_ (stepA_at _ (scores _ _ _ _ true) k0_pay1 k0_pay3 y 4 x h0 h1 h2)
  on_goal 5 => refine Eq.trans ?_ (stepA_at _ (scores _ _ _ _ true) k0_pay1 k0_pay3 y 3 x h0 h1 h2)
  on_goal 6 => refine Eq.trans ?_ (stepA_at _ (scores _ _ _ _ true) k0_pay1 k0_pay3 y 2 x h0 h1 h2)
  on_goal 7 => refine Eq.trans ?_ (stepA_at _ (scores _ _ _ _ true) k0_pay1 k0_pay3 y 1 x h0 h1 h2)
  on_goal 8 => refine Eq.trans ?_ (stepA_at _ (scores _ _ _ _ true) k0_pay1 k0_pay3 y 0 x (h0.trans (Nat.zero_add _).symm) h1 h2)
  all_goals
    sl_unfold_run_names
    simp (disch := decide) only [↓View.readCov_skip, ↓View.readCov_cons_toLoadRect, ↓View.readCov_fill]
    open_payloads
    unfold headA weights scaleOld maxNew scores
    dsimp only
    unfold scoreDiag k0_pay80 score k0_pay5 k0_pay6
    rfl

end Cert.Attn

end
-- ==== Proof.Data.lean ====
/- The attention call's pipeline: what the scratch and the output's buffer hold point by point, the body's triple at every
   point, and the run of the whole program with the output's array named. -/
module

public import proofs.«01_k».proof.Proof.RunBelow
public import proofs.«01_k».proof.Proof.RunStart
public import proofs.«01_k».proof.Proof.RunDiag
public import proofs.«01_k».proof.Proof.RunOnly

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body at a point past the diagonal: nothing. -/
theorem run_idle (c : Dev nD) (i : grid0.Coords) (arg3 : Memref sig .tc .vmem S512x2048 .bf16) (harg3 : arg3.IsWhole)
    (arg4 : Memref sig .tc .vmem S512x512 .bf16) (harg4 : arg4.IsWhole) (arg5 : Memref sig .tc .vmem S512x256 .f32)
    (harg5 : arg5.IsWhole) (arg6 : Memref sig .tc .vmem S512x64 .f32) (harg6 : arg6.IsWhole)
    (arg7 : Memref sig .tc .vmem S8x256x128 .bf16) (harg7 : arg7.IsWhole)
    (arg8 : Memref sig .tc .vmem S512x1024 .bf16) (harg8 : arg8.IsWhole)
    (arg9 : Memref sig .tc .vmem S8x512x128 .f32) (harg9 : arg9.IsWhole)
    (arg10 : Memref sig .tc .vmem S8x512x128 .f32) (harg10 : arg10.IsWhole)
    (arg11 : Memref sig .tc .vmem S8x512x256 .f32) (harg11 : arg11.IsWhole)
    (hc0 : ¬starts i) (hc1 : ¬below i) (hc2 : ¬diag i) (E : Set ℕ) (K : PUnit → sProp 𝕄) :
    iprop(K ⟨⟩)
      ⊢ wp frame (wpE (defs₀ (F := F)) Variants.none c none) E
          (cc0_attn_prompt i arg3 harg3 arg4 harg4 arg5 harg5 arg6 harg6 arg7 harg7 arg8 harg8 arg9 harg9 arg10 harg10
            arg11 harg11) K := by
  simp only [cc0_attn_prompt_eq_skeleton]; unfold cc0_attn_prompt_skel
  iintro Hk
  sl_exec (disch := first | sl_exact hc0 | sl_exact hc1 | sl_exact hc2)
  sl_step
  iexact Hk

/-! ## The scratch, point by point -/

/-- The scratch's three buffers: maxima, sums, weighted rows. -/
abbrev State (F : FTy → Type) : Type := Vec F S8x512x128 .f32 × Vec F S8x512x128 .f32 × Vec F S8x512x256 .f32

/-- What the scratch is set to at the first point of a query block. -/
def init : State F := (k0_pay1, k0_pay2, k0_pay3)

variable (m : (ℓ : Loc nD τ sig) → Buf (Elt F) ℓ) (ρ : Dev nD → PrngReg)

/-- The scores of point `t`, head by head. -/
def scoresAt (c : Dev nD) (t : Fin cfg0.N) (onDiag : Bool) : Fin 8 → FVec F S512x512 .f32 :=
  scores (iblk m c 0 t) (iblk m c 1 t) (iblk m c 2 t) (iblk m c 3 t) onDiag

/-- One step at point `t`. -/
def stepAt (c : Dev nD) (t : Fin cfg0.N) (onDiag : Bool) (s : State F) : State F :=
  (stepM (scoresAt m c t onDiag) s.1, stepL (scoresAt m c t onDiag) s.1 s.2.1,
    stepA (iblk m c 2 t) (scoresAt m c t onDiag) s.1 s.2.2)

/-- What point `t` makes of the scratch. -/
def nextSt (c : Dev nD) (t : Fin cfg0.N) (s : State F) : State F :=
  if t.val % 8 < t.val / 8 % 8 then stepAt m c t false s
  else if t.val % 8 = t.val / 8 % 8 then stepAt m c t true s else s

/-- The scratch after point `n`. -/
def stAt (c : Dev nD) : (n : ℕ) → n < cfg0.N → State F
  | 0, h => nextSt m c ⟨0, h⟩ init
  | n + 1, h => nextSt m c ⟨n + 1, h⟩ (if (n + 1) % 8 = 0 then init else stAt c n (Nat.lt_of_succ_lt h))

theorem stAt_first (c : Dev nD) (t : Fin cfg0.N) (h : t.val % 8 = 0) : stAt m c t.val t.isLt = nextSt m c t init := by
  obtain ⟨n, hn⟩ := t
  cases n with
  | zero => rfl
  | succ n => exact congrArg (nextSt m c ⟨n + 1, hn⟩) (if_pos h)

theorem stAt_next (c : Dev nD) (t : Fin cfg0.N) (h : t.val % 8 ≠ 0) :
    stAt m c t.val t.isLt = nextSt m c t (stAt m c (t.val - 1) (Nat.lt_of_le_of_lt (Nat.sub_le _ _) t.isLt)) := by
  obtain ⟨n, hn⟩ := t
  cases n with
  | zero => exact absurd (Nat.zero_mod _) h
  | succ n => exact congrArg (nextSt m c ⟨n + 1, hn⟩) (if_neg h)

theorem nextSt_below (c : Dev nD) (t : Fin cfg0.N) (s : State F) (h : t.val % 8 < t.val / 8 % 8) :
    nextSt m c t s = stepAt m c t false s := if_pos h
theorem nextSt_diag (c : Dev nD) (t : Fin cfg0.N) (s : State F) (h : t.val % 8 = t.val / 8 % 8) :
    nextSt m c t s = stepAt m c t true s := (if_neg (by omega)).trans (if_pos h)
theorem nextSt_past (c : Dev nD) (t : Fin cfg0.N) (s : State F) (h : t.val / 8 % 8 < t.val % 8) :
    nextSt m c t s = s := (if_neg (by omega)).trans (if_neg (by omega))

/-- The diagonal point of `t`'s query block. -/
def diagOf (t : Fin cfg0.N) : Fin cfg0.N :=
  ⟨t.val / 8 * 8 + t.val / 8 % 8, by have := t.isLt; have := N_eq; omega⟩

theorem diagOf_diag (t : Fin cfg0.N) (h : t.val % 8 = t.val / 8 % 8) : diagOf t = t :=
  Fin.ext (by show t.val / 8 * 8 + t.val / 8 % 8 = t.val; omega)

/-- The output's block of `t`'s query block: what the body stores at its diagonal point. -/
def outAt (c : Dev nD) (t : Fin cfg0.N) : Vec F S512x1024 .bf16 :=
  outBlk (iblk m c 4 (diagOf t)) (stAt m c (diagOf t).val (diagOf t).isLt).2.1 (stAt m c (diagOf t).val (diagOf t).isLt).2.2

theorem outAt_at (c : Dev nD) (t s : Fin cfg0.N) (hs : s = diagOf t) :
    outBlk (iblk m c 4 s) (stAt m c s.val s.isLt).2.1 (stAt m c s.val s.isLt).2.2 = outAt m c t := by subst hs; rfl

theorem outAt_diag (c : Dev nD) (t : Fin cfg0.N) (h : t.val % 8 = t.val / 8 % 8) :
    outAt m c t = outBlk (iblk m c 4 t) (stAt m c t.val t.isLt).2.1 (stAt m c t.val t.isLt).2.2 :=
  (outAt_at m c t t (diagOf_diag t h).symm).symm

/-! ## The pipeline's data -/

/-- Between points: the scratch at what the point before left, and the generator's register. -/
def Phi (c : Dev nD) : (n : ℕ) → n ≤ cfg0.N → sProp 𝕄
  | 0, _ => Pipeline.ΦA spec0 c
  | n + 1, h => iprop(iprop(owns (c : Thread nD τ) scM fullShare (stAt m c n h).1
      ∗ owns (c : Thread nD τ) scL fullShare (stAt m c n h).2.1
      ∗ owns (c : Thread nD τ) scA fullShare (stAt m c n h).2.2) ∗ (∃ r, prngReg c r))

theorem Phi_succ (c : Dev nD) (n : ℕ) (h : n < cfg0.N) :
    Phi m c (n + 1) h = iprop(iprop(owns (c : Thread nD τ) scM fullShare (stAt m c n h).1
      ∗ owns (c : Thread nD τ) scL fullShare (stAt m c n h).2.1
      ∗ owns (c : Thread nD τ) scA fullShare (stAt m c n h).2.2) ∗ (∃ r, prngReg c r)) := rfl

theorem Phi_pos (c : Dev nD) (n : ℕ) (h : n ≤ cfg0.N) (hz : n ≠ 0) :
    Phi m c n h = iprop(iprop(owns (c : Thread nD τ) scM fullShare (stAt m c (n - 1) (by omega)).1
      ∗ owns (c : Thread nD τ) scL fullShare (stAt m c (n - 1) (by omega)).2.1
      ∗ owns (c : Thread nD τ) scA fullShare (stAt m c (n - 1) (by omega)).2.2) ∗ (∃ r, prngReg c r)) := by
  cases n with
  | zero => exact absurd rfl hz
  | succ n => rfl

/-- At any point the scratch can be taken at anything. -/
theorem Phi_any (c : Dev nD) (n : ℕ) (h : n ≤ cfg0.N) : Phi m c n h ⊢ (Pipeline.ΦA spec0 c : sProp 𝕄) := by
  cases n with
  | zero => exact Idealize.SL.BI.Entails.refl _
  | succ n =>
    rw [Phi_succ, launch_scratch]
    iintro ⟨⟨HS0, HS1, HS2⟩, Hg⟩
    isplitl [HS0 HS1 HS2]
    · isplitl [HS0]
      · iexists _; iexact HS0
      isplitl [HS1]
      · iexists _; iexact HS1
      iexists _; iexact HS2
    iexact Hg

/-- The pipeline's data on core `c`: after the body each input's buffer at its block, the output's at its query block's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem fetch_5 (t : Fin cfg0.N) : (cfg0.win 5).fetch t = false := rfl

/-- Neighbouring points of one query block have one output block. -/
theorem outAt_pred (c : Dev nD) (t s : Fin cfg0.N) (hs : s.val / 8 = t.val / 8) : outAt m c s = outAt m c t := by
  have h : diagOf s = diagOf t := Fin.ext (by show s.val / 8 * 8 + s.val / 8 % 8 = t.val / 8 * 8 + t.val / 8 % 8; rw [hs])
  exact (outAt_at m c t (diagOf s) h)

theorem flush_5 (t : Fin cfg0.N) (h : t.val % 8 ≠ 7) : (cfg0.win 5).flush t = false :=
  Bool.eq_false_iff.mpr fun hf => h ((flush0_5 t).mp hf)

/-- Past the diagonal the output's buffer still holds what the diagonal point stored. -/
theorem before_5 (c : Dev nD) (d) : ∀ (n : ℕ) (hn : n < cfg0.N), n / 8 % 8 < n % 8 →
    (dats m 0 c).before 5 ⟨n, hn⟩ d = outAt m c ⟨n, hn⟩ := by
  intro n
  induction n with
  | zero => intro _ h; omega
  | succ n ih =>
    intro hn h
    have hn' : n < cfg0.N := Nat.lt_of_succ_lt hn
    rw [Dat.before_of_pos _ 5 ⟨n + 1, hn⟩ (Nat.succ_ne_zero n) (fetch_5 _)]
    have e : (⟨(⟨n + 1, hn⟩ : Fin cfg0.N).val - 1, Nat.lt_of_le_of_lt (Nat.sub_le _ _) hn⟩ : Fin cfg0.N) = ⟨n, hn'⟩ := rfl
    rw [e, flush_5 ⟨n, hn'⟩ (by show n % 8 ≠ 7; omega), if_neg Bool.false_ne_true]
    rw [← outAt_pred m c ⟨n + 1, hn⟩ ⟨n, hn'⟩ (by show n / 8 = (n + 1) / 8; omega)]
    unfold Dat.left
    by_cases hd : n % 8 = n / 8 % 8
    · have hi : cfg0.idle 5 (cfg0.grid.coords ⟨n, hn'⟩) = false := (idle_out ⟨n, hn'⟩).trans (decide_eq_false (by simpa using hd))
      rw [hi]
      show (dats m 0 c).kept 5 ⟨n, hn'⟩ d = _
      rw [← after_5 m c ⟨n, hn'⟩]
      unfold Dat.kept
      exact (cfg0.win 5).fill_cut _ _
    · have hi : cfg0.idle 5 (cfg0.grid.coords ⟨n, hn'⟩) = true := (idle_out ⟨n, hn'⟩).trans (decide_eq_true hd)
      rw [hi]
      exact ih hn' (by omega)

/-! ## The body at a point -/

theorem take_first {A A' B X : sProp 𝕄} (h : A ⊢ A') (k : iprop(A' ∗ B) ⊢ X) : iprop(A ∗ B) ⊢ X :=
  (sep_mono_l h).trans k

def bodyPre (c : Dev nD) (t : Fin cfg0.N) : sProp 𝕄 :=
  iprop((dats m 0 c).Φ t.castSucc ∗ (dats m 0 c).owesAt () t.castSucc
    ∗ (∃ d, owns (c : Thread nD τ) (q0 t) fullShare ((dats m 0 c).before 0 t d))
    ∗ (∃ d, owns (c : Thread nD τ) (q1 t) fullShare ((dats m 0 c).before 1 t d))
    ∗ (∃ d, owns (c : Thread nD τ) (q2 t) fullShare ((dats m 0 c).before 2 t d))
    ∗ (∃ d, owns (c : Thread nD τ) (q3 t) fullShare ((dats m 0 c).before 3 t d))
    ∗ (∃ d, owns (c : Thread nD τ) (q4 t) fullShare ((dats m 0 c).before 4 t d))
    ∗ (∃ d, owns (c : Thread nD τ) (q5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves_0 (c : Dev nD) (t : Fin cfg0.N) :
    (dats m 0 c).leavesExact 0 t = owns (c : Thread nD τ) (q0 t) fullShare (iblk m c 0 t) := by
  unfold Dat.leavesExact; rw [show cfg0.idle 0 (cfg0.grid.coords t) = false from idle_in 0 (by decide) t, after_0]
theorem leaves_1 (c : Dev nD) (t : Fin cfg0.N) :
    (dats m 0 c).leavesExact 1 t = owns (c : Thread nD τ) (q1 t) fullShare (iblk m c 1 t) := by
  unfold Dat.leavesExact; rw [show cfg0.idle 1 (cfg0.grid.coords t) = false from idle_in 1 (by decide) t, after_1]
theorem leaves_2 (c : Dev nD) (t : Fin cfg0.N) :
    (dats m 0 c).leavesExact 2 t = owns (c : Thread nD τ) (q2 t) fullShare (iblk m c 2 t) := by
  unfold Dat.leavesExact; rw [show cfg0.idle 2 (cfg0.grid.coords t) = false from idle_in 2 (by decide) t, after_2]
theorem leaves_3 (c : Dev nD) (t : Fin cfg0.N) :
    (dats m 0 c).leavesExact 3 t = owns (c : Thread nD τ) (q3 t) fullShare (iblk m c 3 t) := by
  unfold Dat.leavesExact; rw [show cfg0.idle 3 (cfg0.grid.coords t) = false from idle_in 3 (by decide) t, after_3]
theorem leaves_4 (c : Dev nD) (t : Fin cfg0.N) :
    (dats m 0 c).leavesExact 4 t = owns (c : Thread nD τ) (q4 t) fullShare (iblk m c 4 t) := by
  unfold Dat.leavesExact; rw [show cfg0.idle 4 (cfg0.grid.coords t) = false from idle_in 4 (by decide) t, after_4]

/-- On the diagonal the output's buffer is left at the block. -/
theorem leaves_5_diag (c : Dev nD) (t : Fin cfg0.N) (h : t.val % 8 = t.val / 8 % 8) :
    (dats m 0 c).leavesExact 5 t = owns (c : Thread nD τ) (q5 t) fullShare (outAt m c t) := by
  unfold Dat.leavesExact
  rw [show cfg0.idle 5 (cfg0.grid.coords t) = false from (idle_out t).trans (decide_eq_false (by simpa using h)), after_5]

/-- Off the diagonal the output's buffer is handed back as found: at a flush, past the diagonal, that is the block. -/
theorem leaves_5_off (c : Dev nD) (t : Fin cfg0.N) (h : t.val % 8 ≠ t.val / 8 % 8) (d) :
    owns (c : Thread nD τ) (q5 t) fullShare ((dats m 0 c).before 5 t d) ⊢ (dats m 0 c).leavesExact 5 t := by
  unfold Dat.leavesExact
  rw [show cfg0.idle 5 (cfg0.grid.coords t) = true from (idle_out t).trans (decide_eq_true h)]
  by_cases hf : t.val % 8 = 7
  · rw [(flush0_5 t).mpr hf, after_5, before_5 m c d t.val t.isLt (by omega)]
  · rw [flush_5 t hf]
    iintro H; iexists d; iexact H

set_option maxHeartbeats 4000000 in
/-- At the first point of a query block that is not the first block. -/
theorem sound_start (c : Dev nD) (t : Fin cfg0.N) (h0 : t.val % 8 = 0) (h1 : t.val % 8 < t.val / 8 % 8) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = Phi m c (t.val + 1) t.isLt from rfl, Phi_succ]
  rw [leaves_0, leaves_1, leaves_2, leaves_3, leaves_4, Phi_castSucc m c t]
  rw [stAt_first m c t h0, nextSt_below m c t _ h1]; unfold stepAt init scoresAt; dsimp only
  refine take_first (Phi_any m c _ _) ?_
  rw [launch_scratch]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (run_start c (grid0.coords t) _ _ _ _ _ _ _ _ _ _ _ _ _ _ _ _ _ _ ((starts_iff t).mpr h0) ((below_iff t).mpr h1) (fun h => absurd ((diag_iff t).mp h) (by omega)) (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iapply (leaves_5_off m c t (by omega) d5); iexact H5

set_option maxHeartbeats 4000000 in
/-- At the first query block's only key block. -/
theorem sound_only (c : Dev nD) (t : Fin cfg0.N) (h0 : t.val % 8 = 0) (h2 : t.val % 8 = t.val / 8 % 8) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = Phi m c (t.val + 1) t.isLt from rfl, Phi_succ]
  rw [leaves_0, leaves_1, leaves_2, leaves_3, leaves_4, Phi_castSucc m c t]
  rw [leaves_5_diag m c t h2]
  rw [outAt_diag m c t h2]
  rw [stAt_first m c t h0, nextSt_diag m c t _ h2]; unfold stepAt init scoresAt; dsimp only
  refine take_first (Phi_any m c _ _) ?_
  rw [launch_scratch]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (run_only c (grid0.coords t) _ _ _ _ _ _ _ _ _ _ _ _ _ _ _ _ _ _ ((starts_iff t).mpr h0) (fun h => absurd ((below_iff t).mp h) (by omega)) ((diag_iff t).mpr h2) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 4000000 in
/-- Strictly below the diagonal, not first. -/
theorem sound_below (c : Dev nD) (t : Fin cfg0.N) (h0 : ¬t.val % 8 = 0) (h1 : t.val % 8 < t.val / 8 % 8) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = Phi m c (t.val + 1) t.isLt from rfl, Phi_succ]
  rw [leaves_0, leaves_1, leaves_2, leaves_3, leaves_4, Phi_castSucc m c t]
  rw [stAt_next m c t h0, nextSt_below m c t _ h1]; unfold stepAt scoresAt; dsimp only
  rw [Phi_pos m c _ _ (by omega)]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (run_below c (grid0.coords t) _ _ _ _ _ _ _ _ _ _ _ _ _ _ _ _ _ _ (fun h => h0 ((starts_iff t).mp h)) ((below_iff t).mpr h1) (fun h => absurd ((diag_iff t).mp h) (by omega)) (iblk m c 0 t) (iblk m c 1 t) (iblk m c 2 t) (iblk m c 3 t) _ _ _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iapply (leaves_5_off m c t (by omega) d5); iexact H5

set_option maxHeartbeats 4000000 in
/-- On the diagonal, not first. -/
theorem sound_diag (c : Dev nD) (t : Fin cfg0.N) (h0 : ¬t.val % 8 = 0) (h2 : t.val % 8 = t.val / 8 % 8) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = Phi m c (t.val + 1) t.isLt from rfl, Phi_succ]
  rw [leaves_0, leaves_1, leaves_2, leaves_3, leaves_4, Phi_castSucc m c t]
  rw [leaves_5_diag m c t h2]
  rw [outAt_diag m c t h2]
  rw [stAt_next m c t h0, nextSt_diag m c t _ h2]; unfold stepAt scoresAt; dsimp only
  rw [Phi_pos m c _ _ (by omega)]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (run_diag c (grid0.coords t) _ _ _ _ _ _ _ _ _ _ _ _ _ _ _ _ _ _ (fun h => h0 ((starts_iff t).mp h)) (fun h => absurd ((below_iff t).mp h) (by omega)) ((diag_iff t).mpr h2) (iblk m c 0 t) (iblk m c 1 t) (iblk m c 2 t) (iblk m c 3 t) (iblk m c 4 t) _ _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 4000000 in
/-- Past the diagonal. -/
theorem sound_past (c : Dev nD) (t : Fin cfg0.N) (h0 : ¬t.val % 8 = 0) (h3 : t.val / 8 % 8 < t.val % 8) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = Phi m c (t.val + 1) t.isLt from rfl, Phi_succ]
  rw [leaves_0, leaves_1, leaves_2, leaves_3, leaves_4, Phi_castSucc m c t]
  rw [stAt_next m c t h0, nextSt_past m c t _ h3]
  rw [Phi_pos m c _ _ (by omega)]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (run_idle c (grid0.coords t) _ _ _ _ _ _ _ _ _ _ _ _ _ _ _ _ _ _ (fun h => h0 ((starts_iff t).mp h)) (fun h => absurd ((below_iff t).mp h) (by omega)) (fun h => absurd ((diag_iff t).mp h) (by omega)) Set.univ _)
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iapply (leaves_5_off m c t (by omega) d5); iexact H5

theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · by_cases h1 : t.val % 8 < t.val / 8 % 8
    · exact sound_start m c t h0 h1
    · exact sound_only m c t h0 (by omega)
  · by_cases h1 : t.val % 8 < t.val / 8 % 8
    · exact sound_below m c t h0 h1
    · by_cases h2 : t.val % 8 = t.val / 8 % 8
      · exact sound_diag m c t h0 h2
      · exact sound_past m c t h0 (by omega)

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = Phi m c cfg0.N le_rfl from rfl]
  exact Phi_any m c _ _

/-! ## The run -/

set_option backward.isDefEq.respectTransparency.types false in
theorem run_quiet : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The frame: the arguments end as they were and every counter is zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.Attn

end
-- ==== Proof.Blocks.lean ====
/- The kernel's windows read at an index: each block as a part of its array, each array in terms of the arguments. -/
module

public import proofs.«01_k».proof.Proof.Data
public import Idealize.ShloMosaic.Lib.Pointwise
public import Idealize.ShloMosaic.Lib.Claim
public import Idealize.ShloMosaic.Lib.Pipeline.ValueKit

@[expose] public section
set_option maxRecDepth 16384
noncomputable section
namespace Cert.Attn
open Idealize.ShloMosaic Idealize.ShloMosaic.TcCoe
open Cert.KernelIdeal Cert.KernelIdeal.Gen
variable (m : (ℓ : Loc nD τ sig) → Buf (Elt Ideal) ℓ) (c : Dev nD)

abbrev argQ : Vec Ideal S2x4096x8x256 .f32 := m ((c.tc : Thread nD τ).loc main_arg0)
abbrev argP : Vec Ideal S2x4096x8x64 .f32 := m ((c.tc : Thread nD τ).loc main_arg1)
abbrev argL : Vec Ideal S2x4096x256 .f32 := m ((c.tc : Thread nD τ).loc main_arg2)
abbrev argK : Vec Ideal S2x4096x64 .f32 := m ((c.tc : Thread nD τ).loc main_arg3)
abbrev argW : Vec Ideal S256x8x128 .f32 := m ((c.tc : Thread nD τ).loc main_arg4)

theorem V0_at (i : Fin 8192) (j : Fin 2048) : (V m c main_v3 : Vec Ideal S8192x2048 .bf16) (ix2 i j)
    = argQ m c (ix4 ⟨i.val / 4096, by omega⟩ ⟨i.val % 4096, by omega⟩ ⟨j.val / 256, by omega⟩ ⟨j.val % 256, by omega⟩)
      * Ideal.ofBits .f32 0x3D93CD3A#32 := by
  entry_read
  pointwise
theorem V1_at (i : Fin 8192) (j : Fin 512) : (V m c main_v7 : Vec Ideal S8192x512 .bf16) (ix2 i j)
    = argP m c (ix4 ⟨i.val / 4096, by omega⟩ ⟨i.val % 4096, by omega⟩ ⟨j.val / 64, by omega⟩ ⟨j.val % 64, by omega⟩)
      * Ideal.ofBits .f32 0x3D93CD3A#32 := by
  entry_read
  pointwise
theorem V2_at (i : Fin 8192) (j : Fin 256) : (V m c main_v10 : Vec Ideal S8192x256 .f32) (ix2 i j)
    = argL m c (ix3 ⟨i.val / 4096, by omega⟩ ⟨i.val % 4096, by omega⟩ j) := by
  entry_read
  pointwise
theorem V3_at (i : Fin 8192) (j : Fin 64) : (V m c main_v11 : Vec Ideal S8192x64 .f32) (ix2 i j)
    = argK m c (ix3 ⟨i.val / 4096, by omega⟩ ⟨i.val % 4096, by omega⟩ j) := by
  entry_read
  pointwise
theorem V4_at (h : Fin 8) (i : Fin 256) (j : Fin 128) : (V m c main_v9 : Vec Ideal S8x256x128 .bf16) (ix3 h i j)
    = argW m c (ix3 i h j) := by
  entry_read
  pointwise

theorem place0 : ∀ t : Fin cfg0.N, win0_0.index t 0 = t.val / 8 ∧ win0_0.index t 1 = 0 :=
  (by decide +kernel : ∀ t : Fin grid0.N, win0_0.index t 0 = t.val / 8 ∧ win0_0.index t 1 = 0)
theorem place1 : ∀ t : Fin cfg0.N, win0_1.index t 0 = t.val / 8 ∧ win0_1.index t 1 = 0 :=
  (by decide +kernel : ∀ t : Fin grid0.N, win0_1.index t 0 = t.val / 8 ∧ win0_1.index t 1 = 0)
theorem place2 : ∀ t : Fin cfg0.N, win0_2.index t 0 = t.val / 64 * 8 + min (t.val % 8) (t.val / 8 % 8) ∧ win0_2.index t 1 = 0 :=
  (by decide +kernel : ∀ t : Fin grid0.N, win0_2.index t 0 = t.val / 64 * 8 + min (t.val % 8) (t.val / 8 % 8) ∧ win0_2.index t 1 = 0)
theorem place3 : ∀ t : Fin cfg0.N, win0_3.index t 0 = t.val / 64 * 8 + min (t.val % 8) (t.val / 8 % 8) ∧ win0_3.index t 1 = 0 :=
  (by decide +kernel : ∀ t : Fin grid0.N, win0_3.index t 0 = t.val / 64 * 8 + min (t.val % 8) (t.val / 8 % 8) ∧ win0_3.index t 1 = 0)
theorem place4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
theorem place5 : ∀ t : Fin cfg0.N, win0_5.index t 0 = t.val / 8 ∧ win0_5.index t 1 = 0 :=
  (by decide +kernel : ∀ t : Fin grid0.N, win0_5.index t 0 = t.val / 8 ∧ win0_5.index t 1 = 0)

theorem blk0_at (t : Fin cfg0.N) (r : Fin 512) (k : Fin 2048) (i : Fin 8192) (hi : i.val = t.val / 8 * 512 + r.val) :
    (iblk m c 0 t : Vec Ideal S512x2048 .bf16) (ix2 r k) = (V m c main_v3 : Vec Ideal S8192x2048 .bf16) (ix2 i k) := by
  have hp := place0 t
  unfold iblk
  generalize V m c = W
  blk_simp
  blk_ext

theorem blk1_at (t : Fin cfg0.N) (r : Fin 512) (k : Fin 512) (i : Fin 8192) (hi : i.val = t.val / 8 * 512 + r.val) :
    (iblk m c 1 t : Vec Ideal S512x512 .bf16) (ix2 r k) = (V m c main_v7 : Vec Ideal S8192x512 .bf16) (ix2 i k) := by
  have hp := place1 t
  unfold iblk
  generalize V m c = W
  blk_simp
  blk_ext

theorem blk2_at (t : Fin cfg0.N) (r : Fin 512) (k : Fin 256) (i : Fin 8192) (hi : i.val = (t.val / 64 * 8 + min (t.val % 8) (t.val / 8 % 8)) * 512 + r.val) :
    (iblk m c 2 t : Vec Ideal S512x256 .f32) (ix2 r k) = (V m c main_v10 : Vec Ideal S8192x256 .f32) (ix2 i k) := by
  have hp := place2 t
  unfold iblk
  generalize V m c = W
  blk_simp
  blk_ext

theorem blk3_at (t : Fin cfg0.N) (r : Fin 512) (k : Fin 64) (i : Fin 8192) (hi : i.val = (t.val / 64 * 8 + min (t.val % 8) (t.val / 8 % 8)) * 512 + r.val) :
    (iblk m c 3 t : Vec Ideal S512x64 .f32) (ix2 r k) = (V m c main_v11 : Vec Ideal S8192x64 .f32) (ix2 i k) := by
  have hp := place3 t
  unfold iblk
  generalize V m c = W
  blk_simp
  blk_ext

theorem blk4_at (t : Fin cfg0.N) (h : Fin 8) (r : Fin 256) (k : Fin 128) :
    (iblk m c 4 t : Vec Ideal S8x256x128 .bf16) (ix3 h r k) = (V m c main_v9 : Vec Ideal S8x256x128 .bf16) (ix3 h r k) := by
  have hp := place4 t
  unfold iblk
  generalize V m c = W
  blk_simp
  blk_ext

/-- The result's array after the run, from what the diagonal points store. -/
theorem result_eq (G : Buf (Elt Ideal) ((c.tc : Thread nD τ).loc main_v12))
    (h : ∀ (t : Fin cfg0.N) (r : Fin 512) (j : Fin 1024) (i : Fin 8192), t.val % 8 = 7 → i.val = t.val / 8 * 512 + r.val →
      outAt m c t (ix2 r j) = (G : Vec Ideal S8192x1024 .bf16) (ix2 i j)) :
    (dats m 0 c).arrAt 5 cfg0.N = G := by
  refine (dats m 0 c).arrAt_eq_of_covers 5 _ (by decide +kernel) fun t hf y => ?_
  have hp := place5 t
  rw [after_5]
  have h7 := (flush0_5 t).mp hf
  have ht := t.isLt
  have hN := N_eq
  obtain ⟨r, j, rfl⟩ : ∃ (r : Fin 512) (j : Fin 1024), y = ix2 r j := ⟨y 0, y 1, eq_ix2 y⟩
  blk_simp
  refine (h t r j ⟨t.val / 8 * 512 + r.val, by omega⟩ h7 rfl).trans ?_
  blk_ext

end Cert.Attn

end
-- ==== Proof.Softmax.lean ====
/- Softmax taken block by block over extended reals, for one query row: whatever shift the exponentials are taken under,
   the weighted sum over the sum of the weights is one real number. -/
module

public import Idealize.ShloMosaic.PureOps.Ideal

@[expose] public section

noncomputable section

namespace Cert.Attn

open Idealize.ShloMosaic
open scoped BigOperators

/-! ## Reals among the extended reals -/

theorem coe_sum {ι : Type} (s : Finset ι) (f : ι → ℝ) : (((∑ i ∈ s, f i : ℝ)) : EReal) = ∑ i ∈ s, (f i : EReal) := by
  classical
  induction s using Finset.induction_on with
  | empty => simp
  | insert a s ha ih => rw [Finset.sum_insert ha, Finset.sum_insert ha, EReal.coe_add, ih]

theorem sum_coe {ι : Type} (s : Finset ι) (g : ι → EReal) (f : ι → ℝ) (h : ∀ i ∈ s, g i = (f i : EReal)) :
    ∑ i ∈ s, g i = ((∑ i ∈ s, f i : ℝ) : EReal) := by
  rw [coe_sum]; exact Finset.sum_congr rfl h

/-- A score: a real, or nothing where the key is masked. -/
def sc (σ : ℝ) (on : Prop) [Decidable on] : EReal := if on then (σ : EReal) else ⊥

/-- Its weight before the shift. -/
def wt (σ : ℝ) (on : Prop) [Decidable on] : ℝ := if on then Real.exp σ else 0

theorem exp_sc (σ μ : ℝ) (on : Prop) [Decidable on] :
    Ideal.exp (sc σ on - (μ : EReal)) = ((Real.exp (-μ) * wt σ on : ℝ) : EReal) := by
  unfold sc wt
  by_cases h : on
  · rw [if_pos h, if_pos h, ← EReal.coe_sub, Ideal.exp_coe, ← Real.exp_add]; congr 2; ring
  · rw [if_neg h, if_neg h, EReal.bot_sub, mul_zero]; rfl

/-- The largest of some scores, one of them a real, is a real. -/
theorem max_real {ι : Type} [Fintype ι] (b : EReal) (hb : b ≠ ⊤) (σ : ι → ℝ) (on : ι → Prop) [∀ k, Decidable (on k)]
    (h : b ≠ ⊥ ∨ ∃ k, on k) : ∃ μ : ℝ, Finset.univ.fold max b (fun k => sc (σ k) (on k)) = (μ : EReal) := by
  have ht : Finset.univ.fold max b (fun k => sc (σ k) (on k)) < ⊤ := by
    rw [Finset.fold_max_lt]
    refine ⟨lt_top_iff_ne_top.mpr hb, fun k _ => ?_⟩
    unfold sc; split
    · exact EReal.coe_lt_top _
    · exact bot_lt_top
  have hl : ⊥ < Finset.univ.fold max b (fun k => sc (σ k) (on k)) := by
    rw [Finset.lt_fold_max]
    rcases h with h | ⟨k, h⟩
    · exact Or.inl (bot_lt_iff_ne_bot.mpr h)
    · refine Or.inr ⟨k, Finset.mem_univ _, ?_⟩
      unfold sc; rw [if_pos h]; exact EReal.bot_lt_coe _
  exact ⟨_, (EReal.coe_toReal ht.ne hl.ne').symm⟩

theorem fold_max_start {ι : Type} (s : Finset ι) (b : EReal) (f : ι → EReal) : max b (s.fold max ⊥ f) = s.fold max b f := by
  classical
  induction s using Finset.induction_on with
  | empty => simp
  | insert a s ha ih => rw [Finset.fold_insert ha, Finset.fold_insert ha, ← ih, max_left_comm]

/-! ## The block-by-block sums -/

variable {C : ℕ}

/-- What the three running quantities hold after the keys in `S`, whose weights are `W` and whose values are `v`: the
    largest score so far is a real, and the two sums are taken under it; or no key has been seen. -/
def Holds (S : Finset ℕ) (W : ℕ → ℝ) (v : ℕ → Fin C → ℝ) (m l : EReal) (a : Fin C → EReal) : Prop :=
  (S = ∅ ∧ m = ⊥ ∧ l = 0 ∧ a = 0) ∨
  ∃ μ : ℝ, m = (μ : EReal) ∧ l = ((Real.exp (-μ) * ∑ k ∈ S, W k : ℝ) : EReal) ∧
    ∀ c, a c = ((Real.exp (-μ) * ∑ k ∈ S, W k * v k c : ℝ) : EReal)

/-- One block of `n` keys starting at `o`. -/
theorem Holds.step {S : Finset ℕ} {v : ℕ → Fin C → ℝ} {σ : ℕ → ℝ} {on : ℕ → Prop} [∀ k, Decidable (on k)]
    {m l : EReal} {a : Fin C → EReal} (h : Holds S (fun k => wt (σ k) (on k)) v m l a) (n o : ℕ)
    (hS : ∀ k ∈ S, k < o) (hon : ∃ k : Fin n, on (o + k.val))
    {m' l' : EReal} {a' : Fin C → EReal} (s : Fin n → EReal) (hs : ∀ k : Fin n, s k = sc (σ (o + k.val)) (on (o + k.val)))
    (hm : m' = max m (Finset.univ.fold max ⊥ s))
    (hl : l' = Ideal.exp (m - m') * l + ∑ k : Fin n, Ideal.exp (s k - m'))
    (ha : ∀ c, a' c = a c * Ideal.exp (m - m') + ∑ k : Fin n, Ideal.exp (s k - m') * (v (o + k.val) c : EReal)) :
    Holds (S ∪ (Finset.range n).map (addLeftEmbedding o)) (fun k => wt (σ k) (on k)) v m' l' a' := by
  have es : s = fun k : Fin n => sc (σ (o + k.val)) (on (o + k.val)) := funext hs
  have hd : Disjoint S ((Finset.range n).map (addLeftEmbedding o)) := by
    rw [Finset.disjoint_left]; intro k hk hk'
    obtain ⟨j, _, rfl⟩ := Finset.mem_map.mp hk'
    have := hS _ hk; simp only [addLeftEmbedding_apply] at this; omega
  have hsum : ∀ f : ℕ → ℝ, ∑ k ∈ (Finset.range n).map (addLeftEmbedding o), f k = ∑ k : Fin n, f (o + k.val) := fun f => by
    rw [Finset.sum_map, Finset.sum_range]; rfl
  have hmt : m ≠ ⊤ := by
    rcases h with ⟨_, rfl, _⟩ | ⟨μ, rfl, _⟩
    · exact bot_ne_top
    · exact EReal.coe_ne_top _
  obtain ⟨μ', hμ'⟩ : ∃ μ' : ℝ, m' = (μ' : EReal) := by
    rw [hm, fold_max_start, es]
    exact max_real m hmt (fun k : Fin n => σ (o + k.val)) (fun k : Fin n => on (o + k.val)) (Or.inr hon)
  have hp : ∀ k : Fin n, Ideal.exp (s k - m') = ((Real.exp (-μ') * wt (σ (o + k.val)) (on (o + k.val)) : ℝ) : EReal) :=
    fun k => by rw [hs, hμ', exp_sc]
  have hpl : ∑ k : Fin n, Ideal.exp (s k - m') = ((Real.exp (-μ') * ∑ k : Fin n, wt (σ (o + k.val)) (on (o + k.val)) : ℝ) : EReal) := by
    rw [Finset.mul_sum]; exact sum_coe _ _ _ fun k _ => hp k
  have hpa : ∀ c, ∑ k : Fin n, Ideal.exp (s k - m') * (v (o + k.val) c : EReal)
      = ((Real.exp (-μ') * ∑ k : Fin n, wt (σ (o + k.val)) (on (o + k.val)) * v (o + k.val) c : ℝ) : EReal) := fun c => by
    rw [Finset.mul_sum]
    refine sum_coe _ _ _ fun k _ => ?_
    rw [hp, ← EReal.coe_mul, mul_assoc]
  refine Or.inr ⟨μ', hμ', ?_, fun c => ?_⟩
  · rw [hl, hpl, Finset.sum_union hd, hsum]
    rcases h with ⟨rfl, rfl, rfl, _⟩ | ⟨μ, rfl, rfl, _⟩
    · rw [mul_zero, zero_add, Finset.sum_empty, zero_add]
    · rw [hμ', ← EReal.coe_sub, Ideal.exp_coe, ← EReal.coe_mul, ← EReal.coe_add, mul_add, ← mul_assoc, ← Real.exp_add]
      congr 5; ring
  · rw [ha, hpa, Finset.sum_union hd, hsum]
    rcases h with ⟨rfl, rfl, _, rfl⟩ | ⟨μ, rfl, _, h⟩
    · rw [Pi.zero_apply, zero_mul, zero_add, Finset.sum_empty, zero_add]
    · rw [h, hμ', ← EReal.coe_sub, Ideal.exp_coe, ← EReal.coe_mul, ← EReal.coe_add, mul_add, mul_right_comm, ← Real.exp_add]
      congr 5; ring

/-- The weighted mean of the values. -/
def mean (S : Finset ℕ) (W : ℕ → ℝ) (v : ℕ → ℝ) : ℝ := (∑ k ∈ S, W k * v k) / ∑ k ∈ S, W k

theorem div_real (x y : ℝ) (h : y ≠ 0) : Ideal.div (x : EReal) (y : EReal) = ((x / y : ℝ) : EReal) := by
  rw [Ideal.div_coe h, ← EReal.coe_mul, mul_one_div]

theorem Holds.mean {S : Finset ℕ} {W : ℕ → ℝ} {v : ℕ → Fin C → ℝ} {m l : EReal} {a : Fin C → EReal}
    (h : Holds S W v m l a) (hW : 0 < ∑ k ∈ S, W k) (c : Fin C) :
    Ideal.div (a c) l = ((Cert.Attn.mean S W (v · c) : ℝ) : EReal) := by
  rcases h with ⟨rfl, _⟩ | ⟨μ, _, rfl, h⟩
  · simp at hW
  · have he := Real.exp_pos (-μ)
    rw [h, div_real _ _ (by positivity)]; unfold Cert.Attn.mean
    rw [mul_div_mul_left _ _ he.ne']

/-- The whole softmax at once, as a mean: the weights under the largest score, over their sum, against the values. -/
theorem softmax_mean (n : ℕ) (σ : ℕ → ℝ) (on : ℕ → Prop) [∀ k, Decidable (on k)] (hon : ∃ k : Fin n, on k.val)
    (v : ℕ → ℝ) (s : Fin n → EReal) (hs : ∀ k : Fin n, s k = sc (σ k.val) (on k.val)) (M : EReal)
    (hM : M = Finset.univ.fold max ⊥ s) (D : EReal) (hD : D = ∑ k : Fin n, Ideal.exp (s k - M)) :
    ∑ k : Fin n, (v k.val : EReal) * Ideal.div (Ideal.exp (s k - M)) D
      = ((mean (Finset.range n) (fun k => wt (σ k) (on k)) v : ℝ) : EReal) := by
  have es : s = fun k : Fin n => sc (σ k.val) (on k.val) := funext hs
  obtain ⟨μ, hμ⟩ : ∃ μ : ℝ, M = (μ : EReal) := by
    rw [hM, es]
    exact max_real ⊥ bot_ne_top (fun k : Fin n => σ k.val) (fun k : Fin n => on k.val) (Or.inr hon)
  have hp : ∀ k : Fin n, Ideal.exp (s k - M) = ((Real.exp (-μ) * wt (σ k.val) (on k.val) : ℝ) : EReal) :=
    fun k => by rw [hs, hμ, exp_sc]
  have hD' : D = ((Real.exp (-μ) * ∑ k : Fin n, wt (σ k.val) (on k.val) : ℝ) : EReal) := by
    rw [hD, Finset.mul_sum]; exact sum_coe _ _ _ fun k _ => hp k
  have hpos : 0 < ∑ k : Fin n, wt (σ k.val) (on k.val) := by
    obtain ⟨k, hk⟩ := hon
    refine Finset.sum_pos' (fun k _ => ?_) ⟨k, Finset.mem_univ _, ?_⟩
    · unfold wt; split
      · exact (Real.exp_pos _).le
      · exact le_rfl
    · unfold wt; rw [if_pos hk]; exact Real.exp_pos _
  have he := Real.exp_pos (-μ)
  unfold mean
  rw [Finset.sum_range, Finset.sum_range, Finset.sum_div]
  refine sum_coe _ _ _ fun k _ => ?_
  rw [hp, hD', div_real _ _ (by positivity), ← EReal.coe_mul, mul_div_mul_left _ _ he.ne']
  congr 1; ring

/-- Keys of weight nothing do not count. -/
theorem mean_subset {S T : Finset ℕ} (hST : S ⊆ T) (W : ℕ → ℝ) (h : ∀ k ∈ T, k ∉ S → W k = 0) (v : ℕ → ℝ) :
    mean S W v = mean T W v := by
  unfold mean
  rw [Finset.sum_subset hST h, Finset.sum_subset hST (fun k hk hk' => by rw [h k hk hk', zero_mul])]

end Cert.Attn

end
-- ==== Proof.Value.lean ====
/- What the kernel's scratch holds after each point, for finite arguments: the two sums of the softmax over the keys seen. -/
module

public import proofs.«01_k».proof.Proof.Blocks
public import proofs.«01_k».proof.Proof.Softmax
public import Idealize.ShloMosaic.Lib.WordCmp

@[expose] public section

set_option maxRecDepth 16384

noncomputable section

namespace Cert.Attn

open Idealize.ShloMosaic Idealize.ShloMosaic.TcCoe
open Cert.KernelIdeal Cert.KernelIdeal.Gen
open scoped BigOperators

/-! ## The constants -/

theorem bot_bits : Ideal.ofBits .f32 0xFF800000#32 = ⊥ := by simp [Ideal.ofBits, Ideal.ieee]

/-- The scale of the scores, as a real. -/
def kappa : ℝ := (Ideal.ofBits .f32 0x3D93CD3A#32).toReal

theorem kappa_bits : Ideal.ofBits .f32 0x3D93CD3A#32 = (kappa : EReal) := by
  unfold kappa; simp [Ideal.ofBits, Ideal.ieee]; rw [← EReal.coe_mul, EReal.toReal_coe]

theorem select_causal (q k : ℕ) (hq : q < 2 ^ 31) (hk : k < 2 ^ 31) (σ : ℝ) :
    Scalar.select (IntOp.cmpi .sge (BitVec.ofNat 32 q) (BitVec.ofNat 32 k)) (σ : EReal) ⊥ = sc σ (k ≤ q) := by
  have h := WordCmp.cmpi_sge_ofNat_eq_one_iff (w := 32) (a := q) (b := k) hq hk
  unfold Scalar.select sc
  by_cases hle : k ≤ q
  · rw [if_pos hle]; exact if_pos (h.mpr hle)
  · rw [if_neg hle]; exact if_neg fun h' => hle (h.mp h')

/-! ## One head's step read at an index -/

section Steps

variable (s : FVec Ideal S512x512 .f32) (M L : Vec Ideal S1x512x128 .f32) (r : Fin 512)

/-- The largest score of a row. -/
def rowTop : EReal := Finset.univ.fold max ⊥ fun k : Fin 512 => (s (ix2 r k) : EReal)

theorem headM_at (j : Fin 128) : headM s M (ix3 (0 : Fin 1) r j) = max (M (ix3 (0 : Fin 1) r j) : EReal) (rowTop s r) := by
  unfold rowTop; rw [← bot_bits]
  pointwise [headM, maxNew]

theorem headL_at : headL s M L (ix3 (0 : Fin 1) r (0 : Fin 128))
    = Ideal.exp ((M (ix3 (0 : Fin 1) r (0 : Fin 128)) : EReal) - max (M (ix3 (0 : Fin 1) r (0 : Fin 128)) : EReal) (rowTop s r))
        * L (ix3 (0 : Fin 1) r (0 : Fin 128))
      + ∑ k : Fin 512, Ideal.exp ((s (ix2 r k) : EReal) - max (M (ix3 (0 : Fin 1) r (0 : Fin 128)) : EReal) (rowTop s r)) := by
  unfold rowTop; rw [← bot_bits]
  pointwise [headL, scaleOld, weights, maxNew]

theorem headA_at (lat : Vec Ideal S512x256 .f32) (A : Vec Ideal S1x512x256 .f32) (j : Fin 256) :
    headA s lat M A (ix3 (0 : Fin 1) r j)
      = (A (ix3 (0 : Fin 1) r j) : EReal)
          * Ideal.exp ((M (ix3 (0 : Fin 1) r (0 : Fin 128)) : EReal) - max (M (ix3 (0 : Fin 1) r (0 : Fin 128)) : EReal) (rowTop s r))
        + ∑ k : Fin 512, Ideal.exp ((s (ix2 r k) : EReal) - max (M (ix3 (0 : Fin 1) r (0 : Fin 128)) : EReal) (rowTop s r))
            * lat (ix2 k j) := by
  unfold rowTop; rw [← bot_bits]
  pointwise [headA, scaleOld, weights, maxNew, k0_pay5]

theorem headO_at (A : Vec Ideal S1x512x256 .f32) (w : Vec Ideal S1x256x128 .bf16) (j : Fin 128) :
    headO A L w (ix2 r j)
      = ∑ x : Fin 256, Ideal.div (A (ix3 (0 : Fin 1) r x)) (L (ix3 (0 : Fin 1) r (0 : Fin 128))) * w (ix3 (0 : Fin 1) x j) := by
  pointwise [headO]

theorem score_at (lat : Vec Ideal S512x256 .f32) (kp : Vec Ideal S512x64 .f32) (q : Vec Ideal S512x256 .bf16)
    (p : Vec Ideal S512x64 .bf16) (k : Fin 512) :
    score lat kp q p (ix2 r k)
      = ((∑ x : Fin 256, q (ix2 r x) * lat (ix2 k x) : EReal) + ∑ x : Fin 64, p (ix2 r x) * kp (ix2 k x)) := by
  pointwise [score, k0_pay5, k0_pay6]

theorem scoreDiag_at (lat : Vec Ideal S512x256 .f32) (kp : Vec Ideal S512x64 .f32) (q : Vec Ideal S512x256 .bf16)
    (p : Vec Ideal S512x64 .bf16) (k : Fin 512) :
    scoreDiag lat kp q p (ix2 r k)
      = Scalar.select (IntOp.cmpi .sge (BitVec.ofNat 32 r.val) (BitVec.ofNat 32 k.val)) (score lat kp q p (ix2 r k))
          (⊥ : EReal) := by
  rw [← bot_bits]
  pointwise [scoreDiag, k0_pay80]

theorem rowsOf_at (X : Vec Ideal S8x512x128 .f32) (h : Fin 8) (j : Fin 128) : rowsOf X h (ix3 (0 : Fin 1) r j) = X (ix3 h r j) := by
  pointwise [rowsOf]
theorem accOf_at (X : Vec Ideal S8x512x256 .f32) (h : Fin 8) (j : Fin 256) : accOf X h (ix3 (0 : Fin 1) r j) = X (ix3 h r j) := by
  pointwise [accOf]
theorem wuvOf_at (X : Vec Ideal S8x256x128 .bf16) (h : Fin 8) (x : Fin 256) (j : Fin 128) :
    wuvOf X h (ix3 (0 : Fin 1) x j) = X (ix3 h x j) := by
  pointwise [wuvOf]
theorem qOf_at (X : Vec Ideal S512x2048 .bf16) (h : Fin 8) (x : Fin 256) :
    qOf X h (ix2 r x) = X (ix2 r ⟨256 * h.val + x.val, by omega⟩) := by
  pointwise [qOf]
theorem pOf_at (X : Vec Ideal S512x512 .bf16) (h : Fin 8) (x : Fin 64) :
    pOf X h (ix2 r x) = X (ix2 r ⟨64 * h.val + x.val, by omega⟩) := by
  pointwise [pOf]

end Steps

/-! ## The scores as reals -/

theorem ix4_of {n0 n1 n2 n3 : ℕ} {a a' : Fin n0} {b b' : Fin n1} {c c' : Fin n2} {d d' : Fin n3}
    (ha : a.val = a'.val) (hb : b.val = b'.val) (hc : c.val = c'.val) (hd : d.val = d'.val) : ix4 a b c d = ix4 a' b' c' d' := by
  obtain rfl := Fin.ext ha; obtain rfl := Fin.ext hb; obtain rfl := Fin.ext hc; obtain rfl := Fin.ext hd; rfl
theorem ix3_of {n0 n1 n2 : ℕ} {a a' : Fin n0} {b b' : Fin n1} {c c' : Fin n2}
    (ha : a.val = a'.val) (hb : b.val = b'.val) (hc : c.val = c'.val) : ix3 a b c = ix3 a' b' c' := by
  obtain rfl := Fin.ext ha; obtain rfl := Fin.ext hb; obtain rfl := Fin.ext hc; rfl

section Reals

variable (m : (ℓ : Loc nD τ sig) → Buf (Elt Ideal) ℓ) (c : Dev nD)

/-- The arguments the scores and the values are made of, as reals. -/
def rQ (i : S2x4096x8x256.Idx) : ℝ := (argQ m c i : EReal).toReal
def rP (i : S2x4096x8x64.Idx) : ℝ := (argP m c i : EReal).toReal
def rL (i : S2x4096x256.Idx) : ℝ := (argL m c i : EReal).toReal
def rK (i : S2x4096x64.Idx) : ℝ := (argK m c i : EReal).toReal

/-- They are finite. -/
structure Finite : Prop where
  q : ∀ i, argQ m c i = (rQ m c i : EReal)
  p : ∀ i, argP m c i = (rP m c i : EReal)
  l : ∀ i, argL m c i = (rL m c i : EReal)
  k : ∀ i, argK m c i = (rK m c i : EReal)

/-- The score of a key for a query of a head. -/
def scoreR (b : Fin 2) (h : Fin 8) (q : Fin 4096) (k : ℕ) : ℝ :=
  if hk : k < 4096 then
    ((∑ x : Fin 256, rL m c (ix3 b ⟨k, hk⟩ x) * rQ m c (ix4 b q h x))
      + ∑ x : Fin 64, rK m c (ix3 b ⟨k, hk⟩ x) * rP m c (ix4 b q h x)) * kappa
  else 0

/-- The value row of a key. -/
def valR (b : Fin 2) (k : ℕ) (x : Fin 256) : ℝ := if hk : k < 4096 then rL m c (ix3 b ⟨k, hk⟩ x) else 0

variable {m c}

theorem score_real (fin : Finite m c) (b : Fin 2) (qi ki : Fin 8) (hle : ki ≤ qi) (t : Fin cfg0.N)
    (ht : t.val = b.val * 64 + qi.val * 8 + ki.val) (h : Fin 8) (r k : Fin 512) (q : Fin 4096) (hq : q.val = qi.val * 512 + r.val) :
    score (iblk m c 2 t) (iblk m c 3 t) (qOf (iblk m c 0 t) h) (pOf (iblk m c 1 t) h) (ix2 r k)
      = (scoreR m c b h q (512 * ki.val + k.val) : EReal) := by
  have hle' : ki.val ≤ qi.val := hle
  have hk : 512 * ki.val + k.val < 4096 := by omega
  have e1 : t.val / 8 = b.val * 8 + qi.val := by omega
  have e2 : t.val % 8 = ki.val := by omega
  have e3 : t.val / 64 = b.val := by omega
  have e4 : t.val / 8 % 8 = qi.val := by omega
  have e5 : min ki.val qi.val = ki.val := min_eq_left hle'
  have i0 : b.val * 4096 + q.val < 8192 := by omega
  have i2 : b.val * 4096 + (512 * ki.val + k.val) < 8192 := by omega
  have Q : ∀ x : Fin 256, qOf (iblk m c 0 t) h (ix2 r x) = ((rQ m c (ix4 b q h x) * kappa : ℝ) : EReal) := fun x => by
    rw [qOf_at, blk0_at m c t r _ ⟨b.val * 4096 + q.val, i0⟩ (by rw [e1]; simp only; omega), V0_at, fin.q, kappa_bits, ← EReal.coe_mul]
    refine congrArg (fun i => ((rQ m c i * kappa : ℝ) : EReal)) (ix4_of ?_ ?_ ?_ ?_) <;> simp only <;> omega
  have P : ∀ x : Fin 64, pOf (iblk m c 1 t) h (ix2 r x) = ((rP m c (ix4 b q h x) * kappa : ℝ) : EReal) := fun x => by
    rw [pOf_at, blk1_at m c t r _ ⟨b.val * 4096 + q.val, i0⟩ (by rw [e1]; simp only; omega), V1_at, fin.p, kappa_bits, ← EReal.coe_mul]
    refine congrArg (fun i => ((rP m c i * kappa : ℝ) : EReal)) (ix4_of ?_ ?_ ?_ ?_) <;> simp only <;> omega
  have Lt : ∀ x : Fin 256, (iblk m c 2 t : Vec Ideal S512x256 .f32) (ix2 k x) = (rL m c (ix3 b ⟨512 * ki.val + k.val, hk⟩ x) : EReal) := fun x => by
    rw [blk2_at m c t k _ ⟨b.val * 4096 + (512 * ki.val + k.val), i2⟩ (by rw [e2, e3, e4, e5]; simp only; omega), V2_at, fin.l]
    refine congrArg (fun i => (rL m c i : EReal)) (ix3_of ?_ ?_ ?_) <;> simp only <;> omega
  have Kt : ∀ x : Fin 64, (iblk m c 3 t : Vec Ideal S512x64 .f32) (ix2 k x) = (rK m c (ix3 b ⟨512 * ki.val + k.val, hk⟩ x) : EReal) := fun x => by
    rw [blk3_at m c t k _ ⟨b.val * 4096 + (512 * ki.val + k.val), i2⟩ (by rw [e2, e3, e4, e5]; simp only; omega), V3_at, fin.k]
    refine congrArg (fun i => (rK m c i : EReal)) (ix3_of ?_ ?_ ?_) <;> simp only <;> omega
  rw [score_at]
  unfold scoreR
  rw [dif_pos hk, add_mul, EReal.coe_add, Finset.sum_mul, Finset.sum_mul]
  refine congrArg₂ (· + ·) (sum_coe _ _ _ fun x _ => ?_) (sum_coe _ _ _ fun x _ => ?_)
  · rw [Q, Lt, ← EReal.coe_mul]; congr 1; ring
  · rw [P, Kt, ← EReal.coe_mul]; congr 1; ring

theorem valR_real (fin : Finite m c) (b : Fin 2) (qi ki : Fin 8) (hle : ki ≤ qi) (t : Fin cfg0.N)
    (ht : t.val = b.val * 64 + qi.val * 8 + ki.val) (k : Fin 512) (x : Fin 256) :
    (iblk m c 2 t : Vec Ideal S512x256 .f32) (ix2 k x) = (valR m c b (512 * ki.val + k.val) x : EReal) := by
  have hle' : ki.val ≤ qi.val := hle
  have hk : 512 * ki.val + k.val < 4096 := by omega
  have e2 : t.val % 8 = ki.val := by omega
  have e3 : t.val / 64 = b.val := by omega
  have e4 : t.val / 8 % 8 = qi.val := by omega
  have e5 : min ki.val qi.val = ki.val := min_eq_left hle'
  have i2 : b.val * 4096 + (512 * ki.val + k.val) < 8192 := by omega
  rw [blk2_at m c t k _ ⟨b.val * 4096 + (512 * ki.val + k.val), i2⟩ (by rw [e2, e3, e4, e5]; simp only; omega), V2_at, fin.l]
  unfold valR; rw [dif_pos hk]
  refine congrArg (fun i => (rL m c i : EReal)) (ix3_of ?_ ?_ ?_) <;> simp only <;> omega

/-- The scores a point takes, as the body masks them: those of the keys after the query are out. -/
theorem scoresAt_real (fin : Finite m c) (b : Fin 2) (qi ki : Fin 8) (t : Fin cfg0.N)
    (ht : t.val = b.val * 64 + qi.val * 8 + ki.val) (onDiag : Bool)
    (hd : (onDiag = false ∧ ki < qi) ∨ (onDiag = true ∧ ki = qi)) (h : Fin 8) (r k : Fin 512) (q : Fin 4096)
    (hq : q.val = qi.val * 512 + r.val) :
    scoresAt m c t onDiag h (ix2 r k) = sc (scoreR m c b h q (512 * ki.val + k.val)) (512 * ki.val + k.val ≤ q.val) := by
  rcases hd with ⟨rfl, hlt⟩ | ⟨rfl, rfl⟩
  · have hlt' : ki.val < qi.val := hlt
    refine (score_real fin b qi ki hlt.le t ht h r k q hq).trans ?_
    unfold sc; rw [if_pos (by omega)]
  · refine (scoreDiag_at r _ _ _ _ k).trans ?_
    rw [score_real fin b ki ki le_rfl t ht h r k q hq, select_causal _ _ (by omega) (by omega)]
    unfold sc
    have : k.val ≤ r.val ↔ 512 * ki.val + k.val ≤ q.val := by omega
    simp only [this]

/-- The scratch's rows of one head and query, after a point. -/
def Rows (b : Fin 2) (h : Fin 8) (q : Fin 4096) (r : Fin 512) (S : Finset ℕ) (s : State Ideal) : Prop :=
  Holds S (fun k => wt (scoreR m c b h q k) (k ≤ q.val)) (valR m c b) (s.1 (ix3 h r (0 : Fin 128)))
    (s.2.1 (ix3 h r (0 : Fin 128))) fun x => s.2.2 (ix3 h r x)

theorem Rows.step (fin : Finite m c) (b : Fin 2) (qi ki : Fin 8) (t : Fin cfg0.N)
    (ht : t.val = b.val * 64 + qi.val * 8 + ki.val) (onDiag : Bool)
    (hd : (onDiag = false ∧ ki < qi) ∨ (onDiag = true ∧ ki = qi)) (h : Fin 8) (r : Fin 512) (q : Fin 4096)
    (hq : q.val = qi.val * 512 + r.val) (s : State Ideal)
    (hs : Rows (m := m) (c := c) b h q r (Finset.range (512 * ki.val)) s) :
    Rows (m := m) (c := c) b h q r (Finset.range (512 * (ki.val + 1))) (stepAt m c t onDiag s) := by
  have hle : ki ≤ qi := by rcases hd with ⟨_, hd⟩ | ⟨_, hd⟩; exacts [hd.le, hd.le]
  have hle' : ki.val ≤ qi.val := hle
  have hM : (stepAt m c t onDiag s).1 (ix3 h r (0 : Fin 128))
      = max (s.1 (ix3 h r (0 : Fin 128)) : EReal) (rowTop (scoresAt m c t onDiag h) r) := by
    refine (stepM_at _ _ _ h (ix3 (0 : Fin 1) r (0 : Fin 128)) rfl rfl rfl).symm.trans ?_
    rw [headM_at, rowsOf_at]
  have hL : (stepAt m c t onDiag s).2.1 (ix3 h r (0 : Fin 128)) = _ :=
    (stepL_at _ _ _ _ h (ix3 (0 : Fin 1) r (0 : Fin 128)) rfl rfl rfl).symm.trans (headL_at _ _ _ r)
  have hA : ∀ x : Fin 256, (stepAt m c t onDiag s).2.2 (ix3 h r x) = _ := fun x =>
    (stepA_at _ _ _ _ _ h (ix3 (0 : Fin 1) r x) rfl rfl rfl).symm.trans (headA_at _ _ r _ _ x)
  rw [rowsOf_at, rowsOf_at, ← hM] at hL
  have e : Finset.range (512 * ki.val) ∪ (Finset.range 512).map (addLeftEmbedding (512 * ki.val)) = Finset.range (512 * (ki.val + 1)) := by
    ext k; simp only [Finset.mem_union, Finset.mem_range, Finset.mem_map, addLeftEmbedding_apply]
    constructor
    · rintro (h | ⟨j, hj, rfl⟩) <;> omega
    · intro h
      by_cases hk : k < 512 * ki.val
      · exact Or.inl hk
      · exact Or.inr ⟨k - 512 * ki.val, by omega, by omega⟩
  unfold Rows
  rw [← e]
  refine Holds.step hs 512 (512 * ki.val) (fun k hk => Finset.mem_range.mp hk) ⟨0, by simp only [Fin.val_zero]; omega⟩
    (fun k => scoresAt m c t onDiag h (ix2 r k))
    (fun k => scoresAt_real fin b qi ki t ht onDiag hd h r k q hq) hM hL fun x => ?_
  rw [hA, rowsOf_at, accOf_at, ← hM]
  refine congrArg₂ (· + ·) rfl (Finset.sum_congr rfl fun k _ => ?_)
  rw [valR_real fin b qi ki hle t ht]

theorem Rows.init (b : Fin 2) (h : Fin 8) (q : Fin 4096) (r : Fin 512) :
    Rows (m := m) (c := c) b h q r (Finset.range 0) (Cert.Attn.init : State Ideal) := by
  refine Or.inl ⟨rfl, ?_, ?_, funext fun x => ?_⟩
  · refine Eq.trans ?_ bot_bits; pointwise [Cert.Attn.init, k0_pay1]
  · pointwise [Cert.Attn.init, k0_pay2]
  · simp only [Pi.zero_apply]; pointwise [Cert.Attn.init, k0_pay3]

/-- After the point of key block `ki`, up to the diagonal, the keys of the blocks up to it are in. -/
theorem rows_after (fin : Finite m c) (b : Fin 2) (qi : Fin 8) (h : Fin 8) (r : Fin 512) (q : Fin 4096)
    (hq : q.val = qi.val * 512 + r.val) : ∀ (n : ℕ) (ki : Fin 8), ki.val = n → ki ≤ qi → ∀ (t : Fin cfg0.N),
      t.val = b.val * 64 + qi.val * 8 + ki.val →
      Rows (m := m) (c := c) b h q r (Finset.range (512 * (ki.val + 1))) (stAt m c t.val t.isLt) := by
  intro n
  induction n with
  | zero =>
    intro ki hki hle t ht
    have hle' : ki.val ≤ qi.val := hle
    rw [stAt_first m c t (by omega)]
    have hs := Rows.init (m := m) (c := c) b h q r
    have e0 : Finset.range 0 = Finset.range (512 * ki.val) := by rw [hki]
    rw [e0] at hs
    rcases Nat.lt_or_eq_of_le hle' with hl | hl
    · rw [nextSt_below m c t _ (by omega)]
      exact Rows.step fin b qi ki t ht false (Or.inl ⟨rfl, hl⟩) h r q hq _ hs
    · rw [nextSt_diag m c t _ (by omega)]
      exact Rows.step fin b qi ki t ht true (Or.inr ⟨rfl, Fin.ext hl⟩) h r q hq _ hs
  | succ n ih =>
    intro ki hki hle t ht
    have hle' : ki.val ≤ qi.val := hle
    have htl := t.isLt
    have e1 : t.val / 8 = b.val * 8 + qi.val := by omega
    rw [stAt_next m c t (by omega)]
    have hs := ih ⟨n, by omega⟩ rfl (show n ≤ qi.val by omega) ⟨t.val - 1, by omega⟩ (by simp only; omega)
    have e0 : Finset.range (512 * ((⟨n, by omega⟩ : Fin 8).val + 1)) = Finset.range (512 * ki.val) := by rw [hki]
    rw [e0] at hs
    rcases Nat.lt_or_eq_of_le hle' with hl | hl
    · rw [nextSt_below m c t _ (by omega)]
      exact Rows.step fin b qi ki t ht false (Or.inl ⟨rfl, hl⟩) h r q hq _ hs
    · rw [nextSt_diag m c t _ (by omega)]
      exact Rows.step fin b qi ki t ht true (Or.inr ⟨rfl, Fin.ext hl⟩) h r q hq _ hs

/-- The attention's row of a query, as reals. -/
def attnRow (m : (ℓ : Loc nD τ sig) → Buf (Elt Ideal) ℓ) (c : Dev nD) (b : Fin 2) (h : Fin 8) (q : Fin 4096) (x : Fin 256) : ℝ :=
  mean (Finset.range 4096) (fun k => wt (scoreR m c b h q k) (k ≤ q.val)) fun k => valR m c b k x

theorem wt_nonneg (σ : ℝ) (on : Prop) [Decidable on] : 0 ≤ wt σ on := by
  unfold wt; split
  · exact (Real.exp_pos _).le
  · exact le_rfl

/-- What the kernel stores for a query block. -/
theorem outAt_real (fin : Finite m c) (b : Fin 2) (qi : Fin 8) (t : Fin cfg0.N) (ht : t.val / 8 = b.val * 8 + qi.val)
    (r : Fin 512) (q : Fin 4096) (hq : q.val = qi.val * 512 + r.val) (h : Fin 8) (v : Fin 128) (j : Fin 1024)
    (hj : j.val = 128 * h.val + v.val) :
    outAt m c t (ix2 r j) = ∑ x : Fin 256, (attnRow m c b h q x : EReal) * argW m c (ix3 x h v) := by
  have ed : (diagOf t).val = b.val * 64 + qi.val * 8 + qi.val := by
    show t.val / 8 * 8 + t.val / 8 % 8 = _; omega
  have hR := rows_after fin b qi h r q hq qi.val qi rfl le_rfl (diagOf t) ed
  have hpos : 0 < ∑ k ∈ Finset.range (512 * (qi.val + 1)), wt (scoreR m c b h q k) (k ≤ q.val) := by
    refine Finset.sum_pos' (fun k _ => wt_nonneg _ _) ⟨0, Finset.mem_range.mpr (by omega), ?_⟩
    unfold wt; rw [if_pos (Nat.zero_le _)]; exact Real.exp_pos _
  unfold outAt
  refine (outBlk_at _ _ _ _ h (ix2 r v) rfl hj).symm.trans ?_
  rw [headO_at]
  refine Finset.sum_congr rfl fun x _ => ?_
  rw [wuvOf_at, blk4_at, V4_at, accOf_at, rowsOf_at]
  refine congrArg (· * _) ((Holds.mean hR hpos x).trans ?_)
  unfold attnRow
  rw [mean_subset (Finset.range_subset_range.mpr (show 512 * (qi.val + 1) ≤ 4096 by omega)) _ fun k _ hk => ?_]
  have hk' := Finset.mem_range.not.mp hk
  unfold wt; exact if_neg (by omega)

end Reals

end Cert.Attn

end
-- ==== Proof.RefStages.lean ====
/- The reference in stages, each read at an index. -/
module

public import proofs.«01_k».proof.Proof.Gen.ReferenceIdeal.Run
public import Idealize.ShloMosaic.Lib.Pointwise

@[expose] public section

set_option maxRecDepth 16384

noncomputable section

namespace Cert.Attn.Ref

open Idealize.ShloMosaic Idealize.ShloMosaic.TcCoe
open Cert.ReferenceIdeal Cert.ReferenceIdeal.Gen

variable {F : FTy → Type} [FloatOps F]

/-- The scaled scores before the mask. -/
def dots (q : Vec F S2x4096x8x256 .f32) (qp : Vec F S2x4096x8x64 .f32) (lat : Vec F S2x4096x256 .f32) (kp : Vec F S2x4096x64 .f32) :
    FVec F S2x8x4096x4096 .f32 :=
  mulf (addf
      (transpose S2x8x4096x4096 [0, 3, 2, 1] (Host.dotGeneral dot_S2x4096x256_S2x4096x8x256_S2x4096x4096x8_2_3_1_12_0_0 none lat q)
        transposes_S2x4096x4096x8_S2x8x4096x4096_0_3_2_1)
      (transpose S2x8x4096x4096 [0, 3, 2, 1] (Host.dotGeneral dot_S2x4096x64_S2x4096x8x64_S2x4096x4096x8_2_3_1_12_0_0 none kp qp)
        transposes_S2x4096x4096x8_S2x8x4096x4096_0_3_2_1))
    (broadcastInDim S2x8x4096x4096 ![] bcast_S_S2x8x4096x4096 (constant S_ .f32 0x3D93CD3A#32))

/-- Which key is at or before the query. -/
def causal : IVec S2x8x4096x4096 1 :=
  broadcastInDim S2x8x4096x4096 ![2, 3] bcast_S4096x4096_S2x8x4096x4096_2_3
    (cmpi .sge
      (broadcastInDim S4096x4096 ![0, 1] bcast_S4096x1_S4096x4096_0_1
        (broadcastInDim S4096x1 ![0] bcast_S4096_S4096x1_0 (iotaInDim S4096 32 0)))
      (broadcastInDim S4096x4096 ![0, 1] bcast_S1x4096_S4096x4096_0_1
        (broadcastInDim S1x4096 ![1] bcast_S4096_S1x4096_1 (iotaInDim S4096 32 0))))

def masked (d : FVec F S2x8x4096x4096 .f32) : FVec F S2x8x4096x4096 .f32 :=
  select causal d (broadcastInDim S2x8x4096x4096 ![] bcast_S_S2x8x4096x4096 (id (constant S_ .f32 0xFF800000#32)))

def top (s : FVec F S2x8x4096x4096 .f32) : FVec F S2x8x4096 .f32 :=
  maximumf (broadcastInDim S2x8x4096 ![] bcast_S_S2x8x4096 (constant S_ .f32 0xFF800000#32))
    (Host.reduce FloatOps.maximumf s (constant S_ .f32 0xFF800000#32) reducesTo_S2x8x4096x4096_S2x8x4096_d3 h_S_)

/-- One number per query row, for each of its keys. -/
def along (x : FVec F S2x8x4096 .f32) : FVec F S2x8x4096x4096 .f32 :=
  broadcastInDim S2x8x4096x4096 ![0, 1, 2, 3] bcast_S2x8x4096x1_S2x8x4096x4096_0_1_2_3
    (broadcastInDim S2x8x4096x1 ![0, 1, 2] bcast_S2x8x4096_S2x8x4096x1_0_1_2 x)

def total (e : FVec F S2x8x4096x4096 .f32) : FVec F S2x8x4096 .f32 :=
  Host.reduceAdd e (constant S_ .f32 0x00000000#32) reducesTo_S2x8x4096x4096_S2x8x4096_d3 h_S_

def latent (p : FVec F S2x8x4096x4096 .f32) (lat : Vec F S2x4096x256 .f32) : FVec F S2x4096x8x256 .f32 :=
  transpose S2x4096x8x256 [0, 3, 2, 1]
    (Host.dotGeneral dot_S2x4096x256_S2x8x4096x4096_S2x256x8x4096_1_3_2_12_0_0 none lat p) transposes_S2x256x8x4096_S2x4096x8x256_0_3_2_1

def out (o : FVec F S2x4096x8x256 .f32) (w : Vec F S256x8x128 .f32) : FVec F S8192x1024 .bf16 :=
  truncf .bf16 (shapeCast S8192x1024
    (transpose S2x4096x8x128 [2, 3, 0, 1]
      (Host.dotGeneral dot_S256x8x128_S2x4096x8x256_S8x128x2x4096_0_3_2_01_1_2 none w o)
      transposes_S8x128x2x4096_S2x4096x8x128_2_3_0_1) shapeCasts_S2x4096x8x128_S8192x1024) bitsLt_bf16_f32

def soft (s : FVec F S2x8x4096x4096 .f32) : FVec F S2x8x4096x4096 .f32 :=
  Host.divf (Host.exp (subf s (along (top s)))) (along (total (Host.exp (subf s (along (top s))))))

theorem res_eq (m : (ℓ : Loc nD τ sig) → Buf (Elt F) ℓ) (c : Dev nD) :
    Value.res_main_v30 m c
      = out (latent (soft (masked (dots (m ((c.tc : Thread nD τ).loc main_arg0)) (m ((c.tc : Thread nD τ).loc main_arg1))
          (m ((c.tc : Thread nD τ).loc main_arg2)) (m ((c.tc : Thread nD τ).loc main_arg3)))))
          (m ((c.tc : Thread nD τ).loc main_arg2))) (m ((c.tc : Thread nD τ).loc main_arg4)) := rfl

/-- A largest entry along the last axis, of an array of any extents. -/
theorem max_last {n0 n1 n2 n3 : ℕ} (hr : (⟨4, ![n0, n1, n2, n3]⟩ : Shape).ReducesTo [3] ⟨3, ![n0, n1, n2]⟩) (hu : 0 < S_.numel)
    (s : FVec Ideal ⟨4, ![n0, n1, n2, n3]⟩ .f32) (z : FVec Ideal S_ .f32) (a : Fin n0) (b : Fin n1) (c : Fin n2) :
    Host.reduce FloatOps.maximumf s z hr hu (ix3 a b c)
      = Finset.univ.fold max (z (Shape.Idx.first hu) : EReal) fun k : Fin n3 => (s (ix4 a b c k) : EReal) := by
  pointwise

theorem largest_at {n0 n1 n2 n3 : ℕ} (hb : S_.BroadcastsInDim ⟨3, ![n0, n1, n2]⟩ ![])
    (hr : (⟨4, ![n0, n1, n2, n3]⟩ : Shape).ReducesTo [3] ⟨3, ![n0, n1, n2]⟩) (hu : 0 < S_.numel)
    (s : FVec Ideal ⟨4, ![n0, n1, n2, n3]⟩ .f32) (a : Fin n0) (b : Fin n1) (c : Fin n2) :
    maximumf (broadcastInDim ⟨3, ![n0, n1, n2]⟩ ![] hb (constant S_ .f32 0xFF800000#32))
        (Host.reduce FloatOps.maximumf s (constant S_ .f32 0xFF800000#32) hr hu) (ix3 a b c)
      = max (Ideal.ofBits .f32 0xFF800000#32)
        (Finset.univ.fold max (Ideal.ofBits .f32 0xFF800000#32) fun k : Fin n3 => (s (ix4 a b c k) : EReal)) := by
  refine congrArg₂ max ?_ ((max_last hr hu s _ a b c).trans ?_)
  · pointwise
  · rfl

/-- A sum along the last axis. -/
theorem sum_last {n0 n1 n2 n3 : ℕ} (hr : (⟨4, ![n0, n1, n2, n3]⟩ : Shape).ReducesTo [3] ⟨3, ![n0, n1, n2]⟩) (hu : 0 < S_.numel)
    (s : FVec Ideal ⟨4, ![n0, n1, n2, n3]⟩ .f32) (z : FVec Ideal S_ .f32) (a : Fin n0) (b : Fin n1) (c : Fin n2) :
    Host.reduceAdd s z hr hu (ix3 a b c) = (z (Shape.Idx.first hu) : EReal) + ∑ k : Fin n3, (s (ix4 a b c k) : EReal) := by
  pointwise

variable (b : Fin 2) (h : Fin 8) (q k : Fin 4096)

theorem dots_at (x0 : Vec Ideal S2x4096x8x256 .f32) (x1 : Vec Ideal S2x4096x8x64 .f32) (x2 : Vec Ideal S2x4096x256 .f32)
    (x3 : Vec Ideal S2x4096x64 .f32) :
    dots x0 x1 x2 x3 (ix4 b h q k)
      = ((∑ r : Fin 256, x2 (ix3 b k r) * x0 (ix4 b q h r) : EReal) + ∑ r : Fin 64, x3 (ix3 b k r) * x1 (ix4 b q h r))
        * Ideal.ofBits .f32 0x3D93CD3A#32 := by
  pointwise [dots]

theorem masked_at (d : FVec Ideal S2x8x4096x4096 .f32) :
    masked d (ix4 b h q k) = Scalar.select (IntOp.cmpi .sge (BitVec.ofNat 32 q.val) (BitVec.ofNat 32 k.val)) (d (ix4 b h q k))
      (Ideal.ofBits .f32 0xFF800000#32) := by
  pointwise [masked, causal, id]

theorem top_at (s : FVec Ideal S2x8x4096x4096 .f32) :
    top s (ix3 b h q) = max (Ideal.ofBits .f32 0xFF800000#32)
      (Finset.univ.fold max (Ideal.ofBits .f32 0xFF800000#32) fun k : Fin 4096 => s (ix4 b h q k)) := by
  unfold top; exact largest_at _ _ h_S_ s b h q

theorem along_at (x : FVec Ideal S2x8x4096 .f32) : along x (ix4 b h q k) = x (ix3 b h q) := by
  pointwise [along]

theorem total_at (e : FVec Ideal S2x8x4096x4096 .f32) : total e (ix3 b h q) = ∑ k : Fin 4096, e (ix4 b h q k) := by
  refine (sum_last _ h_S_ e _ b h q).trans ?_
  rw [show (constant (F := Ideal) S_ .f32 0x00000000#32) (Shape.Idx.first h_S_) = (0 : EReal) from by pointwise, zero_add]

theorem latent_at (p : FVec Ideal S2x8x4096x4096 .f32) (x2 : Vec Ideal S2x4096x256 .f32) (r : Fin 256) :
    latent p x2 (ix4 b q h r) = ∑ k : Fin 4096, x2 (ix3 b k r) * p (ix4 b h q k) := by
  pointwise [latent]

theorem out_at (o : FVec Ideal S2x4096x8x256 .f32) (w : Vec Ideal S256x8x128 .f32) (i : Fin 8192) (j : Fin 1024) :
    out o w (ix2 i j) = ∑ r : Fin 256, w (ix3 r ⟨j.val / 128, by omega⟩ ⟨j.val % 128, by omega⟩)
      * o (ix4 ⟨i.val / 4096, by omega⟩ ⟨i.val % 4096, by omega⟩ ⟨j.val / 128, by omega⟩ r) := by
  pointwise [out]

theorem soft_at (s : FVec Ideal S2x8x4096x4096 .f32) :
    soft s (ix4 b h q k)
      = Ideal.div (Ideal.exp (s (ix4 b h q k) - top s (ix3 b h q))) (∑ k : Fin 4096, Ideal.exp (s (ix4 b h q k) - top s (ix3 b h q))) := by
  have e : ∀ k, Host.exp (subf s (along (top s))) (ix4 b h q k) = Ideal.exp (s (ix4 b h q k) - top s (ix3 b h q)) := fun k => by
    rw [← along_at b h q k (top s)]; rfl
  rw [← e k, Finset.sum_congr rfl fun k _ => (e k).symm, ← total_at, ← along_at b h q k (total _)]; rfl

end Cert.Attn.Ref

end
-- ==== Proof.Algebraic.lean ====
/- The kernel's result is the reference's: the same mean of the values under the softmax, against the same projection. -/
module

public import proofs.«01_k».proof.Proof.Value
public import proofs.«01_k».proof.Proof.RefStages

@[expose] public section

set_option maxRecDepth 16384

noncomputable section

namespace Cert.Attn

open Idealize.ShloMosaic Idealize.ShloMosaic.TcCoe Idealize.SL.Sem
open Cert.KernelIdeal Cert.KernelIdeal.Gen
open scoped BigOperators

variable (m : (ℓ : Loc nD τ sig) → Buf (Elt Ideal) ℓ) (c : Dev nD)

/-- The reference's rows of mixed values, of the kernel's arguments. -/
def refLatent : FVec Ideal Cert.ReferenceIdeal.S2x4096x8x256 .f32 :=
  Ref.latent (Ref.soft (Ref.masked (Ref.dots (argQ m c) (argP m c) (argL m c) (argK m c)))) (argL m c)

/-- The reference's result, of the kernel's arguments. -/
def refOut : FVec Ideal Cert.ReferenceIdeal.S8192x1024 .bf16 := Ref.out (refLatent m c) (argW m c)

variable {m c}

theorem masked_real (fin : Finite m c) (b : Fin 2) (h : Fin 8) (q k : Fin 4096) :
    Ref.masked (Ref.dots (argQ m c) (argP m c) (argL m c) (argK m c)) (ix4 b h q k)
      = sc (scoreR m c b h q k.val) (k.val ≤ q.val) := by
  have e1 : ∑ x : Fin 256, (argL m c (ix3 b k x) : EReal) * argQ m c (ix4 b q h x)
      = ((∑ x : Fin 256, rL m c (ix3 b k x) * rQ m c (ix4 b q h x) : ℝ) : EReal) :=
    sum_coe _ _ _ fun x _ => by rw [fin.l, fin.q, ← EReal.coe_mul]
  have e2 : ∑ x : Fin 64, (argK m c (ix3 b k x) : EReal) * argP m c (ix4 b q h x)
      = ((∑ x : Fin 64, rK m c (ix3 b k x) * rP m c (ix4 b q h x) : ℝ) : EReal) :=
    sum_coe _ _ _ fun x _ => by rw [fin.k, fin.p, ← EReal.coe_mul]
  refine (Ref.masked_at b h q k _).trans ?_
  rw [Ref.dots_at, bot_bits, kappa_bits, e1, e2, ← EReal.coe_add, ← EReal.coe_mul, select_causal _ _ (by omega) (by omega)]
  unfold scoreR; rw [dif_pos k.isLt]

theorem refLatent_real (fin : Finite m c) (b : Fin 2) (h : Fin 8) (q : Fin 4096) (x : Fin 256) :
    refLatent m c (ix4 b q h x) = (attnRow m c b h q x : EReal) := by
  have hs := fun k => masked_real fin b h q k
  unfold refLatent
  refine (Ref.latent_at b h q _ _ x).trans ?_
  revert hs
  generalize Ref.masked (Ref.dots (argQ m c) (argP m c) (argL m c) (argK m c)) = s
  intro hs
  have hv : ∀ k : Fin 4096, (argL m c (ix3 b k x) : EReal) = (valR m c b k.val x : EReal) := fun k => by
    rw [fin.l]; unfold valR; rw [dif_pos k.isLt]
  have hM : (Ref.top s (ix3 b h q) : EReal) = Finset.univ.fold max ⊥ fun k : Fin 4096 => (s (ix4 b h q k) : EReal) := by
    rw [Ref.top_at, bot_bits, max_eq_right bot_le]
  refine (Finset.sum_congr rfl fun k _ => congrArg₂ (· * ·) (hv k) (Ref.soft_at b h q k s)).trans ?_
  exact softmax_mean 4096 (scoreR m c b h q) (fun k => k ≤ q.val) ⟨0, Nat.zero_le _⟩ (fun k => valR m c b k x) _ hs _ hM _ rfl

/-- What the kernel leaves in its result is the reference's result. -/
theorem kernel_result (fin : Finite m c) : (dats m 0 c).arrAt 5 cfg0.N = refOut m c := by
  refine result_eq m c (refOut m c) fun t r j i h7 hi => ?_
  have ht := t.isLt
  have hN := N_eq
  have hi' := i.isLt
  refine (outAt_real fin ⟨t.val / 64, by omega⟩ ⟨t.val / 8 % 8, by omega⟩ t (by simp only; omega) r
    ⟨i.val % 4096, by omega⟩ (by simp only; omega) ⟨j.val / 128, by omega⟩ ⟨j.val % 128, by omega⟩ j (by simp only; omega)).trans ?_
  refine Eq.trans ?_ (Ref.out_at (refLatent m c) (argW m c) i j).symm
  refine Finset.sum_congr rfl fun x _ => ?_
  rw [refLatent_real fin, mul_comm]
  refine congrArg₂ (· * ·) rfl (congrArg (fun b => (attnRow m c b _ _ x : EReal)) (Fin.ext ?_))
  simp only; omega

end Cert.Attn

end
-- ==== Proof.Finite.lean ====
/- The precondition says that four of the arguments are finite. -/
module

public import proofs.«01_k».proof.Defs
public import proofs.«01_k».proof.Proof.Gen.Pre_finite
public import proofs.«01_k».proof.Proof.Value

@[expose] public section

noncomputable section

namespace Cert.Attn

open Idealize.ShloMosaic Idealize.ShloMosaic.TcCoe
open Cert.KernelIdeal Cert.KernelIdeal.Gen

theorem top_bits : Ideal.ofBits .f32 0x7F800000#32 = ⊤ := by simp [Ideal.ofBits, Ideal.ieee]

/-- An extended real whose absolute value compares below the infinite one is real. -/
theorem real_of_below (x : EReal) (h : Ideal.cmp .olt (max x (-x)) (Ideal.ofBits .f32 0x7F800000#32) = 1#1) : x = (x.toReal : EReal) := by
  rw [top_bits] at h
  have hlt : max x (-x) < ⊤ := by
    by_contra hn
    simp [Ideal.cmp, hn] at h
  refine (EReal.coe_toReal ?_ ?_).symm
  · rintro rfl; simp at hlt
  · rintro rfl; simp at hlt

/-- The same of an array. -/
theorem real_of_pred {s : Shape} (x : FVec Ideal s .f32) (hb : (⟨0, ![]⟩ : Shape).BroadcastsInDim s ![])
    (h : cmpf .olt (Host.absf x) (broadcastInDim s ![] hb (constant ⟨0, ![]⟩ .f32 0x7F800000#32)) = fun _ => 1#1) (i : s.Idx) :
    (x i : EReal) = (((x i : EReal).toReal : ℝ) : EReal) :=
  real_of_below (x i) (congrFun h i)

theorem finite_of_pre (m : (ℓ : Loc nD τ sig) → Buf (Elt Ideal) ℓ) (h : Cert.Pre_KernelIdeal_finite m) (c : Dev nD) : Finite m c where
  q := fun i => real_of_pred _ _ (h c).1 i
  p := fun i => real_of_pred _ _ (h c).2.1 i
  l := fun i => real_of_pred _ _ (h c).2.2.1 i
  k := fun i => real_of_pred _ _ (h c).2.2.2 i

end Cert.Attn

end
-- ==== Proof.DownSame.lean ====
/- The experts' down product's printed text and its ideal twin's are the same, so a run of the one is a run of the other. -/
module

public import proofs.«01_k».proof.Proof.Gen.Kernel2
public import proofs.«01_k».proof.Proof.Gen.Kernel2Ideal

@[expose] public section

set_option maxRecDepth 16384

noncomputable section

namespace Cert.Down

open Idealize.ShloMosaic

variable {F : FTy → Type} [FloatOps F]

/-- The two bodies. -/
theorem body_same : @Cert.Kernel2.cc0_ffn_down F _ _ = @Cert.Kernel2Ideal.cc0_ffn_down F _ _ := rfl

/-- The two tables of bodies. -/
theorem bodies_same : Cert.Kernel2.defs₀ (F := F) = Cert.Kernel2Ideal.defs₀ (F := F) := by
  funext p
  match p with
  | .tc =>
    funext ℓ a
    match ℓ, a with
    | ⟨0, _⟩, (t, s) => exact congrFun (congrFun (congrFun (congrFun (congrFun (congrFun (congrFun (congrFun (congrFun (congrFun (congrFun body_same (Cert.Kernel2Ideal.grid0.coords t)) (Memref.whole Cert.Kernel2Ideal.main_arg1)) (Memref.isWhole_whole _)) (Memref.whole Cert.Kernel2Ideal.main_arg2)) (Memref.isWhole_whole _)) (Cert.Kernel2Ideal.spec0_0.stage (s 0))) (Cert.Kernel2Ideal.Facts₀.hstage0_0 ((s 0).cast Cert.Kernel2Ideal.Facts₀.nbuf0_0))) (Cert.Kernel2Ideal.spec0_1.stage (s 1))) (Cert.Kernel2Ideal.Facts₀.hstage0_1 ((s 1).cast Cert.Kernel2Ideal.Facts₀.nbuf0_1))) (Cert.Kernel2Ideal.spec0_2.stage (s 2))) (Cert.Kernel2Ideal.Facts₀.hstage0_2 ((s 2).cast Cert.Kernel2Ideal.Facts₀.nbuf0_2))
  | .scScalar _ => rfl
  | .scVector _ _ => rfl

theorem defs_same : Cert.Kernel2.defs (F := F) = Cert.Kernel2Ideal.defs (F := F) :=
  congrArg (Pipeline.defs Cert.Kernel2Ideal.pcfgs) bodies_same

theorem main_same : Cert.Kernel2.main (F := F) = Cert.Kernel2Ideal.main (F := F) := rfl

end Cert.Down

end
-- ==== Proof.DownRun.lean ====
/- The experts' down product's body at one grid point: a tile that is in use, and a tile that is not. -/
module

public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Pipeline.ReadBack
public import Idealize.ShloMosaic.Lib.Pipeline.ValueKit
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

/-- The two tables: a tile's expert, and whether a tile is in use. -/
abbrev tabE : Memref sig .tc .smem S32 .i32 := Memref.whole main_arg1
abbrev tabV : Memref sig .tc .smem S32 .i32 := Memref.whole main_arg2

/-- The word of the second table that the body reads at a point. -/
abbrev wordOf (i : grid0.Coords) (T : S32.Idx → BitVec 32) : BitVec 32 := T fun a => match a with | ⟨0, _⟩ => i 0

theorem cond1_iff (w : BitVec 32) : k0_cond1 w = 1#1 ↔ w ≠ 0#32 := by
  unfold k0_cond1
  simp only [Scalar.cmpi, Scalar.extui, IntOp.cmpi]
  by_cases h : w = 0#32
  · subst h; decide
  · rw [show (w != 0#32) = true from bne_iff_ne.mpr h]; exact ⟨fun _ => h, fun _ => by decide⟩

theorem cond2_iff (w : BitVec 32) : k0_cond2 w = 1#1 ↔ w = 0#32 := by
  unfold k0_cond2
  simp only [Scalar.cmpi, Scalar.extui, IntOp.cmpi]
  by_cases h : w = 0#32
  · subst h; decide
  · rw [show (w == 0#32) = false from beq_eq_false_iff_ne.mpr h]
    exact ⟨fun h' => absurd h' (by decide), fun h' => absurd h' h⟩

theorem read1 (i : grid0.Coords) (T : S32.Idx → BitVec 32) :
    View.readAt (Elt F) tabV.view (Rect.unit (s := S32) (k0_off1 i) S1.size (k0_off1_inb i)).toLoadRect T
      (Shape.Idx.first (numel1_S1.symm ▸ Nat.one_pos)) = wordOf i T :=
  congrArg T (funext fun a => Fin.ext (by
    have h := congrFun (k0_off1_eq i) 0
    fin_cases a
    exact (Nat.add_zero _).trans h))

theorem read2 (i : grid0.Coords) (T : S32.Idx → BitVec 32) :
    View.readAt (Elt F) tabV.view (Rect.unit (s := S32) (k0_off2 i) S1.size (k0_off2_inb i)).toLoadRect T
      (Shape.Idx.first (numel1_S1.symm ▸ Nat.one_pos)) = wordOf i T :=
  congrArg T (funext fun a => Fin.ext (by
    have h := congrFun (k0_off2_eq i) 0
    fin_cases a
    exact (Nat.add_zero _).trans h))

set_option maxHeartbeats 4000000 in
/-- A tile in use: the product of its rows and its expert's block. -/
theorem run_used (c : Dev nD) (i : grid0.Coords)
    (arg4 : Memref sig .tc .vmem S768x5632 .bf16) (harg4 : arg4.IsWhole) (arg5 : Memref sig .tc .vmem S1x5632x512 .f32)
    (harg5 : arg5.IsWhole) (arg6 : Memref sig .tc .vmem S768x512 .f32) (harg6 : arg6.IsWhole)
    (T0 T1 : S32.Idx → BitVec 32) (x0 : Vec F S768x5632 .bf16) (x1 : Vec F S1x5632x512 .f32)
    (hw : wordOf i T1 ≠ 0#32) (E : Set ℕ) (K : PUnit → sProp 𝕄) :
    iprop(owns (c : Thread nD τ) arg4 fullShare x0
        ∗ owns (c : Thread nD τ) arg5 fullShare x1
        ∗ (tabE.view.loc (c : Thread nD τ) ↦{fullShare.right} T0)
        ∗ (tabV.view.loc (c : Thread nD τ) ↦{fullShare.right} T1)
        ∗ (∃ d, owns (c : Thread nD τ) arg6 fullShare d)
        ∗ (iprop(owns (c : Thread nD τ) arg4 fullShare x0
            ∗ owns (c : Thread nD τ) arg5 fullShare x1
            ∗ (tabE.view.loc (c : Thread nD τ) ↦{fullShare.right} T0)
            ∗ (tabV.view.loc (c : Thread nD τ) ↦{fullShare.right} T1)
            ∗ owns (c : Thread nD τ) arg6 fullShare (k0_pay1 x0 x1)) -∗ K ⟨⟩))
      ⊢ wp frame (wpE (defs₀ (F := F)) Variants.none c none) E
          (cc0_ffn_down i (Memref.whole main_arg1) (Memref.isWhole_whole _) (Memref.whole main_arg2) (Memref.isWhole_whole _)
            arg4 harg4 arg5 harg5 arg6 harg6) K := by
  have h1 := (cond1_iff _).mpr hw
  have h2 := fun h => hw ((cond2_iff _).mp h)
  rw [← read1 (F := F)] at h1
  rw [← read2 (F := F)] at h2
  unfold owns; rw [cc0_ffn_down_eq_skeleton]; unfold cc0_ffn_down_skel
  iintro ⟨⟨%f0, %hf0, H0⟩, ⟨%f1, %hf1, H1⟩, HT0, HT1, ⟨%d2, %f2, -, H2⟩, Hk⟩
  subst hf0 hf1
  have hT0 : tabE.IsWhole := Memref.isWhole_whole _
  have hT1 : tabV.IsWhole := Memref.isWhole_whole _
  sl_exec! (disch := first | (guard_target = k0_cond1 _ = _; exact h1) | (guard_target = ¬(k0_cond2 _ = _); exact h2))
  sl_step
  iapply Hk
  isplitl [H0]
  · iexists _; isplitr; · ipureintro; rfl
    iexact H0
  isplitl [H1]
  · iexists _; isplitr; · ipureintro; rfl
    iexact H1
  isplitl [HT0]; · iexact HT0
  isplitl [HT1]; · iexact HT1
  iexists _; isplitr; swap; · iexact H2
  ipureintro
  refine (View.read_writes_eq_canon _ _ _ (View.cover_of_tiled_head _ _ _ (by rfl))).trans ?_
  sl_unfold_run_names
  refine (View.canon_unit_zero (by decide) _ _).trans ?_
  exact congrArg₂ k0_pay1 (View.readAt_full _ _ _) (View.readAt_full _ _ _)

set_option maxHeartbeats 4000000 in
/-- A tile not in use: zeros. -/
theorem run_unused (c : Dev nD) (i : grid0.Coords)
    (arg4 : Memref sig .tc .vmem S768x5632 .bf16) (harg4 : arg4.IsWhole) (arg5 : Memref sig .tc .vmem S1x5632x512 .f32)
    (harg5 : arg5.IsWhole) (arg6 : Memref sig .tc .vmem S768x512 .f32) (harg6 : arg6.IsWhole)
    (T0 T1 : S32.Idx → BitVec 32) (x0 : Vec F S768x5632 .bf16) (x1 : Vec F S1x5632x512 .f32)
    (hw : wordOf i T1 = 0#32) (E : Set ℕ) (K : PUnit → sProp 𝕄) :
    iprop(owns (c : Thread nD τ) arg4 fullShare x0
        ∗ owns (c : Thread nD τ) arg5 fullShare x1
        ∗ (tabE.view.loc (c : Thread nD τ) ↦{fullShare.right} T0)
        ∗ (tabV.view.loc (c : Thread nD τ) ↦{fullShare.right} T1)
        ∗ (∃ d, owns (c : Thread nD τ) arg6 fullShare d)
        ∗ (iprop(owns (c : Thread nD τ) arg4 fullShare x0
            ∗ owns (c : Thread nD τ) arg5 fullShare x1
            ∗ (tabE.view.loc (c : Thread nD τ) ↦{fullShare.right} T0)
            ∗ (tabV.view.loc (c : Thread nD τ) ↦{fullShare.right} T1)
            ∗ owns (c : Thread nD τ) arg6 fullShare k0_pay2) -∗ K ⟨⟩))
      ⊢ wp frame (wpE (defs₀ (F := F)) Variants.none c none) E
          (cc0_ffn_down i (Memref.whole main_arg1) (Memref.isWhole_whole _) (Memref.whole main_arg2) (Memref.isWhole_whole _)
            arg4 harg4 arg5 harg5 arg6 harg6) K := by
  have h1 := fun h => (cond1_iff _).mp h hw
  have h2 := (cond2_iff _).mpr hw
  rw [← read1 (F := F)] at h1
  rw [← read2 (F := F)] at h2
  unfold owns; rw [cc0_ffn_down_eq_skeleton]; unfold cc0_ffn_down_skel
  iintro ⟨⟨%f0, %hf0, H0⟩, ⟨%f1, %hf1, H1⟩, HT0, HT1, ⟨%d2, %f2, -, H2⟩, Hk⟩
  subst hf0 hf1
  have hT0 : tabE.IsWhole := Memref.isWhole_whole _
  have hT1 : tabV.IsWhole := Memref.isWhole_whole _
  sl_exec! (disch := first | (guard_target = ¬(k0_cond1 _ = _); exact h1) | (guard_target = k0_cond2 _ = _; exact h2))
  sl_step
  iapply Hk
  isplitl [H0]
  · iexists _; isplitr; · ipureintro; rfl
    iexact H0
  isplitl [H1]
  · iexists _; isplitr; · ipureintro; rfl
    iexact H1
  isplitl [HT0]; · iexact HT0
  isplitl [HT1]; · iexact HT1
  iexists _; isplitr; swap; · iexact H2
  ipureintro
  refine (View.read_writes_eq_canon _ _ _ (View.cover_of_tiled_head _ _ _ (by rfl))).trans ?_
  sl_unfold_run_names
  exact View.canon_unit_zero (by decide) _ _

end Cert.Down

end
-- ==== Proof.DownData.lean ====
/- The experts' down product's pipeline at any tables in range: its data, the body's triple at every point, the run. -/
module

public import proofs.«01_k».proof.Proof.DownRun

@[expose] public section

set_option maxRecDepth 16384

noncomputable section

namespace Cert.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

/-- The two tables of an admissible pair, and the pipeline at them. -/
abbrev tE : S32.Idx → BitVec 32 := a.1 0
abbrev tV : S32.Idx → BitVec 32 := a.1 1
abbrev cfgT : Pipeline.Cfg sig Λ₀ := cfg0 (F := F) a
abbrev pinned : Fin 1 → Pipeline.Cfg sig Λ₀ := Pipeline.pin (pcfgs (F := F)) fun _ => a
abbrev pt (t : Fin (cfgT a).N) : grid0.Coords := grid0.coords t

abbrev b0 (t : Fin (cfgT a).N) : Memref sig .tc .vmem S768x5632 .bf16 := spec0_0.stage ((cfgT a).slots t (0 : Fin 3))
abbrev b1 (t : Fin (cfgT a).N) : Memref sig .tc .vmem S1x5632x512 .f32 := spec0_1.stage ((cfgT a).slots t (1 : Fin 3))
abbrev b2 (t : Fin (cfgT a).N) : Memref sig .tc .vmem S768x512 .f32 := spec0_2.stage ((cfgT a).slots t (2 : Fin 3))

/-- A window's block at a point, of the array as launched. -/
def blkOf (c : Dev nD) (w : Fin (cfgT a).W) (t : Fin (cfgT a).N) :
    (((cfgT a).win w).xblock ((cfgT a).grid.coords t)).Idx → Elt F ((cfgT a).win w).elt :=
  (((cfgT a).win w).blk t).view.read (Elt F) (m (((cfgT a).win w).arr.view.loc (c : Thread nD τ)))

/-- What the body stores at a point. -/
def outOf (c : Dev nD) (t : Fin (cfgT a).N) : Vec F S768x512 .f32 :=
  if wordOf (pt a t) (tV a) = 0#32 then k0_pay2 else k0_pay1 (blkOf a m c 0 t) (blkOf a m c 1 t)

/-- Between points: the body's halves of the tables. -/
def held (c : Dev nD) : sProp 𝕄 :=
  iprop((tabE.view.loc (c : Thread nD τ) ↦{fullShare.right} tE a) ∗ (tabV.view.loc (c : Thread nD τ) ↦{fullShare.right} tV a))

def dats (_ : Fin 1) (c : Dev nD) : Dat τ (Elt F) Unit ℕ (UR sig nD τ) ℕ (cfgT a) c where
  A w := m (((cfgT a).win w).arr.view.loc (c : Thread nD τ))
  after w t := match w with
    | ⟨0, _⟩ => blkOf a m c (0 : Fin 3) t
    | ⟨1, _⟩ => blkOf a m c (1 : Fin 3) t
    | ⟨2, _⟩ => outOf a m c t
  Φ _ := held a c
  q _ := fullShare
  owed _ := 0

theorem after_0 (c : Dev nD) (t : Fin (cfgT a).N) : (dats a m 0 c).after (0 : Fin 3) t = blkOf a m c (0 : Fin 3) t := rfl
theorem after_1 (c : Dev nD) (t : Fin (cfgT a).N) : (dats a m 0 c).after (1 : Fin 3) t = blkOf a m c (1 : Fin 3) t := rfl
theorem after_2 (c : Dev nD) (t : Fin (cfgT a).N) : (dats a m 0 c).after (2 : Fin 3) t = outOf a m c t := rfl

theorem before_0 (c : Dev nD) (t : Fin (cfgT a).N) (d) : (dats a m 0 c).before (0 : Fin 3) t d = blkOf a m c (0 : Fin 3) t :=
  ((dats a m 0 c).before_in_eq_fetched (0 : Fin 3) rfl (fun _ => rfl) (fun _ _ _ => rfl)
    (fun t => by rw [after_0]; unfold Dat.blockOf blkOf; rfl) t d).trans (by unfold Dat.fetched Dat.blockOf blkOf; rfl)
theorem before_1 (c : Dev nD) (t : Fin (cfgT a).N) (d) : (dats a m 0 c).before (1 : Fin 3) t d = blkOf a m c (1 : Fin 3) t :=
  ((dats a m 0 c).before_in_eq_fetched (1 : Fin 3) rfl (fun _ => rfl) (fun _ _ _ => rfl)
    (fun t => by rw [after_1]; unfold Dat.blockOf blkOf; rfl) t d).trans (by unfold Dat.fetched Dat.blockOf blkOf; rfl)

/-- One of the two conditions holds at every point, so the body stores its output there. -/
theorem stores (t : Fin (cfgT a).N) : (cfgT a).idle (2 : Fin 3) ((cfgT a).grid.coords t) = false := by
  have h : ∀ w : BitVec 32, (!(k0_cond1 w == 1#1) && !(k0_cond2 w == 1#1)) = false := fun w => by
    by_cases hw : w = 0#32
    · rw [(cond2_iff w).mpr hw]; simp
    · rw [(cond1_iff w).mpr hw]; simp
  exact h (a.1.atD 1 (k0_off1 ((cfgT a).grid.coords t)))

abbrev bodyAt (t : Fin (cfgT a).N) : Prog (TpuEff nD τ sig (Elt F) Λ₀ .tc) PUnit :=
  cc0_ffn_down (pt a t) (Memref.whole main_arg1) (Memref.isWhole_whole _) (Memref.whole main_arg2) (Memref.isWhole_whole _)
    (b0 a t) (hstage0_0 (((cfgT a).slots t (0 : Fin 3)).cast nbuf0_0)) (b1 a t) (hstage0_1 (((cfgT a).slots t (1 : Fin 3)).cast nbuf0_1))
    (b2 a t) (hstage0_2 (((cfgT a).slots t (2 : Fin 3)).cast nbuf0_2))

set_option maxHeartbeats 4000000 in
theorem sound_body (c : Dev nD) (t : Fin (cfgT a).N) :
    iprop((dats a m 0 c).Φ t.castSucc ∗ (dats a m 0 c).owesAt () t.castSucc
        ∗ (∃ d, owns (c : Thread nD τ) (b0 a t) fullShare ((dats a m 0 c).before (0 : Fin 3) t d))
        ∗ (∃ d, owns (c : Thread nD τ) (b1 a t) fullShare ((dats a m 0 c).before (1 : Fin 3) t d))
        ∗ (∃ d, owns (c : Thread nD τ) (b2 a t) fullShare ((dats a m 0 c).before (2 : Fin 3) t d)))
      ⊢ wp frame (wpE (defs₀ (F := F)) Variants.none c none) Set.univ (bodyAt a t) fun _ =>
          iprop((dats a m 0 c).Φ t.succ ∗ (dats a m 0 c).owesAt () t.succ
            ∗ bigSep Finset.univ fun w : Fin (cfgT a).W =>
                match (cfgT a).idle w ((cfgT a).grid.coords t) with
                | true =>
                  match ((cfgT a).win w).flush t with
                  | false => iprop(∃ d, owns (c : Thread nD τ) (((cfgT a).win w).stage ((cfgT a).slots t w)) fullShare ((dats a m 0 c).before w t d))
                  | true => owns (c : Thread nD τ) (((cfgT a).win w).stage ((cfgT a).slots t w)) fullShare ((dats a m 0 c).after w t)
                | false => owns (c : Thread nD τ) (((cfgT a).win w).stage ((cfgT a).slots t w)) fullShare ((dats a m 0 c).after w t)) := by
  rw [bigSep_W0]
  rewrite [stores a t]
  simp only [before_0, before_1, after_0, after_1, after_2]
  rewrite [show (dats a m 0 c).Φ t.succ = held a c from rfl, show (dats a m 0 c).Φ t.castSucc = held a c from rfl,
    show (dats a m 0 c).owesAt () t.succ = (dats a m 0 c).owesAt () t.castSucc from rfl]
  unfold held outOf
  by_cases hw : wordOf (pt a t) (tV a) = 0#32
  · rw [if_pos hw]
    iintro ⟨⟨HT0, HT1⟩, Ho, ⟨%d0, H0⟩, ⟨%d1, H1⟩, ⟨%d2, H2⟩⟩
    iapply (run_unused c (pt a t) _ _ _ _ _ _ (tE a) (tV a) (blkOf a m c (0 : Fin 3) t) (blkOf a m c (1 : Fin 3) t) hw Set.univ _)
    isplitl [H0]; · iexact H0
    isplitl [H1]; · iexact H1
    isplitl [HT0]; · iexact HT0
    isplitl [HT1]; · iexact HT1
    isplitl [H2]; · iexists _; iexact H2
    iintro ⟨H0, H1, HT0, HT1, H2⟩
    isplitl [HT0 HT1]
    · isplitl [HT0]
      · iexact HT0
      iexact HT1
    isplitl [Ho]; · iexact Ho
    isplitl [H0]; · iexact H0
    isplitl [H1]; · iexact H1
    iexact H2
  · rw [if_neg hw]
    iintro ⟨⟨HT0, HT1⟩, Ho, ⟨%d0, H0⟩, ⟨%d1, H1⟩, ⟨%d2, H2⟩⟩
    iapply (run_used c (pt a t) _ _ _ _ _ _ (tE a) (tV a) (blkOf a m c (0 : Fin 3) t) (blkOf a m c (1 : Fin 3) t) hw Set.univ _)
    isplitl [H0]; · iexact H0
    isplitl [H1]; · iexact H1
    isplitl [HT0]; · iexact HT0
    isplitl [HT1]; · iexact HT1
    isplitl [H2]; · iexists _; iexact H2
    iintro ⟨H0, H1, HT0, HT1, H2⟩
    isplitl [HT0 HT1]
    · isplitl [HT0]
      · iexact HT0
      iexact HT1
    isplitl [Ho]; · iexact Ho
    isplitl [H0]; · iexact H0
    isplitl [H1]; · iexact H1
    iexact H2

theorem body_obligation (c : Dev nD) : BodyObligation (dats a m 0 c) (defs₀ (F := F)) Variants.none () Set.univ := fun t => by
  rw [bigSep_W0]
  exact sound_body a m c t

/-! ## The launch -/

theorem share_eq (c : Dev nD) (w : Fin (cfgT a).W) : (dats a m 0 c).share w = fullShare := by unfold Dat.share; split <;> rfl

/-- The tables as the launch hands them over. -/
theorem tables_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem held_in (c : Dev nD) :
    iprop(BI.emp ∗ Pipeline.prefHeld pre0 c (fun _ => fullShare.right) a.1 ∗ Pipeline.scopedRest spec0 c) ⊢ (dats a m 0 c).Φ 0 := by
  rw [tables_eq, scopedRest0_eq, show (dats a m 0 c).Φ 0 = held a c from rfl]
  unfold held
  iintro ⟨-, ⟨HT0, HT1⟩, -⟩
  isplitl [HT0]
  · iexact HT0
  iexact HT1

theorem held_out (c : Dev nD) : (dats a m 0 c).Φ (Fin.last (cfgT a).N) ⊢ iprop(BI.emp ∗ Pipeline.scopedRest spec0 c) := by
  rw [scopedRest0_eq, show (dats a m 0 c).Φ (Fin.last (cfgT a).N) = held a c from rfl]
  unfold held
  iintro ⟨-, -⟩
  isplitr; · iempintro
  iempintro

/-- Every array at what the pipeline computes, every table as it was. -/
def Ends : PUnit × MemSt nD τ sig (Elt F) → Prop := fun r =>
  ∀ c : Dev nD, (∀ w : Fin (cfgT a).W, r.2.mem (((cfgT a).win w).arr.view.loc (c : Thread nD τ)) = (dats a m 0 c).arrAt w (cfgT a).N)
    ∧ ∀ j, r.2.mem ((c : Thread nD τ).loc (pre0.ref j)) = a.1 j

set_option backward.isDefEq.respectTransparency.types false in
set_option maxHeartbeats 4000000 in
theorem run_quiet (hp : ∀ (c : Dev nD) (j : Fin 2), m ((c : Thread nD τ).loc (pre0.ref j)) = a.1 j) :
    θ_run (defs (F := F)) (onTc (τ := τ) (main (F := F))) ⟨m, fun _ => 0, ρ⟩ (fun r => Ends a m r ∧ r.2.sem = fun _ => 0) :=
  Pipeline.θ_run_region_noSem_pf_quiescent pcfgs (fun _ => a) (dats a m) () ((launch0 (F := F)).cellOf_inj fun _ => a) (0 : Fin 1)
    (launch0 (F := F)).win.to₀ (launch0 (F := F)).pre (emb₁ : Emb (UR sig nD τ) 𝕄) defs₀ Variants.none m ρ main
    (hbody := fun c => (body_obligation a m c).loose) (hne := (launch0 (F := F)).block_pos)
    (harr := (launch0 (F := F)).arr_whole) (hstage := (launch0 (F := F)).stage_whole) (howed := fun _ _ => rfl)
    (u₀ := initOf (Pipeline.cells (pinned a) ((launch0 (F := F)).cellOf_inj fun _ => a))
      (Pipeline.launchToks (pinned a) ((launch0 (F := F)).cellOf_inj fun _ => a)))
    (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pinned a) (dats a m) 0 (launch0 (F := F)).win.arr_inj c (launch0 (F := F)).arr_whole
      (share_eq a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := held_in a m)
    (hout := held_out a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The output's array named, the arguments as they were, every counter zero. -/
theorem run_main (hp : ∀ (c : Dev nD) (j : Fin 2), m ((c : Thread nD τ).loc (pre0.ref j)) = a.1 j) :
    θ_run (defs (F := F)) (onTc (τ := τ) (main (F := F))) ⟨m, fun _ => 0, ρ⟩ (fun r => (∀ c : Dev nD,
      r.2.mem ((c.tc : Thread nD τ).loc main_v0) = (dats a m 0 c).arrAt (2 : Fin 3) (cfgT a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 (2 : Fin 3),
    ((h.1 c).1 (0 : Fin 3)).trans ((dats a m 0 c).arrAt_in (0 : Fin 3) rfl _),
    ((h.1 c).2 0).trans (hp c 0).symm, ((h.1 c).2 1).trans (hp c 1).symm,
    ((h.1 c).1 (1 : Fin 3)).trans ((dats a m 0 c).arrAt_in (1 : Fin 3) rfl _)⟩, h.2⟩) (run_quiet a m ρ hp)

end Cert.Down

end
-- ==== Proof.DownValue.lean ====
/- The experts' down product's blocks read at an index, and its result's array, at tables in range. -/
module

public import proofs.«01_k».proof.Proof.DownData
public import Idealize.ShloMosaic.Lib.Pointwise
public import Idealize.ShloMosaic.Lib.Claim
public import Idealize.ShloMosaic.Lib.Pipeline.Covers

@[expose] public section

set_option maxRecDepth 16384

noncomputable section

namespace Cert.Down

open Idealize.ShloMosaic Idealize.ShloMosaic.TcCoe
open Cert.Kernel2Ideal Cert.Kernel2Ideal.Gen

section Tables

variable {F : FTy → Type} [FloatOps F]

/-- The word of each table the second window's place is read from. -/
theorem at0 (pf : pre0.Contents (Elt F)) (i : grid0.Coords) :
    pf.at 0 (Rect.unit (s := S32) ![(Scalar.indexCast (BitVec.ofNat 32 (i 0).val) : Index).toNat] S1.size (k0_off1_inb i)) numel1_S1
      = wordOf i (pf 0) :=
  congrArg (pf 0) (funext fun a => Fin.ext (by
    have h := congrFun (k0_off1_eq i) 0
    fin_cases a
    exact (Nat.add_zero _).trans h))
theorem at1 (pf : pre0.Contents (Elt F)) (i : grid0.Coords) :
    pf.at 1 (Rect.unit (s := S32) ![(Scalar.indexCast (BitVec.ofNat 32 (i 0).val) : Index).toNat] S1.size (k0_off1_inb i)) numel1_S1
      = wordOf i (pf 1) :=
  congrArg (pf 1) (funext fun a => Fin.ext (by
    have h := congrFun (k0_off1_eq i) 0
    fin_cases a
    exact (Nat.add_zero _).trans h))

/-- The column block of a point: its own in a tile in use, the last otherwise. -/
theorem col_eq (v : BitVec 32) (n : ℕ) (hn : n < 4) :
    (Scalar.select (Scalar.cmpi .ne v 0#32) (BitVec.ofNat 32 n) 3#32).toNat = if v = 0#32 then 3 else n := by
  by_cases h : v = 0#32
  · subst h; rfl
  · rw [if_neg h]
    have : Scalar.cmpi .ne v 0#32 = 1#1 := by
      show BitVec.ofBool (v != 0#32) = 1#1
      rw [show (v != 0#32) = true from bne_iff_ne.mpr h]; rfl
    rw [this]
    show (BitVec.ofNat 32 n).toNat = n
    rw [BitVec.toNat_ofNat]; omega

theorem place1_eq (pf : pre0.Contents (Elt F)) (i : grid0.Coords) :
    cc0_transform_1 k0_off1_inb numel1_S1 pf i
      = ![(wordOf i (pf 0)).toNat, 0, if wordOf i (pf 1) = 0#32 then 3 else (i 1).val] := by
  funext d
  match d with
  | ⟨0, _⟩ => exact congrArg BitVec.toNat (at0 pf i)
  | ⟨1, _⟩ => rfl
  | ⟨2, _⟩ =>
    exact (congrArg (fun v => (Scalar.select (Scalar.cmpi .ne v 0#32) (BitVec.ofNat 32 (i 1).val) 3#32).toNat) (at1 pf i)).trans
      (col_eq _ _ (i 1).isLt)

/-- Tables whose experts are the eight there are keep every block inside its array. -/
theorem ok_of_range (pf : pre0.Contents (Elt F)) (h : ∀ x, (pf 0 x : BitVec 32).toNat < 8) : ok0 pf := fun i =>
  ⟨fun d => by
    rw [place1_eq]
    have h1 := (i 1).isLt
    have h0 : (wordOf i (pf 0)).toNat < 8 := h _
    match d with
    | ⟨0, _⟩ => show ((wordOf i (pf 0)).toNat + 1) * 1 ≤ 8; omega
    | ⟨1, _⟩ => show (0 + 1) * 5632 ≤ 5632; omega
    | ⟨2, _⟩ =>
      show ((if wordOf i (pf 1) = 0#32 then 3 else (i 1).val) + 1) * 512 ≤ 2048
      have h1' : (i 1).val < 4 := h1
      split <;> omega, Or.inl rfl⟩

variable (m : (ℓ : Loc nD τ sig) → Buf (Elt F) ℓ)

/-- The tables as launched. -/
def tabs : pre0.Contents (Elt F) := fun j => m (((0 : Dev nD) : Thread nD τ).loc (pre0.ref j))

abbrev InRange : Prop := ∀ x, (tabs m 0 x : BitVec 32).toNat < 8

def adm (h : InRange m) : (pcfg0 (F := F)).Adm := ⟨tabs m, ok_of_range (tabs m) h⟩

theorem adm_eq (h : InRange m) (c : Dev nD) (j : Fin 2) : m ((c : Thread nD τ).loc (pre0.ref j)) = (adm m h).1 j := by
  obtain rfl : c = 0 := Subsingleton.elim _ _
  rfl

end Tables

variable (a : (pcfg0 (F := Ideal)).Adm) (m : (ℓ : Loc nD τ sig) → Buf (Elt Ideal) ℓ) (c : Dev nD)

abbrev argU : Vec Ideal S24576x5632 .bf16 := m ((c.tc : Thread nD τ).loc main_arg0)
abbrev argW : Vec Ideal S8x5632x2048 .f32 := m ((c.tc : Thread nD τ).loc main_arg3)

theorem coord0 : ∀ t : Fin grid0.N, (grid0.coords t 0).val = t.val / 4 := by decide +kernel
theorem coord1 : ∀ t : Fin grid0.N, (grid0.coords t 1).val = t.val % 4 := by decide +kernel

theorem wordOf_eq (t : Fin (cfgT a).N) (p : Fin 32) (hp : p.val = t.val / 4) (T : S32.Idx → BitVec 32) :
    wordOf (pt a t) T = T (ix1 p) :=
  congrArg T (funext fun d => Fin.ext (by fin_cases d; exact (coord0 t).trans hp.symm))

theorem place0 : ∀ t : Fin (cfgT a).N, (pcfg0.win a 0).index t 0 = t.val / 4 ∧ (pcfg0.win a 0).index t 1 = 0 :=
  (by decide +kernel : ∀ t : Fin grid0.N, cc0_transform_0 (grid0.coords t) 0 = t.val / 4 ∧ cc0_transform_0 (grid0.coords t) 1 = 0)
theorem place2 : ∀ t : Fin (cfgT a).N, (pcfg0.win a 2).index t 0 = t.val / 4 ∧ (pcfg0.win a 2).index t 1 = t.val % 4 :=
  (by decide +kernel : ∀ t : Fin grid0.N, cc0_transform_2 (grid0.coords t) 0 = t.val / 4 ∧ cc0_transform_2 (grid0.coords t) 1 = t.val % 4)
theorem place1 (t : Fin (cfgT a).N) (h : wordOf (pt a t) (tV a) ≠ 0#32) :
    (pcfg0.win a 1).index t 0 = (wordOf (pt a t) (tE a)).toNat ∧ (pcfg0.win a 1).index t 1 = 0
      ∧ (pcfg0.win a 1).index t 2 = t.val % 4 := by
  have e : (pcfg0.win a 1).index t = ![(wordOf (pt a t) (tE a)).toNat, 0, (pt a t 1).val] :=
    (place1_eq a.1 (pt a t)).trans (by rw [if_neg h])
  rw [e]
  exact ⟨rfl, rfl, coord1 t⟩

theorem blk0_at (t : Fin (cfgT a).N) (r : Fin 768) (k : Fin 5632) (i : Fin 24576) (hi : i.val = t.val / 4 * 768 + r.val) :
    (blkOf a m c (0 : Fin 3) t : Vec Ideal S768x5632 .bf16) (ix2 r k) = argU m c (ix2 i k) := by
  have hp := place0 a t
  unfold blkOf argU
  generalize m = W
  blk_simp
  blk_ext

theorem blk1_at (t : Fin (cfgT a).N) (h : wordOf (pt a t) (tV a) ≠ 0#32) (e : Fin 8) (he : e.val = (wordOf (pt a t) (tE a)).toNat)
    (k : Fin 5632) (s : Fin 512) (j : Fin 2048) (hj : j.val = t.val % 4 * 512 + s.val) :
    (blkOf a m c (1 : Fin 3) t : Vec Ideal S1x5632x512 .f32) (ix3 0 k s) = argW m c (ix3 e k j) := by
  have hp := place1 a t h
  rw [← he] at hp
  unfold blkOf argW
  generalize m = W
  blk_simp
  blk_ext

/-- The product of a tile's rows and its expert's block, at an index. -/
theorem pay1_at (x : Vec Ideal S768x5632 .bf16) (w : Vec Ideal S1x5632x512 .f32) (r : Fin 768) (s : Fin 512) :
    k0_pay1 x w (ix2 r s) = ∑ k : Fin 5632, (x (ix2 r k) : EReal) * w (ix3 0 k s) := by
  pointwise [k0_pay1]

theorem pay2_at (r : Fin 768) (s : Fin 512) : (k0_pay2 (F := Ideal)) (ix2 r s) = Ideal.ofBits .f32 0x00000000#32 := by
  pointwise [k0_pay2]

theorem nblk2_0 : ((cfgT a).win (2 : Fin 3)).nblk (0 : Fin 2) = 32 := by
  unfold Pipeline.Window.nblk; exact (by decide : (24576 + 768 - 1) / 768 = 32)
theorem nblk2_1 : ((cfgT a).win (2 : Fin 3)).nblk (1 : Fin 2) = 4 := by
  unfold Pipeline.Window.nblk; exact (by decide : (2048 + 512 - 1) / 512 = 4)

/-- Every block of the result is some point's. -/
theorem covers2 : ((cfgT a).win (2 : Fin 3)).Covers :=
  Pipeline.Window.covers_of_index_surj _ rfl
    (by intro d; match d with | ⟨0, _⟩ => exact (by decide : 0 < 768) | ⟨1, _⟩ => exact (by decide : 0 < 512)) fun β => by
    have h0 : (β (0 : Fin 2)).val < 32 := lt_of_lt_of_eq (β (0 : Fin 2)).isLt (nblk2_0 a)
    have h1 : (β (1 : Fin 2)).val < 4 := lt_of_lt_of_eq (β (1 : Fin 2)).isLt (nblk2_1 a)
    have hp := place2 a ⟨(β (0 : Fin 2)).val * 4 + (β (1 : Fin 2)).val, (by omega : _ < 128)⟩
    refine ⟨⟨(β (0 : Fin 2)).val * 4 + (β (1 : Fin 2)).val, (by omega : _ < 128)⟩, fun d => ?_⟩
    have e0 : ((β (0 : Fin 2)).val * 4 + (β (1 : Fin 2)).val) / 4 = (β (0 : Fin 2)).val := by omega
    have e1 : ((β (0 : Fin 2)).val * 4 + (β (1 : Fin 2)).val) % 4 = (β (1 : Fin 2)).val := by omega
    match d with
    | ⟨0, _⟩ => exact hp.1.trans e0
    | ⟨1, _⟩ => exact hp.2.trans e1

/-- The result's array after the run, from what every point stores. -/
theorem result_eq (G : Buf (Elt Ideal) ((c.tc : Thread nD τ).loc main_v0))
    (h : ∀ (t : Fin (cfgT a).N) (r : Fin 768) (s : Fin 512) (i : Fin 24576) (j : Fin 2048), i.val = t.val / 4 * 768 + r.val →
      j.val = t.val % 4 * 512 + s.val → outOf a m c t (ix2 r s) = (G : Vec Ideal S24576x2048 .f32) (ix2 i j)) :
    (dats a m 0 c).arrAt (2 : Fin 3) (cfgT a).N = G := by
  refine (dats a m 0 c).arrAt_eq_of_covers (2 : Fin 3) _ (covers2 a) fun t hf y => ?_
  have hp := place2 a t
  rw [after_2]
  have ht : t.val < 128 := t.isLt
  obtain ⟨r, s, rfl⟩ : ∃ (r : Fin 768) (s : Fin 512), y = ix2 r s := ⟨y 0, y 1, eq_ix2 y⟩
  blk_simp
  refine (h t r s ⟨t.val / 4 * 768 + r.val, by omega⟩ ⟨t.val % 4 * 512 + s.val, by omega⟩ rfl rfl).trans ?_
  blk_ext

end Cert.Down

end
-- ==== Proof.DownRef.lean ====
/- The reference of the experts' down product, read at an index: each tile's rows against its expert's matrix. -/
module

public import proofs.«01_k».proof.Proof.Gen.Reference2Ideal.Run
public import Idealize.ShloMosaic.Lib.Pointwise

@[expose] public section

set_option maxRecDepth 16384

noncomputable section

namespace Cert.Down.Ref

open Idealize.ShloMosaic Idealize.ShloMosaic.TcCoe
open Cert.Reference2Ideal Cert.Reference2Ideal.Gen

variable {F : FTy → Type} [FloatOps F]

/-- The tiles' experts with a negative number counted from the end, as a column. -/
def column (te : IVec S32 32) : IVec S32x1 32 :=
  broadcastInDim S32x1 ![0] bcast_S32_S32x1_0
    (select (cmpi .slt te (broadcastInDim S32 ![] bcast_S_S32 (constantI S_ 32 0#32)))
      (addi te (broadcastInDim S32 ![] bcast_S_S32 (constantI S_ 32 8#32))) te)

/-- Each tile's expert's matrix. -/
def picked (te : IVec S32 32) (w : Vec F S8x5632x2048 .f32) : FVec F S32x5632x2048 .f32 :=
  Host.gather gather_S8x5632x2048_S32x1_S32x5632x2048_12_0_n_n_0_1_156322048 w (column te)

def prods (up : Vec F S24576x5632 .bf16) (e : FVec F S32x5632x2048 .f32) : FVec F S32x768x2048 .f32 :=
  Host.dotGeneral dot_S32x768x5632_S32x5632x2048_S32x768x2048_2_1_1_2_0_0 none
    (shapeCast S32x768x5632 (extf .f32 up bitsLt_bf16_f32) shapeCasts_S24576x5632_S32x768x5632) e

/-- Which tiles are in use. -/
def used (tv : IVec S32 32) : IVec S32x768x2048 1 :=
  broadcastInDim S32x768x2048 ![0, 1, 2] bcast_S32x1x1_S32x768x2048_0_1_2
    (cmpi .ne (broadcastInDim S32x1x1 ![0] bcast_S32_S32x1x1_0 tv)
      (broadcastInDim S32x1x1 ![] bcast_S_S32x1x1 (constantI S_ 32 0#32)))

def out (tv : IVec S32 32) (p : FVec F S32x768x2048 .f32) : FVec F S24576x2048 .f32 :=
  shapeCast S24576x2048 (select (used tv) p
    (broadcastInDim S32x768x2048 ![] bcast_S_S32x768x2048 (id (constant S_ .f32 0x00000000#32)))) shapeCasts_S32x768x2048_S24576x2048

/-- The reference's result, of its arguments. -/
def whole (up : Vec F S24576x5632 .bf16) (te tv : IVec S32 32) (w : Vec F S8x5632x2048 .f32) : FVec F S24576x2048 .f32 :=
  out tv (prods up (picked te w))

/-- The dimension numbers of taking one matrix of a stack for each entry of a column. -/
abbrev stackDims (N R C n : ℕ)
    (wf : GatherDims.WF ⟨3, ![N, R, C]⟩ ⟨2, ![n, 1]⟩ ⟨3, ![n, R, C]⟩ [1, 2] [0] [] [0] [] 1 ![1, R, C]) :
    GatherDims ⟨3, ![N, R, C]⟩ ⟨2, ![n, 1]⟩ ⟨3, ![n, R, C]⟩ where
  offsetDims := [1, 2]
  collapsedSliceDims := [0]
  operandBatchingDims := []
  startIndicesBatchingDims := []
  startIndexMap := [0]
  indexVectorDim := 1
  sliceSizes := ![1, R, C]
  wf := wf

/-- One matrix of a stack, at a row and a column of it. -/
theorem stack_at {α : Type} {N R C n w : ℕ} (hN : 0 < N)
    (wf : GatherDims.WF ⟨3, ![N, R, C]⟩ ⟨2, ![n, 1]⟩ ⟨3, ![n, R, C]⟩ [1, 2] [0] [] [0] [] 1 ![1, R, C])
    (x : (⟨3, ![N, R, C]⟩ : Shape).Idx → α) (idx : IVec ⟨2, ![n, 1]⟩ w) (p : Fin n) (r : Fin R) (j : Fin C) :
    Host.gather (stackDims N R C n wf) x idx (ix3 p r j)
      = x (ix3 ⟨min (idx (ix2 p 0)).toInt.toNat (N - 1), by omega⟩ r j) := by
  unfold Host.gather
  refine congrArg x (funext fun b => Fin.ext ?_)
  show (stackDims N R C n wf).start (ix3 p r j) idx b + (stackDims N R C n wf).batchCoord (ix3 p r j) b
      + (stackDims N R C n wf).offCoord (ix3 p r j) b = _
  rw [GatherDims.batchCoord_eq_zero _ _ _ List.not_mem_nil]
  match b with
  | ⟨0, h0⟩ =>
    rw [GatherDims.offCoord_eq_zero _ _ _ (fun h => ((GatherDims.mem_sKept _ _).mp h).1 (List.mem_singleton.mpr rfl))]
    unfold GatherDims.start
    rw [dif_pos (show (⟨0, h0⟩ : Fin 3) ∈ (stackDims N R C n wf).startIndexMap from List.mem_singleton.mpr rfl)]
    have hs : (stackDims N R C n wf).siIdx (ix3 p r j) ⟨List.idxOf (⟨0, h0⟩ : Fin 3) (stackDims N R C n wf).startIndexMap,
        List.idxOf_lt_length_iff.2 (List.mem_singleton.mpr rfl)⟩ = ix2 p 0 := by
      funext d; refine Fin.ext ?_
      match d with
      | ⟨0, _⟩ => rfl
      | ⟨1, _⟩ => rfl
    rw [hs]
    rfl
  | ⟨1, h1⟩ =>
    unfold GatherDims.start
    rw [dif_neg (show (⟨1, h1⟩ : Fin 3) ∉ (stackDims N R C n wf).startIndexMap from by simp)]
    unfold GatherDims.offCoord
    rw [dif_pos (show (⟨1, h1⟩ : Fin 3) ∈ (stackDims N R C n wf).sKept from by rw [GatherDims.mem_sKept]; simp)]
    exact Nat.zero_add _
  | ⟨2, h2⟩ =>
    unfold GatherDims.start
    rw [dif_neg (show (⟨2, h2⟩ : Fin 3) ∉ (stackDims N R C n wf).startIndexMap from by simp)]
    unfold GatherDims.offCoord
    rw [dif_pos (show (⟨2, h2⟩ : Fin 3) ∈ (stackDims N R C n wf).sKept from by rw [GatherDims.mem_sKept]; simp)]
    exact Nat.zero_add _

theorem column_at (te : IVec S32 32) (p : Fin 32) :
    column te (ix2 p 0) = Scalar.select (IntOp.cmpi .slt (te (ix1 p)) 0#32) (IntOp.addi (te (ix1 p)) 8#32) (te (ix1 p)) := by
  pointwise [column]

theorem picked_at (te : IVec S32 32) (w : Vec Ideal S8x5632x2048 .f32) (p : Fin 32) (h : (te (ix1 p)).toNat < 8)
    (r : Fin 5632) (j : Fin 2048) : picked te w (ix3 p r j) = w (ix3 ⟨(te (ix1 p)).toNat, h⟩ r j) := by
  unfold picked
  refine (stack_at (by decide) gather_S8x5632x2048_S32x1_S32x5632x2048_12_0_n_n_0_1_156322048_wf w (column te) p r j).trans ?_
  have hc : (column te (ix2 p 0)).toInt.toNat = (te (ix1 p)).toNat := by
    rw [column_at]
    generalize te (ix1 p) = v at h
    have hi : v.toInt = v.toNat := BitVec.toInt_eq_toNat_of_lt (by omega)
    have hs : IntOp.cmpi .slt v 0#32 = 0#1 := by
      simp only [IntOp.cmpi, BitVec.slt, hi]
      rw [decide_eq_false (by simp)]; rfl
    rw [hs]
    show v.toInt.toNat = _
    rw [hi]; rfl
  exact congrArg (fun e => w (ix3 e r j)) (Fin.ext (by simp only [hc]; omega))

theorem prods_at (up : Vec Ideal S24576x5632 .bf16) (e : FVec Ideal S32x5632x2048 .f32) (p : Fin 32) (r : Fin 768) (j : Fin 2048) :
    prods up e (ix3 p r j) = ∑ k : Fin 5632, (up (ix2 ⟨p.val * 768 + r.val, by omega⟩ k) : EReal) * e (ix3 p k j) := by
  pointwise [prods]

theorem out_at (tv : IVec S32 32) (p : FVec Ideal S32x768x2048 .f32) (i : Fin 24576) (j : Fin 2048) :
    out tv p (ix2 i j) = Scalar.select (IntOp.cmpi .ne (tv (ix1 ⟨i.val / 768, by omega⟩)) 0#32)
      (p (ix3 ⟨i.val / 768, by omega⟩ ⟨i.val % 768, by omega⟩ j)) (Ideal.ofBits .f32 0x00000000#32) := by
  pointwise [out, used, id]

theorem whole_at (up : Vec Ideal S24576x5632 .bf16) (te tv : IVec S32 32) (w : Vec Ideal S8x5632x2048 .f32) (i : Fin 24576) (j : Fin 2048)
    (p : Fin 32) (hp : p.val = i.val / 768) (e : Fin 8) (he : e.val = (te (ix1 p)).toNat) :
    whole up te tv w (ix2 i j) = Scalar.select (IntOp.cmpi .ne (tv (ix1 p)) 0#32)
      (∑ k : Fin 5632, (up (ix2 i k) : EReal) * w (ix3 e k j)) (Ideal.ofBits .f32 0x00000000#32) := by
  obtain rfl : p = ⟨i.val / 768, Nat.div_lt_of_lt_mul i.isLt⟩ := Fin.ext hp
  refine (out_at tv _ i j).trans (congrArg (fun s => Scalar.select _ s _) ?_)
  refine (prods_at up _ _ _ j).trans (Finset.sum_congr rfl fun k _ => congrArg₂ (· * ·) ?_ ?_)
  · exact congrArg (fun a => up (ix2 a k)) (Fin.ext (by simp only; omega))
  · exact (picked_at te w _ (he ▸ e.isLt) k j).trans (congrArg (fun a => w (ix3 a k j)) (Fin.ext he.symm))

end Cert.Down.Ref

end
-- ==== Proof.DownAlgebraic.lean ====
/- The experts' down product's result is the reference's, and the precondition puts its tables in range. -/
module

public import proofs.«01_k».proof.Defs
public import proofs.«01_k».proof.Proof.Gen.Pre_experts
public import proofs.«01_k».proof.Proof.DownValue
public import proofs.«01_k».proof.Proof.DownRef

@[expose] public section

set_option maxRecDepth 16384

noncomputable section

namespace Cert.Down

open Idealize.ShloMosaic Idealize.ShloMosaic.TcCoe
open Cert.Kernel2Ideal Cert.Kernel2Ideal.Gen

/-- A signed word from 0 to 7 is one of the eight numbers. -/
theorem word_range (v : BitVec 32) (h0 : IntOp.cmpi .sge v 0#32 = 1#1) (h8 : IntOp.cmpi .slt v 8#32 = 1#1) : v.toNat < 8 := by
  have e0 : (0#32).sle v = true := by
    by_contra hn
    simp only [IntOp.cmpi, Bool.not_eq_true] at h0 hn
    rw [hn] at h0; exact absurd h0 (by decide)
  have e8 : v.slt 8#32 = true := by
    by_contra hn
    simp only [IntOp.cmpi, Bool.not_eq_true] at h8 hn
    rw [hn] at h8; exact absurd h8 (by decide)
  simp only [BitVec.sle, BitVec.slt, decide_eq_true_eq] at e0 e8
  have z : (0#32).toInt = 0 := by decide
  have e : (8#32).toInt = 8 := by decide
  rw [z] at e0; rw [e] at e8
  have := BitVec.toInt_eq_toNat_cond v
  split at this <;> omega

/-- The precondition at its function's two results. -/
theorem range_of_fn {F : FTy → Type} [FloatOps F] (x0 : FVec F Cert.Pre_experts.S24576x5632 .bf16) (te tv : IVec Cert.Pre_experts.S32 32)
    (w : FVec F Cert.Pre_experts.S8x5632x2048 .f32)
    (h : (Cert.Pre_experts.fn x0 te tv w).1 = (fun _ => 1#1) ∧ (Cert.Pre_experts.fn x0 te tv w).2 = (fun _ => 1#1))
    (x : Cert.Pre_experts.S32.Idx) : (te x).toNat < 8 :=
  word_range (te x) (congrFun h.1 x) (congrFun h.2 x)

theorem range_ideal (m : (ℓ : Loc nD τ sig) → Buf (Elt Ideal) ℓ) (h : Cert.Pre_Kernel2Ideal m) : InRange m := fun x =>
  range_of_fn _ _ _ _ (h 0) x

theorem range_bits (m : (ℓ : Loc nD τ sig) → Buf (Elt Bits) ℓ) (h : Cert.Pre_Kernel2 m) : InRange m := fun x =>
  range_of_fn _ _ _ _ (h 0) x

variable (m : (ℓ : Loc nD τ sig) → Buf (Elt Ideal) ℓ) (c : Dev nD)

/-- The reference's result, of the kernel's arguments. -/
def refDown : FVec Ideal Cert.Reference2Ideal.S24576x2048 .f32 :=
  Ref.whole (m ((c.tc : Thread nD τ).loc main_arg0)) (m ((c.tc : Thread nD τ).loc main_arg1)) (m ((c.tc : Thread nD τ).loc main_arg2))
    (m ((c.tc : Thread nD τ).loc main_arg3))

/-- What the kernel leaves in its result is the reference's result. -/
theorem down_result (h : InRange m) : (dats (adm m h) m 0 c).arrAt (2 : Fin 3) (cfgT (adm m h)).N = refDown m c := by
  refine result_eq (adm m h) m c (refDown m c) fun t r s i j hi hj => ?_
  have ht : t.val < 128 := t.isLt
  obtain ⟨p, hp⟩ : ∃ p : Fin 32, p.val = t.val / 4 := ⟨⟨t.val / 4, by omega⟩, rfl⟩
  have hE := wordOf_eq (adm m h) t p hp (tE (adm m h))
  have hV := wordOf_eq (adm m h) t p hp (tV (adm m h))
  obtain rfl : c = 0 := Subsingleton.elim _ _
  have hr : (tE (adm m h) (ix1 p)).toNat < 8 := h _
  refine Eq.trans ?_ (Ref.whole_at (argU m 0) (tE (adm m h)) (tV (adm m h)) (argW m 0) i j p (by omega) ⟨_, hr⟩ rfl).symm
  unfold outOf
  by_cases hv : tV (adm m h) (ix1 p) = 0#32
  · rw [if_pos (hV.trans hv), hv]
    exact pay2_at r s
  · have hw : wordOf (pt (adm m h) t) (tV (adm m h)) ≠ 0#32 := fun e => hv (hV.symm.trans e)
    have hs : IntOp.cmpi .ne (tV (adm m h) (ix1 p)) 0#32 = 1#1 := by
      show BitVec.ofBool (_ != 0#32) = 1#1
      rw [show (tV (adm m h) (ix1 p) != 0#32) = true from bne_iff_ne.mpr hv]; rfl
    rw [if_neg hw, hs]
    refine (pay1_at _ _ r s).trans ?_
    refine Finset.sum_congr rfl fun k _ => congrArg₂ (fun x y : EReal => x * y) (blk0_at (adm m h) m 0 t r k i hi)
      (blk1_at (adm m h) m 0 t hw ⟨_, hr⟩ (congrArg BitVec.toNat hE.symm) k s j hj)

end Cert.Down

end
-- ==== Proof.UpSame.lean ====
/- The experts' up products' printed text and its ideal twin's are the same, so a run of the one is a run of the other. -/
module

public import proofs.«01_k».proof.Proof.Gen.Kernel3
public import proofs.«01_k».proof.Proof.Gen.Kernel3Ideal

@[expose] public section

set_option maxRecDepth 16384

noncomputable section

namespace Cert.Up

open Idealize.ShloMosaic

variable {F : FTy → Type} [FloatOps F]

/-- The two bodies. -/
theorem body_same : @Cert.Kernel3.cc0_ffn_up_gather F _ _ = @Cert.Kernel3Ideal.cc0_ffn_up_gather F _ _ := rfl

/-- The two tables of bodies. -/
theorem bodies_same : Cert.Kernel3.defs₀ (F := F) = Cert.Kernel3Ideal.defs₀ (F := F) := by
  funext p
  match p with
  | .tc =>
    funext ℓ a
    match ℓ, a with
    | ⟨0, _⟩, (t, s) => exact congrFun (congrFun (congrFun (congrFun (congrFun (congrFun (congrFun (congrFun (congrFun (congrFun (congrFun (congrFun (congrFun (congrFun (congrFun (congrFun (congrFun (congrFun (congrFun (congrFun body_same (Cert.Kernel3Ideal.grid0.coords t)) (Memref.whole Cert.Kernel3Ideal.main_arg1)) (Memref.isWhole_whole _)) (Memref.whole Cert.Kernel3Ideal.main_arg2)) (Memref.isWhole_whole _)) (Memref.whole Cert.Kernel3Ideal.main_arg3)) (Memref.isWhole_whole _)) (Memref.whole Cert.Kernel3Ideal.main_arg0)) (Memref.isWhole_whole _)) (Cert.Kernel3Ideal.spec0_0.stage (s 0))) (Cert.Kernel3Ideal.Facts₀.hstage0_0 ((s 0).cast Cert.Kernel3Ideal.Facts₀.nbuf0_0))) (Cert.Kernel3Ideal.spec0_1.stage (s 1))) (Cert.Kernel3Ideal.Facts₀.hstage0_1 ((s 1).cast Cert.Kernel3Ideal.Facts₀.nbuf0_1))) (Cert.Kernel3Ideal.spec0_2.stage (s 2))) (Cert.Kernel3Ideal.Facts₀.hstage0_2 ((s 2).cast Cert.Kernel3Ideal.Facts₀.nbuf0_2))) (Memref.whole Cert.Kernel3Ideal.cc0_scratch0)) (Memref.isWhole_whole _)) (Memref.whole Cert.Kernel3Ideal.cc0_scratch1)) (Memref.isWhole_whole _)) Cert.Kernel3Ideal.cc0_scratch2
  | .scScalar _ => rfl
  | .scVector _ _ => rfl

theorem defs_same : Cert.Kernel3.defs (F := F) = Cert.Kernel3Ideal.defs (F := F) :=
  congrArg (Pipeline.defs Cert.Kernel3Ideal.pcfgs) bodies_same

theorem main_same : Cert.Kernel3.main (F := F) = Cert.Kernel3Ideal.main (F := F) := rfl

end Cert.Up

end
-- ==== Proof.UpRun.lean ====
/- The experts' up products' gather: a tile's rows copied one by one from where the table says, then waited for one by one. -/
module

public import proofs.«01_k».proof.Proof.Gen.Kernel3Ideal.Skeleton
public import proofs.«01_k».proof.Proof.Gen.Kernel3Ideal.Launch
public import Idealize.ShloMosaic.Lib.Pipeline.Kit
public import Idealize.ShloMosaic.Lib.Pipeline.TableIdle
public import Idealize.ShloMosaic.Lib.Pipeline.FrameBody
public import Idealize.ShloMosaic.Lib.Pipeline.ReadBack
public import Idealize.ShloMosaic.Lib.Pipeline.ValueKit
public import Idealize.ShloMosaic.Lib.VecWindow
public import Idealize.ShloMosaic.Lib.Writes
public import Idealize.ShloMosaic.Lib.Ring
public import Idealize.ShloMosaic.Lib.Batch
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

/-- The staging cells' algebra beside the counters' that the copies in flight use. -/
abbrev UX : Type := UR sig nD τ × Counters

local notation "𝕄" => MT nD τ sig Unit (Elt F) ℕ UX ℕ

/-- The tables, the rows in main memory, and the two scratch blocks. -/
abbrev tabE : Memref sig .tc .smem S32 .i32 := Memref.whole main_arg1
abbrev tabV : Memref sig .tc .smem S32 .i32 := Memref.whole main_arg2
abbrev tabS : Memref sig .tc .smem S24576 .i32 := Memref.whole main_arg3
abbrev rowsH : Memref sig .tc .hbm S9216x2048 .f32 := Memref.whole main_arg0
abbrev rowsS : Memref sig .tc .vmem S768x2048 .f32 := Memref.whole cc0_scratch0
abbrev rowsB : Memref sig .tc .vmem S768x2048 .bf16 := Memref.whole cc0_scratch1

/-- How many rows a tile has. -/
abbrev NT : ℕ := k0_t1_loop.trips

theorem trips1 : k0_t1_loop.trips = 768 := by decide +kernel
theorem trips2 : k0_t2_loop.trips = 768 := by decide +kernel

/-- The word of the third table that the body reads at a trip. -/
abbrev rowWord (i : grid0.Coords) (T : S24576.Idx → BitVec 32) (k : Fin NT) : BitVec 32 :=
  View.readAt (Elt F) tabS.view (Rect.unit (s := S24576) (k0_off2 i k) S1.size (k0_off2_inb i k)).toLoadRect T
    (Shape.Idx.first (numel1_S1.symm ▸ Nat.one_pos))

/-- A word that names a row of the rows. -/
abbrev InRows (w : BitVec 32) : Prop := ∀ a, (k0_off4 w) a + S1x2048.size a ≤ S9216x2048.size a

/-- The row a word names, and a tile's row in the scratch block. -/
def srcRow (w : BitVec 32) (h : InRows w) : Memref sig .tc .hbm S1x2048 .f32 :=
  rowsH.slice (Rect.unit (s := S9216x2048) (k0_off4 w) S1x2048.size h) (fun _ => rfl)
def dstRow (k : Fin NT) : Memref sig .tc .vmem S1x2048 .f32 :=
  rowsS.slice (Rect.unit (s := S768x2048) (k0_off3 k) S1x2048.size (k0_off3_inb k)) (fun _ => rfl)

/-- One row's credit on the counter. -/
abbrev NN : ℕ := 256

theorem amount_eq (k : Fin NT) : (dstRow k).view.amount (SemLoc.dma (sig := sig) cc0_scratch2.sem) = NN := rfl

theorem at_storable {ℓ : Loc nD τ sig} (S : Finset ℓ.ty.Idx) (q : PosShare TreeShare) (f : Buf (Elt F) ℓ) :
    BI.Storable (upEmb : UEmb _ 𝕄) (ℓ ↦[S]{q} f) := inferInstance

section Names

variable (c : Dev nD) (i : grid0.Coords) (T : S24576.Idx → BitVec 32) (fh : S9216x2048.Idx → Elt F .f32) (f0 : S768x2048.Idx → Elt F .f32)
  (hr : ∀ k, InRows (rowWord (F := F) i T k))

/-- A row of the scratch block as it was, a row landed, and the row read, at one of the shares it is read under. -/
abbrev rowOwn (k : Fin NT) : sProp 𝕄 := (dstRow k).view.loc (c : Thread nD τ) ↦[(dstRow k).view.set]{fullShare} f0
abbrev rowLanded (k : Fin NT) : sProp 𝕄 :=
  (dstRow k).view.loc (c : Thread nD τ) ↦[(dstRow k).view.set]{fullShare}
    ((dstRow k).view.writes (Elt F) f0 [⟨Rect.whole S1x2048, ReadAs.same.apply ((srcRow _ (hr k)).view.read (Elt F) fh)⟩])
abbrev rowTok (k : Fin NT) : sProp 𝕄 :=
  (srcRow _ (hr k)).view.loc (c : Thread nD τ) ↦[(srcRow _ (hr k)).view.set]{Transfers.shareTokN fullShare k.val} fh

/-- What a copy hands back. -/
abbrev deliv (k : Fin NT) : sProp 𝕄 := iprop(rowLanded c i T fh f0 hr k ∗ rowTok c i T fh hr k)

instance landed_storable (k : Fin NT) : BI.Storable (upEmb : UEmb _ 𝕄) (rowLanded c i T fh f0 hr k) := by
  unfold rowLanded; infer_instance
instance tok_storable (k : Fin NT) : BI.Storable (upEmb : UEmb _ 𝕄) (rowTok c i T fh hr k) := by
  exact at_storable (ℓ := (srcRow _ (hr k)).view.loc (c : Thread nD τ)) _ _ _

/-- The copies in flight: `j` issued, `u` units collected. -/
abbrev batch (j u : ℕ) : sProp 𝕄 :=
  Transfers.Batch (countersEmb (U := UX)) (c : Thread nD τ) (.dma cc0_scratch2.sem) () NN (deliv c i T fh f0 hr) j u

/-- Before a trip of the first loop. -/
def issueAt (k : ℕ) (_ : Unit) : sProp 𝕄 :=
  iprop(batch c i T fh f0 hr k 0 ∗ bigSep (Ring.rangeSet NT k NT) (rowOwn c f0)
    ∗ bigSep (Ring.rangeSet NT k NT) (rowTok c i T fh hr)
    ∗ (tabS.view.loc (c : Thread nD τ) ↦{fullShare.right} T))

end Names

section Issue

variable (c : Dev nD) (i : grid0.Coords) (T : S24576.Idx → BitVec 32) (fh : S9216x2048.Idx → Elt F .f32) (f0 : S768x2048.Idx → Elt F .f32)
  (hr : ∀ k, InRows (rowWord (F := F) i T k))
  (arg6 : Memref sig .tc .vmem S1x2048x512 .f32) (harg6 : arg6.IsWhole) (arg7 : Memref sig .tc .vmem S1x2048x512 .f32) (harg7 : arg7.IsWhole)
  (arg8 : Memref sig .tc .vmem S768x512 .bf16) (harg8 : arg8.IsWhole)

abbrev issueBody (v2 : BitVec 32) (h1 : k0_cond1 i v2 = 1#1) : Fin k0_t1_loop.trips → Unit → Prog (TpuEff nD τ sig (Elt F) Λ₀ .tc) Unit :=
  k0_t1_body i (Memref.whole main_arg1) (Memref.isWhole_whole _) (Memref.whole main_arg2) (Memref.isWhole_whole _) (Memref.whole main_arg3) (Memref.isWhole_whole _) (Memref.whole main_arg0) (Memref.isWhole_whole _)
    arg6 harg6 arg7 harg7 arg8 harg8 (Memref.whole cc0_scratch0) (Memref.isWhole_whole _) (Memref.whole cc0_scratch1) (Memref.isWhole_whole _) cc0_scratch2 v2 h1

abbrev drainBody : Fin k0_t2_loop.trips → Unit → Prog (TpuEff nD τ sig (Elt F) Λ₀ .tc) Unit :=
  k0_t2_body i (Memref.whole main_arg1) (Memref.isWhole_whole _) (Memref.whole main_arg2) (Memref.isWhole_whole _) (Memref.whole main_arg3) (Memref.isWhole_whole _) (Memref.whole main_arg0) (Memref.isWhole_whole _)
    arg6 harg6 arg7 harg7 arg8 harg8 (Memref.whole cc0_scratch0) (Memref.isWhole_whole _) (Memref.whole cc0_scratch1) (Memref.isWhole_whole _) cc0_scratch2

set_option maxHeartbeats 4000000 in
/-- One trip of the first loop. -/
theorem issue_step (v2 : BitVec 32) (h1 : k0_cond1 i v2 = 1#1) (k : Fin k0_t1_loop.trips) (acc : Unit) :
    issueAt c i T fh f0 hr k acc ⊢ wp frame (wpE (defs₀ (F := F)) Variants.none (c : Thread nD τ) none) Set.univ
      (issueBody i arg6 harg6 arg7 harg7 arg8 harg8 v2 h1 k acc) (issueAt c i T fh f0 hr (k.val + 1)) := by
  have hk := k.isLt
  have hT : tabS.IsWhole := Memref.isWhole_whole _
  have hc : k0_chk1 i v2 (rowWord (F := F) i T k) := fun _ => hr k
  unfold issueAt
  rw [Ring.bigSep_rangeSet_head (Φ := rowOwn c f0) hk hk, Ring.bigSep_rangeSet_head (Φ := rowTok c i T fh hr) hk hk]
  unfold rowOwn rowTok
  iintro ⟨HB, ⟨HD, HDs⟩, ⟨HS, HSs⟩, HT⟩
  unfold issueBody k0_t1_body
  sl_exec! (disch := exact hc)
  sl_unfold_run_names
  sl_exec!
  sl_step
  isplitl [HB]; · iexact HB
  isplitl [HDs]; · iexact HDs
  isplitl [HSs]; · iexact HSs
  iexact HT

end Issue

section Drain

variable (c : Dev nD) (i : grid0.Coords) (T : S24576.Idx → BitVec 32) (fh : S9216x2048.Idx → Elt F .f32) (f0 : S768x2048.Idx → Elt F .f32)
  (hr : ∀ k, InRows (rowWord (F := F) i T k))
  (arg6 : Memref sig .tc .vmem S1x2048x512 .f32) (harg6 : arg6.IsWhole) (arg7 : Memref sig .tc .vmem S1x2048x512 .f32) (harg7 : arg7.IsWhole)
  (arg8 : Memref sig .tc .vmem S768x512 .bf16) (harg8 : arg8.IsWhole)

/-- Before a trip of the second loop: the copies with so many collected, or, past the last, the counter at zero and every row. -/
def drainAt (k : ℕ) (_ : Unit) : sProp 𝕄 :=
  iprop((∃ W, owes (c : Thread nD τ) 0 W)
    ∗ (if k < NT then batch c i T fh f0 hr NT (k * 256)
       else iprop(semVal ((c : Thread nD τ), SemLoc.dma cc0_scratch2.sem) 0 ∗ bigSep Finset.univ (deliv c i T fh f0 hr))))

set_option maxHeartbeats 4000000 in
/-- One trip of the second loop. -/
theorem drain_step (k : Fin k0_t2_loop.trips) (acc : Unit) :
    drainAt c i T fh f0 hr k acc ⊢ wp frame (wpE (defs₀ (F := F)) Variants.none (c : Thread nD τ) none) Set.univ
      (drainBody i arg6 harg6 arg7 harg7 arg8 harg8 k acc) (drainAt c i T fh f0 hr (k.val + 1)) := by
  have hk : k.val < NT := lt_of_lt_of_eq (lt_of_lt_of_eq k.isLt trips2) trips1.symm
  unfold drainAt
  simp only [if_pos hk]
  rcases Nat.lt_or_ge (k.val + 1) NT with h1 | h1
  · simp only [if_pos h1]
    have e1 : k.val * 256 + 256 < 256 * NT := by omega
    iintro ⟨⟨%W, HO⟩, HB⟩
    unfold drainBody k0_t2_body
    sl_exec!
    sl_step
    isplitl [HO]; · iexists _; iexact HO
    rw [show (k.val + 1) * 256 = k.val * 256 + 256 by omega]
    iexact HB
  · simp only [if_neg (Nat.not_lt.mpr h1)]
    have e1 : k.val * 256 + 256 = 256 * NT := by omega
    iintro ⟨⟨%W, HO⟩, HB⟩
    unfold drainBody k0_t2_body
    sl_exec!
    sl_step
    isplitl [HO]; · iexists _; iexact HO
    isplitl [HB]; · iexact HB
    iexact HB_all

end Drain

/-! ## The rows of the scratch block, and the rows in main memory -/

section Rows

/-- A row of the scratch block, as indices of the block. -/
def dset (k : Fin NT) : Finset S768x2048.Idx := (dstRow k).view.set

theorem dset_eq (k : Fin NT) : dset k = (Rect.unit (s := S768x2048) (k0_off3 k) S1x2048.size (k0_off3_inb k)).set := by
  unfold dset dstRow; exact View.set_slice_whole _ _

theorem mem_dset (k : Fin NT) (y : S768x2048.Idx) : y ∈ dset k ↔ (y 0).val = k.val := by
  rw [dset_eq, Rect.mem_set_unit]
  have e0 : k0_off3 k 0 = k.val := congrFun (k0_off3_eq k) 0
  have e1 : k0_off3 k 1 = 0 := congrFun (k0_off3_eq k) 1
  have h1 : (y 1).val < 2048 := (y 1).isLt
  constructor
  · intro H
    have a0 : k0_off3 k 0 ≤ (y 0).val ∧ (y 0).val < k0_off3 k 0 + 1 := H 0
    omega
  · intro H a
    match a with
    | ⟨0, _⟩ => show k0_off3 k 0 ≤ (y 0).val ∧ (y 0).val < k0_off3 k 0 + 1; omega
    | ⟨1, _⟩ => show k0_off3 k 1 ≤ (y 1).val ∧ (y 1).val < k0_off3 k 1 + 2048; omega

/-- The scratch block's row that an index lies in. -/
def rowOf (y : S768x2048.Idx) : Fin NT := ⟨(y 0).val, lt_of_lt_of_eq (y 0).isLt trips1.symm⟩

theorem dset_disjoint (k k' : Fin NT) (h : k ≠ k') : Disjoint (dset k) (dset k') := by
  rw [Finset.disjoint_left]; intro y hy hy'
  exact h (Fin.ext (((mem_dset k y).mp hy).symm.trans ((mem_dset k' y).mp hy')))

theorem dset_cover : Finset.univ.biUnion dset = (Finset.univ : Finset S768x2048.Idx) := by
  refine Finset.eq_univ_iff_forall.mpr fun (y : S768x2048.Idx) => Finset.mem_biUnion.mpr ?_
  exact ⟨rowOf y, Finset.mem_univ _, (mem_dset _ _).mpr rfl⟩

variable (c : Dev nD) (i : grid0.Coords) (T : S24576.Idx → BitVec 32) (fh : S9216x2048.Idx → Elt F .f32) (f0 : S768x2048.Idx → Elt F .f32)
  (hr : ∀ k, InRows (rowWord (F := F) i T k))

/-- A column of a row, as an index of the row's block. -/
def colOf (y : S768x2048.Idx) : S1x2048.Idx := fun a => match a with
  | ⟨0, _⟩ => (0 : Fin 1)
  | ⟨1, _⟩ => y 1

/-- The rows a tile gathers. -/
def gath : S768x2048.Idx → Elt F .f32 := fun y => (srcRow _ (hr (rowOf y))).view.read (Elt F) fh (colOf y)

theorem emb_dst (y : S768x2048.Idx) : (dstRow (rowOf y)).view.emb (colOf y) = y := by
  have e0 : k0_off3 (rowOf y) 0 = (y 0).val := congrFun (k0_off3_eq (rowOf y)) 0
  have e1 : k0_off3 (rowOf y) 1 = 0 := congrFun (k0_off3_eq (rowOf y)) 1
  funext a
  match a with
  | ⟨0, _⟩ => exact Fin.ext (show k0_off3 (rowOf y) 0 + 1 * 0 = (y 0).val by omega)
  | ⟨1, _⟩ => exact Fin.ext (show k0_off3 (rowOf y) 1 + 1 * (y 1).val = (y 1).val by omega)

theorem writes_whole_emb {κ : Kind} {sp : Space} {sh : Shape} {e : EltTy} (v : View sig κ sp sh e) (f : v.ty.Contents (Elt F)) (w : sh.Idx → Elt F e) (z : sh.Idx) :
    v.writes (Elt F) f [⟨Rect.whole sh, w⟩] (v.emb z) = _root_.cast (congrArg (Elt F) v.elt_eq.symm) (w z) := by
  rw [← View.write_univ_eq_writes_whole, View.writes_nil, View.write_emb_of_mem _ _ (Finset.mem_univ z)]

theorem landed_eq (k : Fin NT) : ∀ y ∈ dset k,
    (dstRow k).view.writes (Elt F) f0 [⟨Rect.whole S1x2048, ReadAs.same.apply ((srcRow _ (hr k)).view.read (Elt F) fh)⟩] y
      = gath i T fh hr y := by
  intro (y : S768x2048.Idx) hy
  have hk : rowOf y = k := Fin.ext ((mem_dset k y).mp hy)
  subst hk
  have h1 := writes_whole_emb (F := F) (dstRow (rowOf y)).view f0 (ReadAs.same.apply ((srcRow _ (hr (rowOf y))).view.read (Elt F) fh)) (colOf y)
  exact (congrArg _ (emb_dst y).symm).trans h1

/-- The scratch block held whole is its rows. -/
theorem rows_split : (rowsS.view.loc (c : Thread nD τ) ↦{fullShare} f0 : sProp 𝕄) = bigSep Finset.univ (rowOwn c f0) :=
  Ring.pointsTo_blocks (ℓ := rowsS.view.loc (c : Thread nD τ)) (q := fullShare) dset dset_disjoint dset_cover f0

/-- Every row landed is the block held whole at the rows gathered. -/
theorem rows_landed : (bigSep Finset.univ (rowLanded c i T fh f0 hr) : sProp 𝕄) = (rowsS.view.loc (c : Thread nD τ) ↦{fullShare} gath i T fh hr) := by
  rw [rows_split]
  exact bigSep_congr fun k _ => pointsTo_congr (landed_eq i T fh f0 hr k)

/-- What is kept of the rows in main memory while a row is lent under each share. -/
def kept : sProp 𝕄 :=
  iprop((rowsH.view.loc (c : Thread nD τ) ↦{Transfers.shareDrop fullShare NT} fh)
    ∗ bigSep Finset.univ fun k : Fin NT => rowsH.view.loc (c : Thread nD τ) ↦[Finset.univ \ (srcRow _ (hr k)).view.set]{Transfers.shareTokN fullShare k.val} fh)

theorem toks_split : (rowsH.view.loc (c : Thread nD τ) ↦{fullShare} fh : sProp 𝕄) ⊣⊢ iprop(kept c i T fh hr ∗ bigSep Finset.univ (rowTok c i T fh hr)) := by
  have h1 := Transfers.pointsTo_toks (Ix := Unit) (Name := ℕ) (U := UX) (Lvl := ℕ) (Val := Elt F) (ℓ := rowsH.view.loc (c : Thread nD τ)) (S := Finset.univ) (f := fh) fullShare NT
  have h2 : (bigSep Finset.univ fun k : Fin NT => (rowsH.view.loc (c : Thread nD τ) ↦[Finset.univ]{Transfers.shareTok fullShare NT k} fh : sProp 𝕄))
      = bigSep Finset.univ fun k : Fin NT => iprop(rowTok c i T fh hr k
        ∗ (rowsH.view.loc (c : Thread nD τ) ↦[Finset.univ \ (srcRow _ (hr k)).view.set]{Transfers.shareTokN fullShare k.val} fh)) :=
    bigSep_congr fun k _ => Entails.antisymm (pointsTo_split_subset (Finset.subset_univ _)).1 (pointsTo_split_subset (Finset.subset_univ _)).2
  rw [h2, bigSep_sep'] at h1
  unfold kept
  constructor
  · iintro H
    ihave H' := h1.1 $$ H
    icases H' with ⟨HA, HB, HC⟩
    isplitl [HA HC]
    · isplitl [HA] <;> iassumption
    iexact HB
  · iintro ⟨⟨HA, HC⟩, HB⟩
    iapply h1.2
    isplitl [HA]; · iexact HA
    isplitl [HB] <;> iassumption

end Rows

end Cert.Up

end
-- ==== Proof.UpBody.lean ====
/- The experts' up products' body at a point: a tile not in use, a tile's first block, a tile's later blocks. -/
module

public import proofs.«01_k».proof.Proof.UpRun

@[expose] public section

set_option maxRecDepth 16384

noncomputable section

namespace Cert.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ UX ℕ

/-- The word of the second table that the body reads at a point. -/
abbrev wordOf (i : grid0.Coords) (T : S32.Idx → BitVec 32) : BitVec 32 := T fun a => match a with | ⟨0, _⟩ => i 0

theorem cond2_iff (w : BitVec 32) : k0_cond2 w = 1#1 ↔ w ≠ 0#32 := by
  unfold k0_cond2
  simp only [Scalar.cmpi, Scalar.extui, IntOp.cmpi]
  by_cases h : w = 0#32
  · subst h; decide
  · rw [show (w != 0#32) = true from bne_iff_ne.mpr h]; exact ⟨fun _ => h, fun _ => by decide⟩

theorem cond3_iff (w : BitVec 32) : k0_cond3 w = 1#1 ↔ w = 0#32 := by
  unfold k0_cond3
  simp only [Scalar.cmpi, Scalar.extui, IntOp.cmpi]
  by_cases h : w = 0#32
  · subst h; decide
  · rw [show (w == 0#32) = false from beq_eq_false_iff_ne.mpr h]
    exact ⟨fun h' => absurd h' (by decide), fun h' => absurd h' h⟩

theorem cond1_iff (i : grid0.Coords) (w : BitVec 32) : k0_cond1 i w = 1#1 ↔ ((i 1).val = 0 ∧ w ≠ 0#32) := by
  have hi : (BitVec.ofNat 32 (i 1).val == 0#32) = decide ((i 1).val = 0) := by
    have h : ∀ j : Fin 11, (BitVec.ofNat 32 j.val == 0#32) = decide (j.val = 0) := by decide
    exact h (i 1)
  unfold k0_cond1
  simp only [Scalar.cmpi, Scalar.extui, Scalar.andi, IntOp.cmpi, IntOp.andi]
  rw [hi]
  by_cases h : w = 0#32
  · subst h
    by_cases h0 : (i 1).val = 0
    · rw [decide_eq_true h0]; exact ⟨fun h' => absurd h' (by decide), fun h' => absurd rfl h'.2⟩
    · rw [decide_eq_false h0]; exact ⟨fun h' => absurd h' (by decide), fun h' => absurd rfl h'.2⟩
  · rw [show (w != 0#32) = true from bne_iff_ne.mpr h]
    by_cases h0 : (i 1).val = 0
    · rw [decide_eq_true h0]; exact ⟨fun _ => ⟨h0, h⟩, fun _ => by decide⟩
    · rw [decide_eq_false h0]; exact ⟨fun h' => absurd h' (by decide), fun h' => absurd h'.1 h0⟩

theorem read1 (i : grid0.Coords) (T : S32.Idx → BitVec 32) :
    View.readAt (Elt F) tabV.view (Rect.unit (s := S32) (k0_off1 i) S1.size (k0_off1_inb i)).toLoadRect T
      (Shape.Idx.first (numel1_S1.symm ▸ Nat.one_pos)) = wordOf i T :=
  congrArg T (funext fun a => Fin.ext (by
    have h := congrFun (k0_off1_eq i) 0
    fin_cases a
    exact (Nat.add_zero _).trans h))

theorem read7 (i : grid0.Coords) (T : S32.Idx → BitVec 32) :
    View.readAt (Elt F) tabV.view (Rect.unit (s := S32) (k0_off7 i) S1.size (k0_off7_inb i)).toLoadRect T
      (Shape.Idx.first (numel1_S1.symm ▸ Nat.one_pos)) = wordOf i T :=
  congrArg T (funext fun a => Fin.ext (by
    have h := congrFun (k0_off7_eq i) 0
    fin_cases a
    exact (Nat.add_zero _).trans h))

theorem read8 (i : grid0.Coords) (T : S32.Idx → BitVec 32) :
    View.readAt (Elt F) tabV.view (Rect.unit (s := S32) (k0_off8 i) S1.size (k0_off8_inb i)).toLoadRect T
      (Shape.Idx.first (numel1_S1.symm ▸ Nat.one_pos)) = wordOf i T :=
  congrArg T (funext fun a => Fin.ext (by
    have h := congrFun (k0_off8_eq i) 0
    fin_cases a
    exact (Nat.add_zero _).trans h))

/-- The first loop's last point: every copy issued. -/
theorem issue_end (c : Dev nD) (i : grid0.Coords) (T : S24576.Idx → BitVec 32) (fh : S9216x2048.Idx → Elt F .f32) (f0 : S768x2048.Idx → Elt F .f32)
    (hr : ∀ k, InRows (rowWord (F := F) i T k)) (acc : Unit) :
    issueAt c i T fh f0 hr NT acc ⊢ iprop(batch c i T fh f0 hr NT 0 ∗ (tabS.view.loc (c : Thread nD τ) ↦{fullShare.right} T)) := by
  unfold issueAt
  iintro ⟨HB, -, -, HT⟩
  isplitl [HB]; · iexact HB
  iexact HT

/-- The second loop's last point: the rows gathered, and the shares of the rows in main memory back. -/
theorem drain_end (c : Dev nD) (i : grid0.Coords) (T : S24576.Idx → BitVec 32) (fh : S9216x2048.Idx → Elt F .f32) (f0 : S768x2048.Idx → Elt F .f32)
    (hr : ∀ k, InRows (rowWord (F := F) i T k)) (acc : Unit) :
    drainAt c i T fh f0 hr k0_t2_loop.trips acc ⊢ iprop((∃ W, owes (c : Thread nD τ) 0 W) ∗ semVal ((c : Thread nD τ), SemLoc.dma cc0_scratch2.sem) 0
      ∗ (rowsS.view.loc (c : Thread nD τ) ↦{fullShare} gath i T fh hr) ∗ bigSep Finset.univ (rowTok c i T fh hr)) := by
  have hn : ¬ k0_t2_loop.trips < NT := by rw [trips2]; exact not_lt_of_ge (le_of_eq trips1)
  unfold drainAt
  rw [if_neg hn, ← rows_landed c i T fh f0 hr, ← bigSep_sep']

/-- A buffer stored whole is what was stored. -/
theorem whole_held (b : Ref sig .tc) (f P : b.ty.Contents (Elt F)) (off : Fin b.ty.shape.rank → ℕ) (h0 : ∀ a, off a = 0)
    (inb : ∀ a, off a + b.ty.shape.size a ≤ b.ty.shape.size a) :
    (View.whole b).writes (Elt F) f [⟨Rect.unit off b.ty.shape.size inb, P⟩] = P := by
  have h : (View.whole b).read (Elt F) ((View.whole b).writes (Elt F) f [⟨Rect.unit off b.ty.shape.size inb, P⟩]) = P := by
    funext y
    have hr := View.read_writes_cons_emb (v := View.whole b) (f := f) (Rect.unit off b.ty.shape.size inb) P [] y
    have hy : (Rect.unit off b.ty.shape.size inb).emb y = y :=
      funext fun a => Fin.ext (by show off a + 1 * (y a).val = (y a).val; rw [h0 a]; omega)
    rwa [hy] at hr
  rwa [View.read_whole] at h

/-- The rows' block read whole, and the narrow rows' block stored whole. -/
theorem scratch_read (g : S768x2048.Idx → Elt F .f32) :
    View.readAt (Elt F) rowsS.view (Rect.unit (s := S768x2048) ![0, 0] S768x2048.size inb_S768x2048_S768x2048_0_0).toLoadRect g = g :=
  (View.readAt_full _ _ _).trans (View.read_whole _ _)

theorem scratch_held (f P : S768x2048.Idx → Elt F .bf16) :
    rowsB.view.writes (Elt F) f [⟨Rect.unit (s := S768x2048) ![0, 0] S768x2048.size inb_S768x2048_S768x2048_0_0, P⟩] = P :=
  whole_held cc0_scratch1 f P ![0, 0] (fun a => by fin_cases a <;> rfl) inb_S768x2048_S768x2048_0_0

section Runs

variable (c : Dev nD) (i : grid0.Coords)
  (arg6 : Memref sig .tc .vmem S1x2048x512 .f32) (harg6 : arg6.IsWhole) (arg7 : Memref sig .tc .vmem S1x2048x512 .f32) (harg7 : arg7.IsWhole)
  (arg8 : Memref sig .tc .vmem S768x512 .bf16) (harg8 : arg8.IsWhole)
  (T0 T1 : S32.Idx → BitVec 32) (T2 : S24576.Idx → BitVec 32) (fh : S9216x2048.Idx → Elt F .f32)
  (fb : S768x2048.Idx → Elt F .bf16) (x0 x1 : Vec F S1x2048x512 .f32)

abbrev body : Prog (TpuEff nD τ sig (Elt F) Λ₀ .tc) PUnit :=
  cc0_ffn_up_gather i (Memref.whole main_arg1) (Memref.isWhole_whole _) (Memref.whole main_arg2) (Memref.isWhole_whole _)
    (Memref.whole main_arg3) (Memref.isWhole_whole _) (Memref.whole main_arg0) (Memref.isWhole_whole _)
    arg6 harg6 arg7 harg7 arg8 harg8 (Memref.whole cc0_scratch0) (Memref.isWhole_whole _) (Memref.whole cc0_scratch1) (Memref.isWhole_whole _) cc0_scratch2

/-- What a point runs over, the tile's rows at `fb`, its output at `P`. -/
def around (fb : S768x2048.Idx → Elt F .bf16) (P : sProp 𝕄) : sProp 𝕄 :=
  iprop(owns (c : Thread nD τ) arg6 fullShare x0
    ∗ owns (c : Thread nD τ) arg7 fullShare x1
    ∗ (tabE.view.loc (c : Thread nD τ) ↦{fullShare.right} T0)
    ∗ (tabV.view.loc (c : Thread nD τ) ↦{fullShare.right} T1)
    ∗ (tabS.view.loc (c : Thread nD τ) ↦{fullShare.right} T2)
    ∗ (rowsH.view.loc (c : Thread nD τ) ↦{fullShare} fh)
    ∗ (∃ f, rowsS.view.loc (c : Thread nD τ) ↦{fullShare} f)
    ∗ (rowsB.view.loc (c : Thread nD τ) ↦{fullShare} fb)
    ∗ semVal ((c : Thread nD τ), SemLoc.dma cc0_scratch2.sem) 0
    ∗ (∃ W, owes (c : Thread nD τ) 0 W)
    ∗ P)

set_option maxHeartbeats 4000000 in
/-- A tile not in use: zeros. -/
theorem run_unused (hw : wordOf i T1 = 0#32) (K : PUnit → sProp 𝕄) :
    iprop(around c arg6 arg7 T0 T1 T2 fh x0 x1 fb (iprop(∃ d, owns (c : Thread nD τ) arg8 fullShare d))
        ∗ (around c arg6 arg7 T0 T1 T2 fh x0 x1 fb (owns (c : Thread nD τ) arg8 fullShare k0_pay3) -∗ K ⟨⟩))
      ⊢ wp frame (wpE (defs₀ (F := F)) Variants.none c none) Set.univ (body i arg6 harg6 arg7 harg7 arg8 harg8) K := by
  have h1 := fun h => ((cond1_iff i _).mp h).2 hw
  have h2 := fun h => (cond2_iff _).mp h hw
  have h3 := (cond3_iff _).mpr hw
  rw [← read1 (F := F)] at h1
  rw [← read7 (F := F)] at h2
  rw [← read8 (F := F)] at h3
  unfold around body owns; rw [cc0_ffn_up_gather_eq_skeleton]; unfold cc0_ffn_up_gather_skel
  iintro ⟨⟨⟨%f0, %hf0, H0⟩, ⟨%f1, %hf1, H1⟩, HT0, HT1, HT2, HH, HS, HB, Hc, HO, ⟨%d2, %f2, -, H2⟩⟩, Hk⟩
  subst hf0 hf1
  have hT1 : tabV.IsWhole := Memref.isWhole_whole _
  sl_exec! (disch := first | (guard_target = ¬(k0_cond1 _ _ = _); exact h1) | (guard_target = ¬(k0_cond2 _ = _); exact h2) | (guard_target = k0_cond3 _ = _; exact h3))
  sl_step
  iapply Hk
  isplitl [H0]
  · iexists _; isplitr; · ipureintro; rfl
    iexact H0
  isplitl [H1]
  · iexists _; isplitr; · ipureintro; rfl
    iexact H1
  isplitl [HT0]; · iexact HT0
  isplitl [HT1]; · iexact HT1
  isplitl [HT2]; · iexact HT2
  isplitl [HH]; · iexact HH
  isplitl [HS]; · iexact HS
  isplitl [HB]; · iexact HB
  isplitl [Hc]; · iexact Hc
  isplitl [HO]; · iexact HO
  iexists _; isplitr; swap; · iexact H2
  ipureintro
  refine (View.read_writes_eq_canon _ _ _ (View.cover_of_tiled_head _ _ _ (by rfl))).trans ?_
  sl_unfold_run_names
  exact View.canon_unit_zero (by decide) _ _

set_option maxHeartbeats 4000000 in
/-- A tile in use, past its first block: the products of the rows held and its expert's blocks. -/
theorem run_later (hw : wordOf i T1 ≠ 0#32) (hi : (i 1).val ≠ 0) (K : PUnit → sProp 𝕄) :
    iprop(around c arg6 arg7 T0 T1 T2 fh x0 x1 fb (iprop(∃ d, owns (c : Thread nD τ) arg8 fullShare d))
        ∗ (around c arg6 arg7 T0 T1 T2 fh x0 x1 fb (owns (c : Thread nD τ) arg8 fullShare (k0_pay2 fb x0 x1)) -∗ K ⟨⟩))
      ⊢ wp frame (wpE (defs₀ (F := F)) Variants.none c none) Set.univ (body i arg6 harg6 arg7 harg7 arg8 harg8) K := by
  have h1 := fun h => hi ((cond1_iff i (wordOf i T1)).mp h).1
  have h2 := (cond2_iff _).mpr hw
  have h3 := fun h => hw ((cond3_iff _).mp h)
  rw [← read1 (F := F)] at h1
  rw [← read7 (F := F)] at h2
  rw [← read8 (F := F)] at h3
  unfold around body owns; rw [cc0_ffn_up_gather_eq_skeleton]; unfold cc0_ffn_up_gather_skel
  iintro ⟨⟨⟨%f0, %hf0, H0⟩, ⟨%f1, %hf1, H1⟩, HT0, HT1, HT2, HH, HS, HB, Hc, HO, ⟨%d2, %f2, -, H2⟩⟩, Hk⟩
  subst hf0 hf1
  have hT1 : tabV.IsWhole := Memref.isWhole_whole _
  have hB : rowsB.IsWhole := Memref.isWhole_whole _
  sl_exec! (disch := first | (guard_target = ¬(k0_cond1 _ _ = _); exact h1) | (guard_target = k0_cond2 _ = _; exact h2) | (guard_target = ¬(k0_cond3 _ = _); exact h3))
  sl_step
  iapply Hk
  isplitl [H0]
  · iexists _; isplitr; · ipureintro; rfl
    iexact H0
  isplitl [H1]
  · iexists _; isplitr; · ipureintro; rfl
    iexact H1
  isplitl [HT0]; · iexact HT0
  isplitl [HT1]; · iexact HT1
  isplitl [HT2]; · iexact HT2
  isplitl [HH]; · iexact HH
  isplitl [HS]; · iexact HS
  isplitl [HB]; · iexact HB
  isplitl [Hc]; · iexact Hc
  isplitl [HO]; · iexact HO
  iexists _; isplitr; swap; · iexact H2
  ipureintro
  refine (View.read_writes_eq_canon _ _ _ (View.cover_of_tiled_head _ _ _ (by rfl))).trans ?_
  sl_unfold_run_names
  refine (View.canon_unit_zero (by decide) _ _).trans ?_
  exact congr (congrArg₂ k0_pay2 (View.readAt_full _ _ _) (View.readAt_full _ _ _)) (View.readAt_full _ _ _)

set_option maxHeartbeats 4000000 in
/-- A tile in use, at its first block: its rows gathered, then the products of them and its expert's blocks. -/
theorem run_first (hw : wordOf i T1 ≠ 0#32) (hi : (i 1).val = 0) (hr : ∀ k, InRows (rowWord (F := F) i T2 k)) (K : PUnit → sProp 𝕄) :
    iprop(around c arg6 arg7 T0 T1 T2 fh x0 x1 fb (iprop(∃ d, owns (c : Thread nD τ) arg8 fullShare d))
        ∗ (around c arg6 arg7 T0 T1 T2 fh x0 x1 (k0_pay1 (gath i T2 fh hr)) (owns (c : Thread nD τ) arg8 fullShare (k0_pay2 (k0_pay1 (gath i T2 fh hr)) x0 x1)) -∗ K ⟨⟩))
      ⊢ wp frame (wpE (defs₀ (F := F)) Variants.none c none) Set.univ (body i arg6 harg6 arg7 harg7 arg8 harg8) K := by
  have h1 := (cond1_iff i (wordOf i T1)).mpr ⟨hi, hw⟩
  have h2 := (cond2_iff _).mpr hw
  have h3 := fun h => hw ((cond3_iff _).mp h)
  rw [← read1 (F := F)] at h1
  rw [← read7 (F := F)] at h2
  rw [← read8 (F := F)] at h3
  unfold around body owns; rw [cc0_ffn_up_gather_eq_skeleton]; unfold cc0_ffn_up_gather_skel
  iintro ⟨⟨⟨%f0, %hf0, H0⟩, ⟨%f1, %hf1, H1⟩, HT0, HT1, HT2, HH, ⟨%fs, HS⟩, HB, Hc, ⟨%W, HO⟩, ⟨%d2, %f2, -, H2⟩⟩, Hk⟩
  subst hf0 hf1
  have hT1 : tabV.IsWhole := Memref.isWhole_whole _
  have hT2 : tabS.IsWhole := Memref.isWhole_whole _
  have hB : rowsB.IsWhole := Memref.isWhole_whole _
  have hS : rowsS.IsWhole := Memref.isWhole_whole _
  ihave HSr := (Entails.of_eq (rows_split (F := F) c fs)) $$ HS
  ihave HHr := (toks_split c i T2 fh hr).1 $$ HH
  icases HHr with ⟨Hkept, HHt⟩
  imod (Transfers.batch_alloc' (Lvl := ℕ) (countersEmb (U := UX)) (c : Thread nD τ) () NN (deliv c i T2 fh fs hr) (sm := .dma cc0_scratch2.sem) (E := Set.univ)) $$ Hc with Hb
  sl_exec! (disch := first | (guard_target = k0_cond1 _ _ = _; exact h1) | (guard_target = k0_cond2 _ = _; exact h2) | (guard_target = ¬(k0_cond3 _ = _); exact h3))
  sl_for (issueAt c i T2 fh fs hr) $$ [Hb HSr HHt HT2]
  · intro k acc; exact issue_step c i T2 fh fs hr arg6 harg6 arg7 harg7 arg8 harg8 _ h1 k acc
  · unfold issueAt
    rw [Ring.rangeSet_univ]
    isplitl [Hb]; · iexact Hb
    isplitl [HSr]; · iexact HSr
    isplitl [HHt]; · iexact HHt
    iexact HT2
  iintro %acc HL
  ihave HL' := (issue_end c i T2 fh fs hr acc) $$ HL
  icases HL' with ⟨Hb, HT2⟩
  sl_for (drainAt c i T2 fh fs hr) $$ [Hb HO]
  · intro k acc; exact drain_step c i T2 fh fs hr arg6 harg6 arg7 harg7 arg8 harg8 k acc
  · unfold drainAt
    rw [if_pos (lt_of_lt_of_eq (by decide) trips1.symm), Nat.zero_mul]
    isplitl [HO]; · iexists _; iexact HO
    iexact Hb
  iintro %acc2 HL
  ihave HL' := (drain_end c i T2 fh fs hr acc2) $$ HL
  icases HL' with ⟨HO, Hc, HS, HHt⟩
  sl_exec! (disch := first | (guard_target = k0_cond1 _ _ = _; exact h1) | (guard_target = k0_cond2 _ = _; exact h2) | (guard_target = ¬(k0_cond3 _ = _); exact h3))
  sl_step
  iapply Hk
  isplitl [H0]
  · iexists _; isplitr; · ipureintro; rfl
    iexact H0
  isplitl [H1]
  · iexists _; isplitr; · ipureintro; rfl
    iexact H1
  isplitl [HT0]; · iexact HT0
  isplitl [HT1]; · iexact HT1
  isplitl [HT2]; · iexact HT2
  isplitl [Hkept HHt]
  · iapply (toks_split c i T2 fh hr).2
    isplitl [Hkept] <;> iassumption
  isplitl [HS]; · iexists _; iexact HS
  sl_unfold_run_names
  rw [scratch_read, scratch_held, View.readCov_unit_lit _ _ _ (by decide)]
  isplitl [HB]; · iexact HB
  isplitl [Hc]; · iexact Hc
  isplitl [HO]; · iexact HO
  iexists _; isplitr; swap; · iexact H2
  ipureintro
  refine (View.read_writes_eq_canon _ _ _ (View.cover_of_tiled_head _ _ _ (by rfl))).trans ?_
  refine (View.canon_unit_zero (by decide) _ _).trans ?_
  exact congrArg₂ (k0_pay2 _) (View.readAt_full _ _ _) (View.readAt_full _ _ _)

end Runs

end Cert.Up

end
-- ==== Proof.UpData.lean ====
/- The experts' up products' pipeline at any tables in range: its data, the body's triple at every point, the run. -/
module

public import proofs.«01_k».proof.Proof.UpBody

@[expose] public section

set_option maxRecDepth 16384

noncomputable section

namespace Cert.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ UX ℕ

/-! ## The rows a tile gathers depend on the tile alone -/

theorem row_read (fh : S9216x2048.Idx → Elt F .f32) (z : S1x2048.Idx) {w w' : BitVec 32} (e : w = w') (h : InRows w) (h' : InRows w') :
    (srcRow w h).view.read (Elt F) fh z = (srcRow w' h').view.read (Elt F) fh z := by subst e; rfl

theorem word_at (i : grid0.Coords) (T : S24576.Idx → BitVec 32) (k : Fin NT) :
    ∃ y : S24576.Idx, rowWord (F := F) i T k = T y ∧ (y 0).val = 768 * (i 0).val + k.val :=
  ⟨_, rfl, (Nat.add_zero _).trans (congrFun (k0_off2_eq i k) 0)⟩

theorem word_congr (i i' : grid0.Coords) (T : S24576.Idx → BitVec 32) (e : i 0 = i' 0) (k : Fin NT) :
    rowWord (F := F) i T k = rowWord (F := F) i' T k := by
  obtain ⟨y, h1, h2⟩ := word_at (F := F) i T k
  obtain ⟨y', h1', h2'⟩ := word_at (F := F) i' T k
  rw [h1, h1']
  refine congrArg T (funext fun d => ?_)
  match d with
  | ⟨0, _⟩ => exact Fin.ext (h2.trans ((by rw [e] : _ = _).trans h2'.symm))

theorem gath_congr (i i' : grid0.Coords) (T : S24576.Idx → BitVec 32) (fh : S9216x2048.Idx → Elt F .f32) (e : i 0 = i' 0)
    (hr : ∀ k, InRows (rowWord (F := F) i T k)) (hr' : ∀ k, InRows (rowWord (F := F) i' T k)) : gath i T fh hr = gath i' T fh hr' :=
  funext fun y => row_read fh (colOf y) (word_congr i i' T e (rowOf y)) _ _

/-- A point that is not a tile's first is of the tile of the point before it. -/
theorem same_tile (t : Fin grid0.N) (h : t.val + 1 < grid0.N) (h0 : (grid0.coords ⟨t.val + 1, h⟩ 1).val ≠ 0) :
    grid0.coords ⟨t.val + 1, h⟩ 0 = grid0.coords t 0 := by
  have H : ∀ t : Fin grid0.N, ∀ h : t.val + 1 < grid0.N, (grid0.coords ⟨t.val + 1, h⟩ 1).val ≠ 0 →
      grid0.coords ⟨t.val + 1, h⟩ 0 = grid0.coords t 0 := by decide +kernel
  exact H t h h0

/-- The first point is its tile's first. -/
theorem first_tile : ∀ h : 0 < grid0.N, (grid0.coords ⟨0, h⟩ 1).val = 0 := by decide +kernel

variable (a : (pcfg0 (F := F)).Adm) (m : (ℓ : Loc nD τ sig) → Buf (Elt F) ℓ) (ρ : Dev nD → PrngReg)

/-- The three tables of an admissible triple, and the pipeline at them. -/
abbrev tE : S32.Idx → BitVec 32 := a.1 0
abbrev tV : S32.Idx → BitVec 32 := a.1 1
abbrev tS : S24576.Idx → BitVec 32 := a.1 2
abbrev cfgT : Pipeline.Cfg sig Λ₀ := cfg0 (F := F) a
abbrev pinned : Fin 1 → Pipeline.Cfg sig Λ₀ := Pipeline.pin (pcfgs (F := F)) fun _ => a
abbrev pt (t : Fin (cfgT a).N) : grid0.Coords := grid0.coords t

/-- Every word of the third table names a row. -/
abbrev RowsOk : Prop := ∀ (i : grid0.Coords) (k : Fin NT), InRows (rowWord (F := F) i (tS a) k)

variable (hs : RowsOk a)

abbrev b0 (t : Fin (cfgT a).N) : Memref sig .tc .vmem S1x2048x512 .f32 := spec0_0.stage ((cfgT a).slots t (0 : Fin 3))
abbrev b1 (t : Fin (cfgT a).N) : Memref sig .tc .vmem S1x2048x512 .f32 := spec0_1.stage ((cfgT a).slots t (1 : Fin 3))
abbrev b2 (t : Fin (cfgT a).N) : Memref sig .tc .vmem S768x512 .bf16 := spec0_2.stage ((cfgT a).slots t (2 : Fin 3))

/-- A window's block at a point, of the array as launched; the rows in main memory; the rows of a point's tile. -/
def blkOf (c : Dev nD) (w : Fin (cfgT a).W) (t : Fin (cfgT a).N) :
    (((cfgT a).win w).xblock ((cfgT a).grid.coords t)).Idx → Elt F ((cfgT a).win w).elt :=
  (((cfgT a).win w).blk t).view.read (Elt F) (m (((cfgT a).win w).arr.view.loc (c : Thread nD τ)))
abbrev hOf (c : Dev nD) : S9216x2048.Idx → Elt F .f32 := m ((c : Thread nD τ).loc main_arg0)
def rowsOf (c : Dev nD) (t : Fin (cfgT a).N) : Vec F S768x2048 .bf16 := k0_pay1 (gath (pt a t) (tS a) (hOf m c) (hs (pt a t)))

/-- What the body stores at a point. -/
def outOf (c : Dev nD) (t : Fin (cfgT a).N) : Vec F S768x512 .bf16 :=
  if wordOf (pt a t) (tV a) = 0#32 then k0_pay3 else k0_pay2 (rowsOf a m hs c t) (blkOf a m c 0 t) (blkOf a m c 1 t)

/-- Between points: the narrow rows held are those of the next point's tile, unless it is the tile's first or the tile is not in use. -/
def Fits (c : Dev nD) (t : ℕ) (fb : Vec F S768x2048 .bf16) : Prop :=
  ∀ h : t < (cfgT a).N, (pt a ⟨t, h⟩ 1).val ≠ 0 → wordOf (pt a ⟨t, h⟩) (tV a) ≠ 0#32 → fb = rowsOf a m hs c ⟨t, h⟩

/-- Between points: the tables' halves, the rows, the two scratch blocks and the counter. -/
def held (c : Dev nD) (t : ℕ) : sProp 𝕄 :=
  iprop((tabE.view.loc (c : Thread nD τ) ↦{fullShare.right} tE a)
    ∗ (tabV.view.loc (c : Thread nD τ) ↦{fullShare.right} tV a)
    ∗ (tabS.view.loc (c : Thread nD τ) ↦{fullShare.right} tS a)
    ∗ (rowsH.view.loc (c : Thread nD τ) ↦{fullShare} hOf m c)
    ∗ (∃ f, rowsS.view.loc (c : Thread nD τ) ↦{fullShare} f)
    ∗ (∃ fb, ⌜Fits a m hs c t fb⌝ ∗ (rowsB.view.loc (c : Thread nD τ) ↦{fullShare} fb))
    ∗ semVal ((c : Thread nD τ), SemLoc.dma cc0_scratch2.sem) 0)

def dats (_ : Fin 1) (c : Dev nD) : Dat τ (Elt F) Unit ℕ UX ℕ (cfgT a) c where
  A w := m (((cfgT a).win w).arr.view.loc (c : Thread nD τ))
  after w t := match w with
    | ⟨0, _⟩ => blkOf a m c (0 : Fin 3) t
    | ⟨1, _⟩ => blkOf a m c (1 : Fin 3) t
    | ⟨2, _⟩ => outOf a m hs c t
  Φ t := held a m hs c t.val
  q _ := fullShare
  owed _ := 0

theorem after_0 (c : Dev nD) (t : Fin (cfgT a).N) : (dats a m hs 0 c).after (0 : Fin 3) t = blkOf a m c (0 : Fin 3) t := rfl
theorem after_1 (c : Dev nD) (t : Fin (cfgT a).N) : (dats a m hs 0 c).after (1 : Fin 3) t = blkOf a m c (1 : Fin 3) t := rfl
theorem after_2 (c : Dev nD) (t : Fin (cfgT a).N) : (dats a m hs 0 c).after (2 : Fin 3) t = outOf a m hs c t := rfl

theorem before_0 (c : Dev nD) (t : Fin (cfgT a).N) (d) : (dats a m hs 0 c).before (0 : Fin 3) t d = blkOf a m c (0 : Fin 3) t :=
  ((dats a m hs 0 c).before_in_eq_fetched (0 : Fin 3) rfl (fun _ => rfl) (fun _ _ _ => rfl)
    (fun t => by rw [after_0]; unfold Dat.blockOf blkOf; rfl) t d).trans (by unfold Dat.fetched Dat.blockOf blkOf; rfl)
theorem before_1 (c : Dev nD) (t : Fin (cfgT a).N) (d) : (dats a m hs 0 c).before (1 : Fin 3) t d = blkOf a m c (1 : Fin 3) t :=
  ((dats a m hs 0 c).before_in_eq_fetched (1 : Fin 3) rfl (fun _ => rfl) (fun _ _ _ => rfl)
    (fun t => by rw [after_1]; unfold Dat.blockOf blkOf; rfl) t d).trans (by unfold Dat.fetched Dat.blockOf blkOf; rfl)

/-- One of the two conditions holds at every point, so the body stores its output there. -/
theorem stores (t : Fin (cfgT a).N) : (cfgT a).idle (2 : Fin 3) ((cfgT a).grid.coords t) = false := by
  have h : ∀ w : BitVec 32, (!(k0_cond2 w == 1#1) && !(k0_cond3 w == 1#1)) = false := fun w => by
    by_cases hw : w = 0#32
    · rw [(cond3_iff w).mpr hw]; simp
    · rw [(cond2_iff w).mpr hw]; simp
  exact h (a.1.atD 1 (k0_off7 ((cfgT a).grid.coords t)))

abbrev bodyAt (t : Fin (cfgT a).N) : Prog (TpuEff nD τ sig (Elt F) Λ₀ .tc) PUnit :=
  body (pt a t) (b0 a t) (hstage0_0 (((cfgT a).slots t (0 : Fin 3)).cast nbuf0_0)) (b1 a t) (hstage0_1 (((cfgT a).slots t (1 : Fin 3)).cast nbuf0_1))
    (b2 a t) (hstage0_2 (((cfgT a).slots t (2 : Fin 3)).cast nbuf0_2))

/-- What the core owes, in and out of the pipeline's data. -/
theorem owed_in (c : Dev nD) (t : Fin ((cfgT a).N + 1)) : iprop(∃ W, owes (c : Thread nD τ) 0 W) ⊢ ((dats a m hs 0 c).owesAt () t : sProp 𝕄) := by
  unfold Pipeline.Dat.owesAt Pipeline.owesWithin Pipeline.Dat.bound
  iintro ⟨%W, HO⟩; iexists W; isplitr; · ipureintro; exact fun _ _ => Or.inl trivial
  iexact HO
theorem owed_out (c : Dev nD) (t : Fin ((cfgT a).N + 1)) : ((dats a m hs 0 c).owesAt () t : sProp 𝕄) ⊢ iprop(∃ W, owes (c : Thread nD τ) 0 W) := by
  unfold Pipeline.Dat.owesAt Pipeline.owesWithin
  iintro ⟨%W, -, HO⟩; iexists W; iexact HO

/-- The tile's rows stay what the next point needs. -/
theorem fits_keep (c : Dev nD) (t : Fin (cfgT a).N) (fb : Vec F S768x2048 .bf16) (h : wordOf (pt a t) (tV a) ≠ 0#32 → fb = rowsOf a m hs c t) :
    Fits a m hs c (t.val + 1) fb := by
  intro ht h0 hw
  have e : pt a ⟨t.val + 1, ht⟩ 0 = pt a t 0 := same_tile t ht h0
  have ew : wordOf (pt a ⟨t.val + 1, ht⟩) (tV a) = wordOf (pt a t) (tV a) := congrArg (tV a) (funext fun d => by
    match d with
    | ⟨0, _⟩ => exact e)
  rw [h (ew ▸ hw)]
  unfold rowsOf
  rw [gath_congr _ _ (tS a) (hOf m c) e (hs _) (hs _)]

set_option maxHeartbeats 4000000 in
theorem sound_body (c : Dev nD) (t : Fin (cfgT a).N) :
    iprop((dats a m hs 0 c).Φ t.castSucc ∗ (dats a m hs 0 c).owesAt () t.castSucc
        ∗ (∃ d, owns (c : Thread nD τ) (b0 a t) fullShare ((dats a m hs 0 c).before (0 : Fin 3) t d))
        ∗ (∃ d, owns (c : Thread nD τ) (b1 a t) fullShare ((dats a m hs 0 c).before (1 : Fin 3) t d))
        ∗ (∃ d, owns (c : Thread nD τ) (b2 a t) fullShare ((dats a m hs 0 c).before (2 : Fin 3) t d)))
      ⊢ wp frame (wpE (defs₀ (F := F)) Variants.none c none) Set.univ (bodyAt a t) fun _ =>
          iprop((dats a m hs 0 c).Φ t.succ ∗ (dats a m hs 0 c).owesAt () t.succ
            ∗ bigSep Finset.univ fun w : Fin (cfgT a).W =>
                match (cfgT a).idle w ((cfgT a).grid.coords t) with
                | true =>
                  match ((cfgT a).win w).flush t with
                  | false => iprop(∃ d, owns (c : Thread nD τ) (((cfgT a).win w).stage ((cfgT a).slots t w)) fullShare ((dats a m hs 0 c).before w t d))
                  | true => owns (c : Thread nD τ) (((cfgT a).win w).stage ((cfgT a).slots t w)) fullShare ((dats a m hs 0 c).after w t)
                | false => owns (c : Thread nD τ) (((cfgT a).win w).stage ((cfgT a).slots t w)) fullShare ((dats a m hs 0 c).after w t)) := by
  rw [bigSep_W0]
  rewrite [stores a t]
  simp only [before_0, before_1, after_0, after_1, after_2]
  rewrite [show (dats a m hs 0 c).Φ t.succ = held a m hs c (t.val + 1) from rfl, show (dats a m hs 0 c).Φ t.castSucc = held a m hs c t.val from rfl]
  unfold held outOf
  by_cases hw : wordOf (pt a t) (tV a) = 0#32
  · rw [if_pos hw]
    iintro ⟨⟨HT0, HT1, HT2, HH, HS, ⟨%fb, %hfb, HB⟩, Hc⟩, Ho, ⟨%d0, H0⟩, ⟨%d1, H1⟩, ⟨%d2, H2⟩⟩
    iapply (run_unused c (pt a t) _ _ _ _ _ _ (tE a) (tV a) (tS a) (hOf m c) fb (blkOf a m c (0 : Fin 3) t) (blkOf a m c (1 : Fin 3) t) hw _)
    isplitr []
    · unfold around
      isplitl [H0]; · iexact H0
      isplitl [H1]; · iexact H1
      isplitl [HT0]; · iexact HT0
      isplitl [HT1]; · iexact HT1
      isplitl [HT2]; · iexact HT2
      isplitl [HH]; · iexact HH
      isplitl [HS]; · iexact HS
      isplitl [HB]; · iexact HB
      isplitl [Hc]; · iexact Hc
      isplitl [Ho]; · iapply (owed_out a m hs c t.castSucc); iexact Ho
      iexists _; iexact H2
    unfold around
    iintro ⟨H0, H1, HT0, HT1, HT2, HH, HS, HB, Hc, Ho, H2⟩
    isplitl [HT0 HT1 HT2 HH HS HB Hc]
    · isplitl [HT0]; · iexact HT0
      isplitl [HT1]; · iexact HT1
      isplitl [HT2]; · iexact HT2
      isplitl [HH]; · iexact HH
      isplitl [HS]; · iexact HS
      isplitl [HB]
      · iexists _; isplitr; swap; · iexact HB
        ipureintro
        exact fits_keep a m hs c t _ (fun h => absurd hw h)
      iexact Hc
    isplitl [Ho]; · iapply (owed_in a m hs c t.succ); iexact Ho
    isplitl [H0]; · iexact H0
    isplitl [H1]; · iexact H1
    iexact H2
  · rw [if_neg hw]
    iintro ⟨⟨HT0, HT1, HT2, HH, HS, ⟨%fb, %hfb, HB⟩, Hc⟩, Ho, ⟨%d0, H0⟩, ⟨%d1, H1⟩, ⟨%d2, H2⟩⟩
    by_cases hi : (pt a t 1).val = 0
    · iapply (run_first c (pt a t) _ _ _ _ _ _ (tE a) (tV a) (tS a) (hOf m c) fb (blkOf a m c (0 : Fin 3) t) (blkOf a m c (1 : Fin 3) t) hw hi (hs (pt a t)) _)
      isplitr []
      · unfold around
        isplitl [H0]; · iexact H0
        isplitl [H1]; · iexact H1
        isplitl [HT0]; · iexact HT0
        isplitl [HT1]; · iexact HT1
        isplitl [HT2]; · iexact HT2
        isplitl [HH]; · iexact HH
        isplitl [HS]; · iexact HS
        isplitl [HB]; · iexact HB
        isplitl [Hc]; · iexact Hc
        isplitl [Ho]; · iapply (owed_out a m hs c t.castSucc); iexact Ho
        iexists _; iexact H2
      unfold around
      iintro ⟨H0, H1, HT0, HT1, HT2, HH, HS, HB, Hc, Ho, H2⟩
      isplitl [HT0 HT1 HT2 HH HS HB Hc]
      · isplitl [HT0]; · iexact HT0
        isplitl [HT1]; · iexact HT1
        isplitl [HT2]; · iexact HT2
        isplitl [HH]; · iexact HH
        isplitl [HS]; · iexact HS
        isplitl [HB]
        · iexists _; isplitr; swap; · iexact HB
          ipureintro
          exact fits_keep a m hs c t _ (fun _ => rfl)
        iexact Hc
      isplitl [Ho]; · iapply (owed_in a m hs c t.succ); iexact Ho
      isplitl [H0]; · iexact H0
      isplitl [H1]; · iexact H1
      iexact H2
    · obtain rfl := hfb t.isLt hi hw
      iapply (run_later c (pt a t) _ _ _ _ _ _ (tE a) (tV a) (tS a) (hOf m c) (rowsOf a m hs c t) (blkOf a m c (0 : Fin 3) t) (blkOf a m c (1 : Fin 3) t) hw hi _)
      isplitr []
      · unfold around
        isplitl [H0]; · iexact H0
        isplitl [H1]; · iexact H1
        isplitl [HT0]; · iexact HT0
        isplitl [HT1]; · iexact HT1
        isplitl [HT2]; · iexact HT2
        isplitl [HH]; · iexact HH
        isplitl [HS]; · iexact HS
        isplitl [HB]; · iexact HB
        isplitl [Hc]; · iexact Hc
        isplitl [Ho]; · iapply (owed_out a m hs c t.castSucc); iexact Ho
        iexists _; iexact H2
      unfold around
      iintro ⟨H0, H1, HT0, HT1, HT2, HH, HS, HB, Hc, Ho, H2⟩
      isplitl [HT0 HT1 HT2 HH HS HB Hc]
      · isplitl [HT0]; · iexact HT0
        isplitl [HT1]; · iexact HT1
        isplitl [HT2]; · iexact HT2
        isplitl [HH]; · iexact HH
        isplitl [HS]; · iexact HS
        isplitl [HB]
        · iexists _; isplitr; swap; · iexact HB
          ipureintro
          exact fits_keep a m hs c t _ (fun _ => rfl)
        iexact Hc
      isplitl [Ho]; · iapply (owed_in a m hs c t.succ); iexact Ho
      isplitl [H0]; · iexact H0
      isplitl [H1]; · iexact H1
      iexact H2

theorem body_obligation (c : Dev nD) : BodyObligation (dats a m hs 0 c) (defs₀ (F := F)) Variants.none () Set.univ := fun t => by
  rw [bigSep_W0]
  exact sound_body a m hs c t

/-! ## The launch -/

theorem share_eq (c : Dev nD) (w : Fin (cfgT a).W) : (dats a m hs 0 c).share w = fullShare := by unfold Dat.share; split <;> rfl

/-- The tables as the launch hands them over. -/
theorem tables_eq (c : Dev nD) (q : Fin 3 → PosShare TreeShare) (v : pre0.Contents (Elt F)) :
    (Pipeline.prefHeld (Ix := Unit) (Name := ℕ) (U := UX) (Lvl := ℕ) pre0 c q v : sProp 𝕄)
      = iprop((((c : Thread nD τ).loc main_arg1) ↦{q 0} v 0) ∗ (((c : Thread nD τ).loc main_arg2) ↦{q 1} v 1) ∗ (((c : Thread nD τ).loc main_arg3) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The kernel's own counter. -/
abbrev osem : Fin 1 → SemLoc sig := fun _ => .dma cc0_scratch2.sem

theorem osem_facts : Pipeline.OwnSemFacts spec0 osem := by decide

theorem osem_eq (c : Dev nD) : (Pipeline.ownSems0 (Ix := Unit) (Name := ℕ) (U := UX) (Lvl := ℕ) (Val := Elt F) (τ := τ) osem c : sProp 𝕄)
    = semVal ((c : Thread nD τ), SemLoc.dma cc0_scratch2.sem) 0 := by
  rw [Pipeline.ownSems0_eq_of_list c osem [0] (by decide) (by decide)]
  rfl

/-- What the launch hands the pipeline beside the tables: the rows in main memory, and the counter at zero. -/
def extra (c : Dev nD) : sProp 𝕄 :=
  iprop((((c : Thread nD τ).loc main_arg0) ↦{fullShare} hOf m c) ∗ semVal ((c : Thread nD τ), SemLoc.dma cc0_scratch2.sem) 0)

theorem held_in (c : Dev nD) :
    iprop(extra m c ∗ Pipeline.prefHeld pre0 c (fun _ => fullShare.right) a.1 ∗ Pipeline.scopedRest spec0 c) ⊢ (dats a m hs 0 c).Φ 0 := by
  rw [tables_eq, scopedRest0_eq, show (dats a m hs 0 c).Φ 0 = held a m hs c 0 from rfl]
  unfold held extra
  iintro ⟨⟨HH, Hc⟩, ⟨HT0, HT1, HT2⟩, HS, ⟨%fb, HB⟩⟩
  isplitl [HT0]; · iexact HT0
  isplitl [HT1]; · iexact HT1
  isplitl [HT2]; · iexact HT2
  isplitl [HH]; · iexact HH
  isplitl [HS]; · iexact HS
  isplitl [HB]
  · iexists fb; isplitr; swap; · iexact HB
    ipureintro
    exact fun h h0 => absurd (first_tile h) h0
  iexact Hc

theorem held_out (c : Dev nD) : (dats a m hs 0 c).Φ (Fin.last (cfgT a).N)
    ⊢ iprop((((c : Thread nD τ).loc main_arg0) ↦{fullShare} hOf m c) ∗ Pipeline.ownSems0 osem c ∗ Pipeline.scopedRest spec0 c) := by
  rw [scopedRest0_eq, osem_eq, show (dats a m hs 0 c).Φ (Fin.last (cfgT a).N) = held a m hs c (cfgT a).N from rfl]
  unfold held
  iintro ⟨-, -, -, HH, HS, ⟨%fb, -, HB⟩, Hc⟩
  isplitl [HH]; · iexact HH
  isplitl [Hc]; · iexact Hc
  isplitl [HS]; · iexact HS
  iexists fb; iexact HB

/-- The rows in main memory are read at the end as they were. -/
theorem rows_kept (c : Dev nD) (s' : Phys nD τ sig (Elt F)) :
    iprop((((c : Thread nD τ).loc main_arg0) ↦{fullShare} hOf m c) ∗ SI s')
      ⊢ (iprop(⌜s'.mem.mem ((c : Thread nD τ).loc main_arg0) = hOf m c⌝ ∗ SI s') : sProp 𝕄) := by
  have h := pointsTo_read_all (Ix := Unit) (Name := ℕ) (U := UX) (Lvl := ℕ) (Val := Elt F) {(0 : Fin 1)} (fun _ => (c : Thread nD τ).loc main_arg0) (fun _ => hOf m c) s'
  rw [bigSep_singleton] at h
  refine h.trans ?_
  iintro ⟨%h, HSI⟩
  isplitr; · ipureintro; exact h 0 (Finset.mem_singleton_self _)
  iexact HSI

/-- Every array at what the pipeline computes, every table as it was. -/
def Ends : PUnit × MemSt nD τ sig (Elt F) → Prop := fun r =>
  ∀ c : Dev nD, (∀ w : Fin (cfgT a).W, r.2.mem (((cfgT a).win w).arr.view.loc (c : Thread nD τ)) = (dats a m hs 0 c).arrAt w (cfgT a).N)
    ∧ (∀ j, r.2.mem ((c : Thread nD τ).loc (pre0.ref j)) = a.1 j)
    ∧ r.2.mem ((c : Thread nD τ).loc main_arg0) = hOf m c

set_option backward.isDefEq.respectTransparency.types false in
set_option maxHeartbeats 4000000 in
theorem run_quiet (hp : ∀ (c : Dev nD) (j : Fin 3), m ((c : Thread nD τ).loc (pre0.ref j)) = a.1 j) :
    θ_run (defs (F := F)) (onTc (τ := τ) (main (F := F))) ⟨m, fun _ => 0, ρ⟩ (fun r => Ends a m hs r ∧ r.2.sem = fun _ => 0) :=
  Pipeline.θ_run_region_pf_quiescent pcfgs (fun _ => a) (dats a m hs) () ((launch0 (F := F)).cellOf_inj fun _ => a) (0 : Fin 1)
    (launch0 (F := F)).win.to₀ osem_facts (launch0 (F := F)).pre embL defs₀ Variants.none m ρ main
    (hbody := fun c => (body_obligation a m hs c).loose) (hne := (launch0 (F := F)).block_pos)
    (harr := (launch0 (F := F)).arr_whole) (hstage := (launch0 (F := F)).stage_whole) (howed := fun _ _ => rfl)
    (G := fun _ => iprop(emp))
    (u₀ := (initOf (Pipeline.cells (pinned a) ((launch0 (F := F)).cellOf_inj fun _ => a))
      (Pipeline.launchToks (pinned a) ((launch0 (F := F)).cellOf_inj fun _ => a)), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pinned a) (dats a m hs) 0 (launch0 (F := F)).win.arr_inj c (launch0 (F := F)).arr_whole
      (share_eq a m hs c) _ _ fun _ => rfl)
    (hpf := hp)
    (X := extra m) (Y := fun c => (((c : Thread nD τ).loc main_arg0) ↦{fullShare} hOf m c)) (Z := fun _ => iprop(emp))
    (hX := fun c => by
      rw [unscopedRestP0_eq, osem_eq]; unfold extra
      iintro ⟨HH, Hc, -⟩; imodintro
      isplitl [HH Hc]
      · isplitl [HH]; · iexact HH
        iexact Hc
      iempintro)
    (hin := held_in a m hs)
    (hout := held_out a m hs)
    (QY := fun c s => s.mem ((c : Thread nD τ).loc main_arg0) = hOf m c)
    (hY := fun c s' => by
      iintro ⟨HH, -, HSI⟩
      ihave H := (rows_kept m c s') $$ [HH HSI]
      · isplitl [HH] <;> iassumption
      icases H with ⟨%h, HSI⟩
      imodintro
      isplitr; · ipureintro; exact h
      iexact HSI)
    (hQ := fun _ h hz => ⟨fun c => ⟨(h c).1, (h c).2.1, (h c).2.2⟩, hz⟩)

/-- The output's array named, the arguments as they were, every counter zero. -/
theorem run_main (hp : ∀ (c : Dev nD) (j : Fin 3), m ((c : Thread nD τ).loc (pre0.ref j)) = a.1 j) :
    θ_run (defs (F := F)) (onTc (τ := τ) (main (F := F))) ⟨m, fun _ => 0, ρ⟩ (fun r => (∀ c : Dev nD,
      r.2.mem ((c.tc : Thread nD τ).loc main_v0) = (dats a m hs 0 c).arrAt (2 : Fin 3) (cfgT a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (2 : Fin 3), (h.1 c).2.2,
    ((h.1 c).2.1 0).trans (hp c 0).symm, ((h.1 c).2.1 1).trans (hp c 1).symm, ((h.1 c).2.1 2).trans (hp c 2).symm,
    ((h.1 c).1 (0 : Fin 3)).trans ((dats a m hs 0 c).arrAt_in (0 : Fin 3) rfl _),
    ((h.1 c).1 (1 : Fin 3)).trans ((dats a m hs 0 c).arrAt_in (1 : Fin 3) rfl _)⟩, h.2⟩) (run_quiet a m ρ hs hp)

end Cert.Up

end
-- ==== Proof.UpValue.lean ====
/- The experts' up products' blocks read at an index, and its result's array, at tables in range. -/
module

public import proofs.«01_k».proof.Proof.UpData
public import Idealize.ShloMosaic.Lib.Pointwise
public import Idealize.ShloMosaic.Lib.Claim
public import Idealize.ShloMosaic.Lib.Pipeline.Covers

@[expose] public section

set_option maxRecDepth 16384

noncomputable section

namespace Cert.Up

open Idealize.ShloMosaic Idealize.ShloMosaic.TcCoe
open Cert.Kernel3Ideal Cert.Kernel3Ideal.Gen

section Tables

variable {F : FTy → Type} [FloatOps F]

/-- The word of each table the second window's place is read from. -/
theorem at0 (pf : pre0.Contents (Elt F)) (i : grid0.Coords) :
    pf.at 0 (Rect.unit (s := S32) ![(Scalar.indexCast (BitVec.ofNat 32 (i 0).val) : Index).toNat] S1.size (k0_off1_inb i)) numel1_S1
      = wordOf i (pf 0) :=
  congrArg (pf 0) (funext fun a => Fin.ext (by
    have h := congrFun (k0_off1_eq i) 0
    fin_cases a
    exact (Nat.add_zero _).trans h))
theorem at1 (pf : pre0.Contents (Elt F)) (i : grid0.Coords) :
    pf.at 1 (Rect.unit (s := S32) ![(Scalar.indexCast (BitVec.ofNat 32 (i 0).val) : Index).toNat] S1.size (k0_off1_inb i)) numel1_S1
      = wordOf i (pf 1) :=
  congrArg (pf 1) (funext fun a => Fin.ext (by
    have h := congrFun (k0_off1_eq i) 0
    fin_cases a
    exact (Nat.add_zero _).trans h))

/-- The column block of a point: its own in a tile in use, the last otherwise. -/
theorem col_eq (v : BitVec 32) (n : ℕ) (hn : n < 11) :
    (Scalar.select (Scalar.cmpi .ne v 0#32) (BitVec.ofNat 32 n) 10#32).toNat = if v = 0#32 then 10 else n := by
  by_cases h : v = 0#32
  · subst h; rfl
  · rw [if_neg h]
    have : Scalar.cmpi .ne v 0#32 = 1#1 := by
      show BitVec.ofBool (v != 0#32) = 1#1
      rw [show (v != 0#32) = true from bne_iff_ne.mpr h]; rfl
    rw [this]
    show (BitVec.ofNat 32 n).toNat = n
    rw [BitVec.toNat_ofNat]; omega

theorem place1_eq (pf : pre0.Contents (Elt F)) (i : grid0.Coords) :
    cc0_transform_1 k0_off1_inb numel1_S1 pf i
      = ![(wordOf i (pf 0)).toNat, 0, if wordOf i (pf 1) = 0#32 then 10 else (i 1).val] := by
  funext d
  match d with
  | ⟨0, _⟩ => exact congrArg BitVec.toNat (at0 pf i)
  | ⟨1, _⟩ => rfl
  | ⟨2, _⟩ =>
    exact (congrArg (fun v => (Scalar.select (Scalar.cmpi .ne v 0#32) (BitVec.ofNat 32 (i 1).val) 10#32).toNat) (at1 pf i)).trans
      (col_eq _ _ (i 1).isLt)

theorem place2_eq (pf : pre0.Contents (Elt F)) (i : grid0.Coords) :
    cc0_transform_2 k0_off1_inb numel1_S1 pf i
      = ![(wordOf i (pf 0)).toNat, 0, if wordOf i (pf 1) = 0#32 then 10 else (i 1).val] := place1_eq pf i

/-- A block of an expert there is, at a column block there is, lies inside its array. -/
theorem inside (i : grid0.Coords) (e v : BitVec 32) (he : e.toNat < 8) (d : Fin 3) :
    ((![e.toNat, 0, if v = 0#32 then 10 else (i 1).val] : Fin 3 → ℕ) d + 1) * S1x2048x512.size d ≤ S8x2048x5632.size d := by
  have h1 : (i 1).val < 11 := (i 1).isLt
  match d with
  | ⟨0, _⟩ => show (e.toNat + 1) * 1 ≤ 8; omega
  | ⟨1, _⟩ => show (0 + 1) * 2048 ≤ 2048; omega
  | ⟨2, _⟩ =>
    show ((if v = 0#32 then 10 else (i 1).val) + 1) * 512 ≤ 5632
    split <;> omega

/-- Tables whose experts are the eight there are keep every block inside its array. -/
theorem ok_of_range (pf : pre0.Contents (Elt F)) (h : ∀ x, (pf 0 x : BitVec 32).toNat < 8) : ok0 pf :=
  ⟨fun i => ⟨fun d => by rw [place1_eq]; exact inside i _ _ (h _) d, Or.inl rfl⟩,
    fun i => ⟨fun d => by rw [place2_eq]; exact inside i _ _ (h _) d, Or.inl rfl⟩⟩

variable (m : (ℓ : Loc nD τ sig) → Buf (Elt F) ℓ)

/-- The tables as launched. -/
def tabs : pre0.Contents (Elt F) := fun j => m (((0 : Dev nD) : Thread nD τ).loc (pre0.ref j))

/-- Every tile's expert is one of the eight, and every row number one of the rows. -/
abbrev InRange : Prop := (∀ x, (tabs m 0 x : BitVec 32).toNat < 8) ∧ ∀ x, (tabs m 2 x : BitVec 32).toNat < 9216

def adm (h : InRange m) : (pcfg0 (F := F)).Adm := ⟨tabs m, ok_of_range (tabs m) h.1⟩

theorem adm_eq (h : InRange m) (c : Dev nD) (j : Fin 3) : m ((c : Thread nD τ).loc (pre0.ref j)) = (adm m h).1 j := by
  obtain rfl : c = 0 := Subsingleton.elim _ _
  rfl

/-- A row number of one of the rows names a row inside the array. -/
theorem inRows_of (w : BitVec 32) (h : w.toNat < 9216) : InRows w := fun d => by
  match d with
  | ⟨0, _⟩ => show w.toNat + 1 ≤ 9216; omega
  | ⟨1, _⟩ => show 0 + 2048 ≤ 2048; omega

theorem rows_ok (h : InRange m) : RowsOk (adm m h) := fun i k => by
  obtain ⟨y, hy, -⟩ := word_at (F := F) i (tS (adm m h)) k
  rw [hy]
  exact inRows_of _ (h.2 y)

end Tables

variable (a : (pcfg0 (F := Ideal)).Adm) (m : (ℓ : Loc nD τ sig) → Buf (Elt Ideal) ℓ) (c : Dev nD)

abbrev argH : Vec Ideal S9216x2048 .f32 := m ((c.tc : Thread nD τ).loc main_arg0)
abbrev argA : Vec Ideal S8x2048x5632 .f32 := m ((c.tc : Thread nD τ).loc main_arg4)
abbrev argB : Vec Ideal S8x2048x5632 .f32 := m ((c.tc : Thread nD τ).loc main_arg5)

theorem coord0 : ∀ t : Fin grid0.N, (grid0.coords t 0).val = t.val / 11 := by decide +kernel
theorem coord1 : ∀ t : Fin grid0.N, (grid0.coords t 1).val = t.val % 11 := by decide +kernel

theorem wordOf_eq (t : Fin (cfgT a).N) (p : Fin 32) (hp : p.val = t.val / 11) (T : S32.Idx → BitVec 32) :
    wordOf (pt a t) T = T (ix1 p) :=
  congrArg T (funext fun d => Fin.ext (by fin_cases d; exact (coord0 t).trans hp.symm))

theorem place2 : ∀ t : Fin (cfgT a).N, (pcfg0.win a 2).index t 0 = t.val / 11 ∧ (pcfg0.win a 2).index t 1 = t.val % 11 :=
  (by decide +kernel : ∀ t : Fin grid0.N, cc0_transform_3 (grid0.coords t) 0 = t.val / 11 ∧ cc0_transform_3 (grid0.coords t) 1 = t.val % 11)
theorem place0 (t : Fin (cfgT a).N) (h : wordOf (pt a t) (tV a) ≠ 0#32) :
    (pcfg0.win a 0).index t 0 = (wordOf (pt a t) (tE a)).toNat ∧ (pcfg0.win a 0).index t 1 = 0
      ∧ (pcfg0.win a 0).index t 2 = t.val % 11 := by
  have e : (pcfg0.win a 0).index t = ![(wordOf (pt a t) (tE a)).toNat, 0, (pt a t 1).val] :=
    (place1_eq a.1 (pt a t)).trans (by rw [if_neg h])
  rw [e]
  exact ⟨rfl, rfl, coord1 t⟩
theorem place1 (t : Fin (cfgT a).N) (h : wordOf (pt a t) (tV a) ≠ 0#32) :
    (pcfg0.win a 1).index t 0 = (wordOf (pt a t) (tE a)).toNat ∧ (pcfg0.win a 1).index t 1 = 0
      ∧ (pcfg0.win a 1).index t 2 = t.val % 11 := by
  have e : (pcfg0.win a 1).index t = ![(wordOf (pt a t) (tE a)).toNat, 0, (pt a t 1).val] :=
    (place2_eq a.1 (pt a t)).trans (by rw [if_neg h])
  rw [e]
  exact ⟨rfl, rfl, coord1 t⟩

theorem blk0_at (t : Fin (cfgT a).N) (h : wordOf (pt a t) (tV a) ≠ 0#32) (e : Fin 8) (he : e.val = (wordOf (pt a t) (tE a)).toNat)
    (k : Fin 2048) (s : Fin 512) (j : Fin 5632) (hj : j.val = t.val % 11 * 512 + s.val) :
    (blkOf a m c (0 : Fin 3) t : Vec Ideal S1x2048x512 .f32) (ix3 0 k s) = argA m c (ix3 e k j) := by
  have hp := place0 a t h
  rw [← he] at hp
  unfold blkOf argA
  generalize m = W
  blk_simp
  blk_ext

theorem blk1_at (t : Fin (cfgT a).N) (h : wordOf (pt a t) (tV a) ≠ 0#32) (e : Fin 8) (he : e.val = (wordOf (pt a t) (tE a)).toNat)
    (k : Fin 2048) (s : Fin 512) (j : Fin 5632) (hj : j.val = t.val % 11 * 512 + s.val) :
    (blkOf a m c (1 : Fin 3) t : Vec Ideal S1x2048x512 .f32) (ix3 0 k s) = argB m c (ix3 e k j) := by
  have hp := place1 a t h
  rw [← he] at hp
  unfold blkOf argB
  generalize m = W
  blk_simp
  blk_ext

/-- A tile's gathered rows, at an index: the row its number names. -/
theorem gath_at (i : grid0.Coords) (T : S24576.Idx → BitVec 32) (fh : Vec Ideal S9216x2048 .f32) (hr : ∀ k, InRows (rowWord (F := Ideal) i T k))
    (r : Fin 768) (k : Fin 2048) (q : Fin 24576) (hq : q.val = 768 * (i 0).val + r.val) (p : Fin 9216) (hp : p.val = (T (ix1 q)).toNat) :
    gath i T fh hr (ix2 r k) = fh (ix2 p k) := by
  obtain ⟨y, hy, hv⟩ := word_at (F := Ideal) i T (rowOf (ix2 r k))
  have hq' : y = ix1 q := funext fun d => Fin.ext (by
    match d with
    | ⟨0, _⟩ => exact hv.trans hq.symm)
  subst hq'
  show fh _ = fh _
  refine congrArg fh (funext fun d => Fin.ext ?_)
  match d with
  | ⟨0, _⟩ =>
    refine Eq.trans ?_ ((congrArg BitVec.toNat hy).trans hp.symm)
    exact Nat.add_zero _
  | ⟨1, _⟩ => exact (congrArg (0 + ·) (Nat.one_mul _)).trans (Nat.zero_add _)

theorem pay1_at (x : Vec Ideal S768x2048 .f32) (r : Fin 768) (k : Fin 2048) : k0_pay1 x (ix2 r k) = x (ix2 r k) := by
  pointwise [k0_pay1]

/-- The gated product of a tile's rows and its expert's two blocks, at an index. -/
theorem pay2_at (x : Vec Ideal S768x2048 .bf16) (w v : Vec Ideal S1x2048x512 .f32) (r : Fin 768) (s : Fin 512) :
    k0_pay2 x w v (ix2 r s) = ((∑ k : Fin 2048, (x (ix2 r k) : EReal) * w (ix3 0 k s))
      * Ideal.logistic (∑ k : Fin 2048, (x (ix2 r k) : EReal) * w (ix3 0 k s))) * ∑ k : Fin 2048, (x (ix2 r k) : EReal) * v (ix3 0 k s) := by
  pointwise [k0_pay2]

theorem pay3_at (r : Fin 768) (s : Fin 512) : (k0_pay3 (F := Ideal)) (ix2 r s) = Ideal.ofBits .bf16 0x0000#16 := by
  pointwise [k0_pay3]

theorem nblk2_0 : ((cfgT a).win (2 : Fin 3)).nblk (0 : Fin 2) = 32 := by
  unfold Pipeline.Window.nblk; exact (by decide : (24576 + 768 - 1) / 768 = 32)
theorem nblk2_1 : ((cfgT a).win (2 : Fin 3)).nblk (1 : Fin 2) = 11 := by
  unfold Pipeline.Window.nblk; exact (by decide : (5632 + 512 - 1) / 512 = 11)

/-- Every block of the result is some point's. -/
theorem covers2 : ((cfgT a).win (2 : Fin 3)).Covers :=
  Pipeline.Window.covers_of_index_surj _ rfl
    (by intro d; match d with | ⟨0, _⟩ => exact (by decide : 0 < 768) | ⟨1, _⟩ => exact (by decide : 0 < 512)) fun β => by
    have h0 : (β (0 : Fin 2)).val < 32 := lt_of_lt_of_eq (β (0 : Fin 2)).isLt (nblk2_0 a)
    have h1 : (β (1 : Fin 2)).val < 11 := lt_of_lt_of_eq (β (1 : Fin 2)).isLt (nblk2_1 a)
    have hp := place2 a ⟨(β (0 : Fin 2)).val * 11 + (β (1 : Fin 2)).val, (by omega : _ < 352)⟩
    refine ⟨⟨(β (0 : Fin 2)).val * 11 + (β (1 : Fin 2)).val, (by omega : _ < 352)⟩, fun d => ?_⟩
    have e0 : ((β (0 : Fin 2)).val * 11 + (β (1 : Fin 2)).val) / 11 = (β (0 : Fin 2)).val := by omega
    have e1 : ((β (0 : Fin 2)).val * 11 + (β (1 : Fin 2)).val) % 11 = (β (1 : Fin 2)).val := by omega
    match d with
    | ⟨0, _⟩ => exact hp.1.trans e0
    | ⟨1, _⟩ => exact hp.2.trans e1

/-- The result's array after the run, from what every point stores. -/
theorem result_eq (hs : RowsOk a) (G : Buf (Elt Ideal) ((c.tc : Thread nD τ).loc main_v0))
    (h : ∀ (t : Fin (cfgT a).N) (r : Fin 768) (s : Fin 512) (i : Fin 24576) (j : Fin 5632), i.val = t.val / 11 * 768 + r.val →
      j.val = t.val % 11 * 512 + s.val → outOf a m hs c t (ix2 r s) = (G : Vec Ideal S24576x5632 .bf16) (ix2 i j)) :
    (dats a m hs 0 c).arrAt (2 : Fin 3) (cfgT a).N = G := by
  refine (dats a m hs 0 c).arrAt_eq_of_covers (2 : Fin 3) _ (covers2 a) fun t hf y => ?_
  have hp := place2 a t
  rw [after_2]
  have ht : t.val < 352 := t.isLt
  obtain ⟨r, s, rfl⟩ : ∃ (r : Fin 768) (s : Fin 512), y = ix2 r s := ⟨y 0, y 1, eq_ix2 y⟩
  blk_simp
  refine (h t r s ⟨t.val / 11 * 768 + r.val, by omega⟩ ⟨t.val % 11 * 512 + s.val, by omega⟩ rfl rfl).trans ?_
  blk_ext

end Cert.Up

end
-- ==== Proof.UpRef.lean ====
/- The reference of the experts' up products, read at an index: each tile's rows against its expert's two matrices, gated. -/
module

public import proofs.«01_k».proof.Proof.Gen.Reference3Ideal.Run
public import proofs.«01_k».proof.Proof.DownRef
public import Idealize.ShloMosaic.Lib.Pointwise
public import Idealize.ShloMosaic.Lib.IdealHost

@[expose] public section

set_option maxRecDepth 16384

noncomputable section

namespace Cert.Up.Ref

open Idealize.ShloMosaic Idealize.ShloMosaic.TcCoe
open Cert.Reference3Ideal Cert.Reference3Ideal.Gen
open Cert.Down.Ref (stackDims stack_at)

variable {F : FTy → Type} [FloatOps F]

/-- The tiles' experts with a negative number counted from the end, as a column. -/
def column (te : IVec S32 32) : IVec S32x1 32 :=
  broadcastInDim S32x1 ![0] bcast_S32_S32x1_0
    (select (cmpi .slt te (broadcastInDim S32 ![] bcast_S_S32 (constantI S_ 32 0#32)))
      (addi te (broadcastInDim S32 ![] bcast_S_S32 (constantI S_ 32 8#32))) te)

/-- The row numbers with a negative number counted from the end, as a column. -/
def rowColumn (src : IVec S24576 32) : IVec S24576x1 32 :=
  broadcastInDim S24576x1 ![0] bcast_S24576_S24576x1_0
    (select (cmpi .slt src (broadcastInDim S24576 ![] bcast_S_S24576 (constantI S_ 32 0#32)))
      (addi src (broadcastInDim S24576 ![] bcast_S_S24576 (constantI S_ 32 9216#32))) src)

/-- Each tile's expert's matrix. -/
def picked (te : IVec S32 32) (w : Vec F S8x2048x5632 .f32) : FVec F S32x2048x5632 .f32 :=
  Host.gather gather_S8x2048x5632_S32x1_S32x2048x5632_12_0_n_n_0_1_120485632 w (column te)

/-- The rows taken. -/
def taken (src : IVec S24576 32) (h : Vec F S9216x2048 .f32) : FVec F S24576x2048 .f32 :=
  Host.gather gather_S9216x2048_S24576x1_S24576x2048_1_0_n_n_0_1_12048 h (rowColumn src)

def prods (x : FVec F S24576x2048 .f32) (e : FVec F S32x2048x5632 .f32) : FVec F S32x768x5632 .f32 :=
  Host.dotGeneral dot_S32x768x2048_S32x2048x5632_S32x768x5632_2_1_1_2_0_0 none
    (shapeCast S32x768x2048 x shapeCasts_S24576x2048_S32x768x2048) e

/-- A number times its logistic. -/
def gate (x : FVec F S32x768x5632 .f32) : FVec F S32x768x5632 .f32 :=
  mulf x (Host.divf (broadcastInDim S32x768x5632 ![] bcast_S_S32x768x5632 (constant S_ .f32 0x3F800000#32))
    (addf (broadcastInDim S32x768x5632 ![] bcast_S_S32x768x5632 (constant S_ .f32 0x3F800000#32)) (Host.exp (Host.negf x))))

/-- Which tiles are in use. -/
def used (tv : IVec S32 32) : IVec S32x768x5632 1 :=
  broadcastInDim S32x768x5632 ![0, 1, 2] bcast_S32x1x1_S32x768x5632_0_1_2
    (cmpi .ne (broadcastInDim S32x1x1 ![0] bcast_S32_S32x1x1_0 tv)
      (broadcastInDim S32x1x1 ![] bcast_S_S32x1x1 (constantI S_ 32 0#32)))

def out (tv : IVec S32 32) (p : FVec F S32x768x5632 .f32) : FVec F S24576x5632 .bf16 :=
  truncf .bf16 (shapeCast S24576x5632 (select (used tv) p
    (broadcastInDim S32x768x5632 ![] bcast_S_S32x768x5632 (id (constant S_ .f32 0x00000000#32)))) shapeCasts_S32x768x5632_S24576x5632)
    bitsLt_bf16_f32

/-- The reference's result, of its arguments. -/
def whole (h : Vec F S9216x2048 .f32) (te tv : IVec S32 32) (src : IVec S24576 32) (w v : Vec F S8x2048x5632 .f32) : FVec F S24576x5632 .bf16 :=
  out tv (mulf (gate (prods (taken src h) (picked te w))) (prods (taken src h) (picked te v)))

/-- The dimension numbers of taking one row of a matrix for each entry of a column. -/
abbrev rowDims (N C n : ℕ)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- One row of a matrix, at a column of it. -/
theorem row_at {α : Type} {N C n w : ℕ} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (j : Fin C) :
    Host.gather (rowDims N C n wf) x idx (ix2 p j)
      = x (ix2 ⟨min (idx (ix2 p 0)).toInt.toNat (N - 1), by omega⟩ j) := by
  unfold Host.gather
  refine congrArg x (funext fun b => Fin.ext ?_)
  show (rowDims N C n wf).start (ix2 p j) idx b + (rowDims N C n wf).batchCoord (ix2 p j) b
      + (rowDims N C n wf).offCoord (ix2 p j) b = _
  rw [GatherDims.batchCoord_eq_zero _ _ _ List.not_mem_nil]
  match b with
  | ⟨0, h0⟩ =>
    rw [GatherDims.offCoord_eq_zero _ _ _ (fun h => ((GatherDims.mem_sKept _ _).mp h).1 (List.mem_singleton.mpr rfl))]
    unfold GatherDims.start
    rw [dif_pos (show (⟨0, h0⟩ : Fin 2) ∈ (rowDims N C n wf).startIndexMap from List.mem_singleton.mpr rfl)]
    have hs : (rowDims N C n wf).siIdx (ix2 p j) ⟨List.idxOf (⟨0, h0⟩ : Fin 2) (rowDims N C n wf).startIndexMap,
        List.idxOf_lt_length_iff.2 (List.mem_singleton.mpr rfl)⟩ = ix2 p 0 := by
      funext d; refine Fin.ext ?_
      match d with
      | ⟨0, _⟩ => rfl
      | ⟨1, _⟩ => rfl
    rw [hs]
    rfl
  | ⟨1, h1⟩ =>
    unfold GatherDims.start
    rw [dif_neg (show (⟨1, h1⟩ : Fin 2) ∉ (rowDims N C n wf).startIndexMap from by simp)]
    unfold GatherDims.offCoord
    rw [dif_pos (show (⟨1, h1⟩ : Fin 2) ∈ (rowDims N C n wf).sKept from by rw [GatherDims.mem_sKept]; simp)]
    exact Nat.zero_add _

/-- A number that is not negative is not counted from the end. -/
theorem wrapped (v n : BitVec 32) (h : v.toNat < 9216) :
    (Scalar.select (IntOp.cmpi .slt v 0#32) (IntOp.addi v n) v).toInt.toNat = v.toNat := by
  have hi : v.toInt = v.toNat := BitVec.toInt_eq_toNat_of_lt (by omega)
  have hs : IntOp.cmpi .slt v 0#32 = 0#1 := by
    simp only [IntOp.cmpi, BitVec.slt, hi]
    rw [decide_eq_false (by simp)]; rfl
  rw [hs]
  show v.toInt.toNat = _
  rw [hi]; rfl

theorem column_at (te : IVec S32 32) (p : Fin 32) :
    column te (ix2 p 0) = Scalar.select (IntOp.cmpi .slt (te (ix1 p)) 0#32) (IntOp.addi (te (ix1 p)) 8#32) (te (ix1 p)) := by
  pointwise [column]

theorem rowColumn_at (src : IVec S24576 32) (p : Fin 24576) :
    rowColumn src (ix2 p 0) = Scalar.select (IntOp.cmpi .slt (src (ix1 p)) 0#32) (IntOp.addi (src (ix1 p)) 9216#32) (src (ix1 p)) := by
  pointwise [rowColumn]

theorem picked_at (te : IVec S32 32) (w : Vec Ideal S8x2048x5632 .f32) (p : Fin 32) (e : Fin 8) (he : e.val = (te (ix1 p)).toNat)
    (r : Fin 2048) (j : Fin 5632) : picked te w (ix3 p r j) = w (ix3 e r j) := by
  unfold picked
  refine (stack_at (by decide) gather_S8x2048x5632_S32x1_S32x2048x5632_12_0_n_n_0_1_120485632_wf w (column te) p r j).trans ?_
  have hc : (column te (ix2 p 0)).toInt.toNat = e.val := by
    rw [column_at, wrapped _ _ (by omega), he]
  exact congrArg (fun e => w (ix3 e r j)) (Fin.ext (by simp only [hc]; omega))

theorem taken_at (src : IVec S24576 32) (h : Vec Ideal S9216x2048 .f32) (i : Fin 24576) (q : Fin 9216) (hq : q.val = (src (ix1 i)).toNat)
    (k : Fin 2048) : taken src h (ix2 i k) = h (ix2 q k) := by
  unfold taken
  refine (row_at (by decide) gather_S9216x2048_S24576x1_S24576x2048_1_0_n_n_0_1_12048_wf h (rowColumn src) i k).trans ?_
  have hc : (rowColumn src (ix2 i 0)).toInt.toNat = q.val := by
    rw [rowColumn_at, wrapped _ _ (by omega), hq]
  exact congrArg (fun e => h (ix2 e k)) (Fin.ext (by simp only [hc]; omega))

theorem prods_at (x : FVec Ideal S24576x2048 .f32) (e : FVec Ideal S32x2048x5632 .f32) (p : Fin 32) (r : Fin 768) (j : Fin 5632) :
    prods x e (ix3 p r j) = ∑ k : Fin 2048, (x (ix2 ⟨p.val * 768 + r.val, by omega⟩ k) : EReal) * e (ix3 p k j) := by
  pointwise [prods]

theorem gate_at (x : FVec Ideal S32x768x5632 .f32) (p : Fin 32) (r : Fin 768) (j : Fin 5632) :
    gate x (ix3 p r j) = (x (ix3 p r j) : EReal) * Ideal.logistic (x (ix3 p r j)) := by
  show (x (ix3 p r j) : EReal) * Ideal.div (Ideal.ofBits .f32 0x3F800000#32) (Ideal.ofBits .f32 0x3F800000#32 + Ideal.exp (-(x (ix3 p r j) : EReal))) = _
  rw [Ideal.ofBits_one_f32]
  rfl

theorem out_at (tv : IVec S32 32) (p : FVec Ideal S32x768x5632 .f32) (i : Fin 24576) (j : Fin 5632) :
    out tv p (ix2 i j) = Scalar.select (IntOp.cmpi .ne (tv (ix1 ⟨i.val / 768, by omega⟩)) 0#32)
      (p (ix3 ⟨i.val / 768, by omega⟩ ⟨i.val % 768, by omega⟩ j)) (Ideal.ofBits .f32 0x00000000#32) := by
  pointwise [out, used, id]

/-- One of the two products, at a row of the result and a column. -/
theorem product_at (h : Vec Ideal S9216x2048 .f32) (te : IVec S32 32) (src : IVec S24576 32) (w : Vec Ideal S8x2048x5632 .f32)
    (i : Fin 24576) (j : Fin 5632) (e : Fin 8) (he : e.val = (te (ix1 ⟨i.val / 768, by omega⟩)).toNat) (q : Fin 9216)
    (hq : q.val = (src (ix1 i)).toNat) :
    prods (taken src h) (picked te w) (ix3 ⟨i.val / 768, by omega⟩ ⟨i.val % 768, by omega⟩ j)
      = ∑ k : Fin 2048, (h (ix2 q k) : EReal) * w (ix3 e k j) := by
  refine (prods_at _ _ _ _ j).trans (Finset.sum_congr rfl fun k _ => congrArg₂ (fun x y : EReal => x * y) ?_ ?_)
  · refine (congrArg (fun a => taken src h (ix2 a k)) (Fin.ext (by simp only; omega) : _ = i)).trans ?_
    exact taken_at src h i q hq k
  · exact picked_at te w _ e he k j

theorem whole_at (h : Vec Ideal S9216x2048 .f32) (te tv : IVec S32 32) (src : IVec S24576 32) (w v : Vec Ideal S8x2048x5632 .f32)
    (i : Fin 24576) (j : Fin 5632) (p : Fin 32) (hp : p.val = i.val / 768) (e : Fin 8) (he : e.val = (te (ix1 p)).toNat)
    (q : Fin 9216) (hq : q.val = (src (ix1 i)).toNat) :
    whole h te tv src w v (ix2 i j) = Scalar.select (IntOp.cmpi .ne (tv (ix1 p)) 0#32)
      (((∑ k : Fin 2048, (h (ix2 q k) : EReal) * w (ix3 e k j)) * Ideal.logistic (∑ k : Fin 2048, (h (ix2 q k) : EReal) * w (ix3 e k j)))
        * ∑ k : Fin 2048, (h (ix2 q k) : EReal) * v (ix3 e k j)) (Ideal.ofBits .f32 0x00000000#32) := by
  obtain rfl : p = ⟨i.val / 768, Nat.div_lt_of_lt_mul i.isLt⟩ := Fin.ext hp
  refine (out_at tv _ i j).trans (congrArg (fun s => Scalar.select _ s _) ?_)
  have h1 := product_at h te src w i j e he q hq
  have h2 := product_at h te src v i j e he q hq
  refine (congrArg₂ (fun x y : EReal => x * y) (gate_at _ _ _ j) h2).trans ?_
  rw [h1]

end Cert.Up.Ref

end
-- ==== Proof.UpAlgebraic.lean ====
/- The experts' up products' result is the reference's, and the precondition puts their tables in range. -/
module

public import proofs.«01_k».proof.Defs
public import proofs.«01_k».proof.Proof.Gen.Pre_gathers
public import proofs.«01_k».proof.Proof.UpValue
public import proofs.«01_k».proof.Proof.UpRef

@[expose] public section

set_option maxRecDepth 16384

noncomputable section

namespace Cert.Up

open Idealize.ShloMosaic Idealize.ShloMosaic.TcCoe
open Cert.Kernel3Ideal Cert.Kernel3Ideal.Gen

/-- A signed word from 0 up to a bound is a number below the bound. -/
theorem word_range (v b : BitVec 32) (hb : b.toNat < 2147483648) (h0 : IntOp.cmpi .sge v 0#32 = 1#1) (h1 : IntOp.cmpi .slt v b = 1#1) :
    v.toNat < b.toNat := by
  have e0 : (0#32).sle v = true := by
    by_contra hn
    simp only [IntOp.cmpi, Bool.not_eq_true] at h0 hn
    rw [hn] at h0; exact absurd h0 (by decide)
  have e1 : v.slt b = true := by
    by_contra hn
    simp only [IntOp.cmpi, Bool.not_eq_true] at h1 hn
    rw [hn] at h1; exact absurd h1 (by decide)
  simp only [BitVec.sle, BitVec.slt, decide_eq_true_eq] at e0 e1
  have z : (0#32).toInt = 0 := by decide
  have e : b.toInt = b.toNat := BitVec.toInt_eq_toNat_of_lt (by omega)
  rw [z] at e0; rw [e] at e1
  have := BitVec.toInt_eq_toNat_cond v
  split at this <;> omega

/-- The precondition at its function's four results. -/
theorem range_of_fn {F : FTy → Type} [FloatOps F] (x0 : FVec F Cert.Pre_gathers.S9216x2048 .f32) (te tv : IVec Cert.Pre_gathers.S32 32)
    (src : IVec Cert.Pre_gathers.S24576 32) (w v : FVec F Cert.Pre_gathers.S8x2048x5632 .f32)
    (h : (Cert.Pre_gathers.fn x0 te tv src w v).1 = (fun _ => 1#1) ∧ (Cert.Pre_gathers.fn x0 te tv src w v).2.1 = (fun _ => 1#1)
      ∧ (Cert.Pre_gathers.fn x0 te tv src w v).2.2.1 = (fun _ => 1#1) ∧ (Cert.Pre_gathers.fn x0 te tv src w v).2.2.2 = (fun _ => 1#1)) :
    (∀ x, (te x).toNat < 8) ∧ ∀ x, (src x).toNat < 9216 :=
  ⟨fun x => word_range (te x) 8#32 (by decide) (congrFun h.1 x) (congrFun h.2.1 x),
    fun x => word_range (src x) 9216#32 (by decide) (congrFun h.2.2.1 x) (congrFun h.2.2.2 x)⟩

theorem range_ideal (m : (ℓ : Loc nD τ sig) → Buf (Elt Ideal) ℓ) (h : Cert.Pre_Kernel3Ideal m) : InRange m :=
  range_of_fn _ _ _ _ _ _ (h 0)

theorem range_bits (m : (ℓ : Loc nD τ sig) → Buf (Elt Bits) ℓ) (h : Cert.Pre_Kernel3 m) : InRange m :=
  range_of_fn _ _ _ _ _ _ (h 0)

variable (m : (ℓ : Loc nD τ sig) → Buf (Elt Ideal) ℓ) (c : Dev nD)

/-- The reference's result, of the kernel's arguments. -/
def refUp : FVec Ideal Cert.Reference3Ideal.S24576x5632 .bf16 :=
  Ref.whole (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- What the kernel leaves in its result is the reference's result. -/
theorem up_result (h : InRange m) : (dats (adm m h) m (rows_ok m h) 0 c).arrAt (2 : Fin 3) (cfgT (adm m h)).N = refUp m c := by
  refine result_eq (adm m h) m c (rows_ok m h) (refUp m c) fun t r s i j hi hj => ?_
  have ht : t.val < 352 := t.isLt
  obtain ⟨p, hp⟩ : ∃ p : Fin 32, p.val = t.val / 11 := ⟨⟨t.val / 11, by omega⟩, rfl⟩
  have hE := wordOf_eq (adm m h) t p hp (tE (adm m h))
  have hV := wordOf_eq (adm m h) t p hp (tV (adm m h))
  obtain rfl : c = 0 := Subsingleton.elim _ _
  have hr : (tE (adm m h) (ix1 p)).toNat < 8 := h.1 _
  have hq : (tS (adm m h) (ix1 i)).toNat < 9216 := h.2 _
  refine Eq.trans ?_ (Ref.whole_at (argH m 0) (tE (adm m h)) (tV (adm m h)) (tS (adm m h)) (argA m 0) (argB m 0) i j p (by omega) ⟨_, hr⟩ rfl
    ⟨_, hq⟩ rfl).symm
  unfold outOf
  by_cases hv : tV (adm m h) (ix1 p) = 0#32
  · rw [if_pos (hV.trans hv), hv]
    exact (pay3_at r s).trans (Ideal.ofBits_zero_bf16.trans Ideal.ofBits_zero_f32.symm)
  · have hw : wordOf (pt (adm m h) t) (tV (adm m h)) ≠ 0#32 := fun e => hv (hV.symm.trans e)
    have hs : IntOp.cmpi .ne (tV (adm m h) (ix1 p)) 0#32 = 1#1 := by
      show BitVec.ofBool (_ != 0#32) = 1#1
      rw [show (tV (adm m h) (ix1 p) != 0#32) = true from bne_iff_ne.mpr hv]; rfl
    rw [if_neg hw, hs]
    refine (pay2_at _ _ _ r s).trans ?_
    have hx : ∀ k : Fin 2048, (rowsOf (adm m h) m (rows_ok m h) 0 t (ix2 r k) : EReal) = argH m 0 (ix2 ⟨_, hq⟩ k) := fun k => by
      unfold rowsOf
      refine (pay1_at _ r k).trans ?_
      refine gath_at (pt (adm m h) t) (tS (adm m h)) (hOf m 0) _ r k i ?_ ⟨_, hq⟩ rfl
      have h0 : (pt (adm m h) t 0).val = t.val / 11 := coord0 t
      omega
    have ha : (∑ k : Fin 2048, (rowsOf (adm m h) m (rows_ok m h) 0 t (ix2 r k) : EReal) * (blkOf (adm m h) m 0 (0 : Fin 3) t : Vec Ideal S1x2048x512 .f32) (ix3 0 k s))
        = ∑ k : Fin 2048, (argH m 0 (ix2 ⟨_, hq⟩ k) : EReal) * argA m 0 (ix3 ⟨_, hr⟩ k j) :=
      Finset.sum_congr rfl fun k _ => congrArg₂ (fun x y : EReal => x * y) (hx k)
        (blk0_at (adm m h) m 0 t hw ⟨_, hr⟩ (congrArg BitVec.toNat hE.symm) k s j hj)
    have hb : (∑ k : Fin 2048, (rowsOf (adm m h) m (rows_ok m h) 0 t (ix2 r k) : EReal) * (blkOf (adm m h) m 0 (1 : Fin 3) t : Vec Ideal S1x2048x512 .f32) (ix3 0 k s))
        = ∑ k : Fin 2048, (argH m 0 (ix2 ⟨_, hq⟩ k) : EReal) * argB m 0 (ix3 ⟨_, hr⟩ k j) :=
      Finset.sum_congr rfl fun k _ => congrArg₂ (fun x y : EReal => x * y) (hx k)
        (blk1_at (adm m h) m 0 t hw ⟨_, hr⟩ (congrArg BitVec.toNat hE.symm) k s j hj)
    exact congrArg₂ (fun x y : EReal => (x * Ideal.logistic x) * y) ha hb

end Cert.Up

end
-- ==== Proof.DenseUpSame.lean ====
/- The dense feed-forward's up products's printed text and its ideal twin's are the same, so a run of the one is a run of the other. -/
module

public import proofs.«01_k».proof.Proof.Gen.Kernel4
public import proofs.«01_k».proof.Proof.Gen.Kernel4Ideal

@[expose] public section

set_option maxRecDepth 16384

noncomputable section

namespace Cert.DenseUp

open Idealize.ShloMosaic

variable {F : FTy → Type} [FloatOps F]

/-- The two bodies. -/
theorem body_same : @Cert.Kernel4.cc0_ffn_up F _ _ = @Cert.Kernel4Ideal.cc0_ffn_up F _ _ := rfl

/-- The two tables of bodies. -/
theorem bodies_same : Cert.Kernel4.defs₀ (F := F) = Cert.Kernel4Ideal.defs₀ (F := F) := by
  funext p
  match p with
  | .tc =>
    funext ℓ a
    match ℓ, a with
    | ⟨0, _⟩, (t, s) => exact congrFun (congrFun (congrFun (congrFun (congrFun (congrFun (congrFun (congrFun (congrFun (congrFun (congrFun (congrFun (congrFun body_same (Cert.Kernel4Ideal.grid0.coords t)) (Memref.whole Cert.Kernel4Ideal.main_arg1)) (Memref.isWhole_whole _)) (Memref.whole Cert.Kernel4Ideal.main_arg2)) (Memref.isWhole_whole _)) (Cert.Kernel4Ideal.spec0_0.stage (s 0))) (Cert.Kernel4Ideal.Facts₀.hstage0_0 ((s 0).cast Cert.Kernel4Ideal.Facts₀.nbuf0_0))) (Cert.Kernel4Ideal.spec0_1.stage (s 1))) (Cert.Kernel4Ideal.Facts₀.hstage0_1 ((s 1).cast Cert.Kernel4Ideal.Facts₀.nbuf0_1))) (Cert.Kernel4Ideal.spec0_2.stage (s 2))) (Cert.Kernel4Ideal.Facts₀.hstage0_2 ((s 2).cast Cert.Kernel4Ideal.Facts₀.nbuf0_2))) (Cert.Kernel4Ideal.spec0_3.stage (s 3))) (Cert.Kernel4Ideal.Facts₀.hstage0_3 ((s 3).cast Cert.Kernel4Ideal.Facts₀.nbuf0_3))
  | .scScalar _ => rfl
  | .scVector _ _ => rfl

theorem defs_same : Cert.Kernel4.defs (F := F) = Cert.Kernel4Ideal.defs (F := F) :=
  congrArg (Pipeline.defs Cert.Kernel4Ideal.pcfgs) bodies_same

theorem main_same : Cert.Kernel4.main (F := F) = Cert.Kernel4Ideal.main (F := F) := rfl

end Cert.DenseUp

end
-- ==== Proof.DenseUpRun.lean ====
/- The dense feed-forward's up products's body at one grid point: a tile that is in use, and a tile that is not. -/
module

public import proofs.«01_k».proof.Proof.Gen.Kernel4Ideal.Skeleton
public import proofs.«01_k».proof.Proof.Gen.Kernel4Ideal.Launch
public import Idealize.ShloMosaic.Lib.Pipeline.Kit
public import Idealize.ShloMosaic.Lib.Pipeline.TableIdle
public import Idealize.ShloMosaic.Lib.Pipeline.FrameBody
public import Idealize.ShloMosaic.Lib.Pipeline.ReadBack
public import Idealize.ShloMosaic.Lib.Pipeline.ValueKit
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.DenseUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

/-- The two tables: a tile's expert, and whether a tile is in use. -/
abbrev tabE : Memref sig .tc .smem S9 .i32 := Memref.whole main_arg1
abbrev tabV : Memref sig .tc .smem S9 .i32 := Memref.whole main_arg2

/-- The word of the second table that the body reads at a point. -/
abbrev wordOf (i : grid0.Coords) (T : S9.Idx → BitVec 32) : BitVec 32 := T fun a => match a with | ⟨0, _⟩ => i 0

theorem cond1_iff (w : BitVec 32) : k0_cond1 w = 1#1 ↔ w ≠ 0#32 := by
  unfold k0_cond1
  simp only [Scalar.cmpi, Scalar.extui, IntOp.cmpi]
  by_cases h : w = 0#32
  · subst h; decide
  · rw [show (w != 0#32) = true from bne_iff_ne.mpr h]; exact ⟨fun _ => h, fun _ => by decide⟩

theorem cond2_iff (w : BitVec 32) : k0_cond2 w = 1#1 ↔ w = 0#32 := by
  unfold k0_cond2
  simp only [Scalar.cmpi, Scalar.extui, IntOp.cmpi]
  by_cases h : w = 0#32
  · subst h; decide
  · rw [show (w == 0#32) = false from beq_eq_false_iff_ne.mpr h]
    exact ⟨fun h' => absurd h' (by decide), fun h' => absurd h' h⟩

theorem read1 (i : grid0.Coords) (T : S9.Idx → BitVec 32) :
    View.readAt (Elt F) tabV.view (Rect.unit (s := S9) (k0_off1 i) S1.size (k0_off1_inb i)).toLoadRect T
      (Shape.Idx.first (numel1_S1.symm ▸ Nat.one_pos)) = wordOf i T :=
  congrArg T (funext fun a => Fin.ext (by
    have h := congrFun (k0_off1_eq i) 0
    fin_cases a
    exact (Nat.add_zero _).trans h))

theorem read2 (i : grid0.Coords) (T : S9.Idx → BitVec 32) :
    View.readAt (Elt F) tabV.view (Rect.unit (s := S9) (k0_off2 i) S1.size (k0_off2_inb i)).toLoadRect T
      (Shape.Idx.first (numel1_S1.symm ▸ Nat.one_pos)) = wordOf i T :=
  congrArg T (funext fun a => Fin.ext (by
    have h := congrFun (k0_off2_eq i) 0
    fin_cases a
    exact (Nat.add_zero _).trans h))

set_option maxHeartbeats 4000000 in
/-- A tile in use: the gated product of its rows and its two blocks. -/
theorem run_used (c : Dev nD) (i : grid0.Coords)
    (arg4 : Memref sig .tc .vmem S1024x2048 .f32) (harg4 : arg4.IsWhole) (arg5 : Memref sig .tc .vmem S1x2048x512 .f32)
    (harg5 : arg5.IsWhole) (arg6 : Memref sig .tc .vmem S1x2048x512 .f32)
    (harg6 : arg6.IsWhole) (arg7 : Memref sig .tc .vmem S1024x512 .bf16) (harg7 : arg7.IsWhole)
    (T0 T1 : S9.Idx → BitVec 32) (x0 : Vec F S1024x2048 .f32) (x1 x2 : Vec F S1x2048x512 .f32)
    (hw : wordOf i T1 ≠ 0#32) (E : Set ℕ) (K : PUnit → sProp 𝕄) :
    iprop(owns (c : Thread nD τ) arg4 fullShare x0
        ∗ owns (c : Thread nD τ) arg5 fullShare x1
        ∗ owns (c : Thread nD τ) arg6 fullShare x2
        ∗ (tabE.view.loc (c : Thread nD τ) ↦{fullShare.right} T0)
        ∗ (tabV.view.loc (c : Thread nD τ) ↦{fullShare.right} T1)
        ∗ (∃ d, owns (c : Thread nD τ) arg7 fullShare d)
        ∗ (iprop(owns (c : Thread nD τ) arg4 fullShare x0
            ∗ owns (c : Thread nD τ) arg5 fullShare x1
            ∗ owns (c : Thread nD τ) arg6 fullShare x2
            ∗ (tabE.view.loc (c : Thread nD τ) ↦{fullShare.right} T0)
            ∗ (tabV.view.loc (c : Thread nD τ) ↦{fullShare.right} T1)
            ∗ owns (c : Thread nD τ) arg7 fullShare (k0_pay1 x0 x1 x2)) -∗ K ⟨⟩))
      ⊢ wp frame (wpE (defs₀ (F := F)) Variants.none c none) E
          (cc0_ffn_up i (Memref.whole main_arg1) (Memref.isWhole_whole _) (Memref.whole main_arg2) (Memref.isWhole_whole _)
            arg4 harg4 arg5 harg5 arg6 harg6 arg7 harg7) K := by
  have h1 := (cond1_iff _).mpr hw
  have h2 := fun h => hw ((cond2_iff _).mp h)
  rw [← read1 (F := F)] at h1
  rw [← read2 (F := F)] at h2
  unfold owns; rw [cc0_ffn_up_eq_skeleton]; unfold cc0_ffn_up_skel
  iintro ⟨⟨%f0, %hf0, H0⟩, ⟨%f1, %hf1, H1⟩, ⟨%f2, %hf2, H2⟩, HT0, HT1, ⟨%d3, %f3, -, H3⟩, Hk⟩
  subst hf0 hf1 hf2
  have hT0 : tabE.IsWhole := Memref.isWhole_whole _
  have hT1 : tabV.IsWhole := Memref.isWhole_whole _
  sl_exec! (disch := first | (guard_target = k0_cond1 _ = _; exact h1) | (guard_target = ¬(k0_cond2 _ = _); exact h2))
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [HT0]; · iexact HT0
  isplitl [HT1]; · iexact HT1
  iexists _; isplitr; swap; · iexact H3
  ipureintro
  refine (View.read_writes_eq_canon _ _ _ (View.cover_of_tiled_head _ _ _ (by rfl))).trans ?_
  sl_unfold_run_names
  refine (View.canon_unit_zero (by decide) _ _).trans ?_
  rw [View.readAt_full, View.readAt_full, View.readAt_full]

set_option maxHeartbeats 4000000 in
/-- A tile not in use: zeros. -/
theorem run_unused (c : Dev nD) (i : grid0.Coords)
    (arg4 : Memref sig .tc .vmem S1024x2048 .f32) (harg4 : arg4.IsWhole) (arg5 : Memref sig .tc .vmem S1x2048x512 .f32)
    (harg5 : arg5.IsWhole) (arg6 : Memref sig .tc .vmem S1x2048x512 .f32)
    (harg6 : arg6.IsWhole) (arg7 : Memref sig .tc .vmem S1024x512 .bf16) (harg7 : arg7.IsWhole)
    (T0 T1 : S9.Idx → BitVec 32) (x0 : Vec F S1024x2048 .f32) (x1 x2 : Vec F S1x2048x512 .f32)
    (hw : wordOf i T1 = 0#32) (E : Set ℕ) (K : PUnit → sProp 𝕄) :
    iprop(owns (c : Thread nD τ) arg4 fullShare x0
        ∗ owns (c : Thread nD τ) arg5 fullShare x1
        ∗ owns (c : Thread nD τ) arg6 fullShare x2
        ∗ (tabE.view.loc (c : Thread nD τ) ↦{fullShare.right} T0)
        ∗ (tabV.view.loc (c : Thread nD τ) ↦{fullShare.right} T1)
        ∗ (∃ d, owns (c : Thread nD τ) arg7 fullShare d)
        ∗ (iprop(owns (c : Thread nD τ) arg4 fullShare x0
            ∗ owns (c : Thread nD τ) arg5 fullShare x1
            ∗ owns (c : Thread nD τ) arg6 fullShare x2
            ∗ (tabE.view.loc (c : Thread nD τ) ↦{fullShare.right} T0)
            ∗ (tabV.view.loc (c : Thread nD τ) ↦{fullShare.right} T1)
            ∗ owns (c : Thread nD τ) arg7 fullShare k0_pay2) -∗ K ⟨⟩))
      ⊢ wp frame (wpE (defs₀ (F := F)) Variants.none c none) E
          (cc0_ffn_up i (Memref.whole main_arg1) (Memref.isWhole_whole _) (Memref.whole main_arg2) (Memref.isWhole_whole _)
            arg4 harg4 arg5 harg5 arg6 harg6 arg7 harg7) K := by
  have h1 := fun h => (cond1_iff _).mp h hw
  have h2 := (cond2_iff _).mpr hw
  rw [← read1 (F := F)] at h1
  rw [← read2 (F := F)] at h2
  unfold owns; rw [cc0_ffn_up_eq_skeleton]; unfold cc0_ffn_up_skel
  iintro ⟨⟨%f0, %hf0, H0⟩, ⟨%f1, %hf1, H1⟩, ⟨%f2, %hf2, H2⟩, HT0, HT1, ⟨%d3, %f3, -, H3⟩, Hk⟩
  subst hf0 hf1 hf2
  have hT0 : tabE.IsWhole := Memref.isWhole_whole _
  have hT1 : tabV.IsWhole := Memref.isWhole_whole _
  sl_exec! (disch := first | (guard_target = ¬(k0_cond1 _ = _); exact h1) | (guard_target = k0_cond2 _ = _; exact h2))
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [HT0]; · iexact HT0
  isplitl [HT1]; · iexact HT1
  iexists _; isplitr; swap; · iexact H3
  ipureintro
  refine (View.read_writes_eq_canon _ _ _ (View.cover_of_tiled_head _ _ _ (by rfl))).trans ?_
  sl_unfold_run_names
  exact View.canon_unit_zero (by decide) _ _

end Cert.DenseUp

end
-- ==== Proof.DenseUpData.lean ====
/- The dense feed-forward's up products's pipeline at any tables in range: its data, the body's triple at every point, the run. -/
module

public import proofs.«01_k».proof.Proof.DenseUpRun

@[expose] public section

set_option maxRecDepth 16384

noncomputable section

namespace Cert.DenseUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

/-- The two tables of an admissible pair, and the pipeline at them. -/
abbrev tE : S9.Idx → BitVec 32 := a.1 0
abbrev tV : S9.Idx → BitVec 32 := a.1 1
abbrev cfgT : Pipeline.Cfg sig Λ₀ := cfg0 (F := F) a
abbrev pinned : Fin 1 → Pipeline.Cfg sig Λ₀ := Pipeline.pin (pcfgs (F := F)) fun _ => a
abbrev pt (t : Fin (cfgT a).N) : grid0.Coords := grid0.coords t

abbrev b0 (t : Fin (cfgT a).N) : Memref sig .tc .vmem S1024x2048 .f32 := spec0_0.stage ((cfgT a).slots t (0 : Fin 4))
abbrev b1 (t : Fin (cfgT a).N) : Memref sig .tc .vmem S1x2048x512 .f32 := spec0_1.stage ((cfgT a).slots t (1 : Fin 4))
abbrev b2 (t : Fin (cfgT a).N) : Memref sig .tc .vmem S1x2048x512 .f32 := spec0_2.stage ((cfgT a).slots t (2 : Fin 4))
abbrev b3 (t : Fin (cfgT a).N) : Memref sig .tc .vmem S1024x512 .bf16 := spec0_3.stage ((cfgT a).slots t (3 : Fin 4))

/-- A window's block at a point, of the array as launched. -/
def blkOf (c : Dev nD) (w : Fin (cfgT a).W) (t : Fin (cfgT a).N) :
    (((cfgT a).win w).xblock ((cfgT a).grid.coords t)).Idx → Elt F ((cfgT a).win w).elt :=
  (((cfgT a).win w).blk t).view.read (Elt F) (m (((cfgT a).win w).arr.view.loc (c : Thread nD τ)))

/-- What the body stores at a point. -/
def outOf (c : Dev nD) (t : Fin (cfgT a).N) : Vec F S1024x512 .bf16 :=
  if wordOf (pt a t) (tV a) = 0#32 then k0_pay2 else k0_pay1 (blkOf a m c 0 t) (blkOf a m c 1 t) (blkOf a m c 2 t)

/-- Between points: the body's halves of the tables. -/
def held (c : Dev nD) : sProp 𝕄 :=
  iprop((tabE.view.loc (c : Thread nD τ) ↦{fullShare.right} tE a) ∗ (tabV.view.loc (c : Thread nD τ) ↦{fullShare.right} tV a))

def dats (_ : Fin 1) (c : Dev nD) : Dat τ (Elt F) Unit ℕ (UR sig nD τ) ℕ (cfgT a) c where
  A w := m (((cfgT a).win w).arr.view.loc (c : Thread nD τ))
  after w t := match w with
    | ⟨0, _⟩ => blkOf a m c (0 : Fin 4) t
    | ⟨1, _⟩ => blkOf a m c (1 : Fin 4) t
    | ⟨2, _⟩ => blkOf a m c (2 : Fin 4) t
    | ⟨3, _⟩ => outOf a m c t
  Φ _ := held a c
  q _ := fullShare
  owed _ := 0

theorem after_0 (c : Dev nD) (t : Fin (cfgT a).N) : (dats a m 0 c).after (0 : Fin 4) t = blkOf a m c (0 : Fin 4) t := rfl
theorem after_1 (c : Dev nD) (t : Fin (cfgT a).N) : (dats a m 0 c).after (1 : Fin 4) t = blkOf a m c (1 : Fin 4) t := rfl
theorem after_2 (c : Dev nD) (t : Fin (cfgT a).N) : (dats a m 0 c).after (2 : Fin 4) t = blkOf a m c (2 : Fin 4) t := rfl
theorem after_3 (c : Dev nD) (t : Fin (cfgT a).N) : (dats a m 0 c).after (3 : Fin 4) t = outOf a m c t := rfl

theorem before_0 (c : Dev nD) (t : Fin (cfgT a).N) (d) : (dats a m 0 c).before (0 : Fin 4) t d = blkOf a m c (0 : Fin 4) t :=
  ((dats a m 0 c).before_in_eq_fetched (0 : Fin 4) rfl (fun _ => rfl) (fun _ _ _ => rfl)
    (fun t => by rw [after_0]; unfold Dat.blockOf blkOf; rfl) t d).trans (by unfold Dat.fetched Dat.blockOf blkOf; rfl)
theorem before_1 (c : Dev nD) (t : Fin (cfgT a).N) (d) : (dats a m 0 c).before (1 : Fin 4) t d = blkOf a m c (1 : Fin 4) t :=
  ((dats a m 0 c).before_in_eq_fetched (1 : Fin 4) rfl (fun _ => rfl) (fun _ _ _ => rfl)
    (fun t => by rw [after_1]; unfold Dat.blockOf blkOf; rfl) t d).trans (by unfold Dat.fetched Dat.blockOf blkOf; rfl)
theorem before_2 (c : Dev nD) (t : Fin (cfgT a).N) (d) : (dats a m 0 c).before (2 : Fin 4) t d = blkOf a m c (2 : Fin 4) t :=
  ((dats a m 0 c).before_in_eq_fetched (2 : Fin 4) rfl (fun _ => rfl) (fun _ _ _ => rfl)
    (fun t => by rw [after_2]; unfold Dat.blockOf blkOf; rfl) t d).trans (by unfold Dat.fetched Dat.blockOf blkOf; rfl)

/-- One of the two conditions holds at every point, so the body stores its output there. -/
theorem stores (t : Fin (cfgT a).N) : (cfgT a).idle (3 : Fin 4) ((cfgT a).grid.coords t) = false := by
  have h : ∀ w : BitVec 32, (!(k0_cond1 w == 1#1) && !(k0_cond2 w == 1#1)) = false := fun w => by
    by_cases hw : w = 0#32
    · rw [(cond2_iff w).mpr hw]; simp
    · rw [(cond1_iff w).mpr hw]; simp
  exact h (a.1.atD 1 (k0_off1 ((cfgT a).grid.coords t)))

abbrev bodyAt (t : Fin (cfgT a).N) : Prog (TpuEff nD τ sig (Elt F) Λ₀ .tc) PUnit :=
  cc0_ffn_up (pt a t) (Memref.whole main_arg1) (Memref.isWhole_whole _) (Memref.whole main_arg2) (Memref.isWhole_whole _)
    (b0 a t) (hstage0_0 (((cfgT a).slots t (0 : Fin 4)).cast nbuf0_0)) (b1 a t) (hstage0_1 (((cfgT a).slots t (1 : Fin 4)).cast nbuf0_1))
    (b2 a t) (hstage0_2 (((cfgT a).slots t (2 : Fin 4)).cast nbuf0_2))
    (b3 a t) (hstage0_3 (((cfgT a).slots t (3 : Fin 4)).cast nbuf0_3))

set_option maxHeartbeats 4000000 in
theorem sound_body (c : Dev nD) (t : Fin (cfgT a).N) :
    iprop((dats a m 0 c).Φ t.castSucc ∗ (dats a m 0 c).owesAt () t.castSucc
        ∗ (∃ d, owns (c : Thread nD τ) (b0 a t) fullShare ((dats a m 0 c).before (0 : Fin 4) t d))
        ∗ (∃ d, owns (c : Thread nD τ) (b1 a t) fullShare ((dats a m 0 c).before (1 : Fin 4) t d))
        ∗ (∃ d, owns (c : Thread nD τ) (b2 a t) fullShare ((dats a m 0 c).before (2 : Fin 4) t d))
        ∗ (∃ d, owns (c : Thread nD τ) (b3 a t) fullShare ((dats a m 0 c).before (3 : Fin 4) t d)))
      ⊢ wp frame (wpE (defs₀ (F := F)) Variants.none c none) Set.univ (bodyAt a t) fun _ =>
          iprop((dats a m 0 c).Φ t.succ ∗ (dats a m 0 c).owesAt () t.succ
            ∗ bigSep Finset.univ fun w : Fin (cfgT a).W =>
                match (cfgT a).idle w ((cfgT a).grid.coords t) with
                | true =>
                  match ((cfgT a).win w).flush t with
                  | false => iprop(∃ d, owns (c : Thread nD τ) (((cfgT a).win w).stage ((cfgT a).slots t w)) fullShare ((dats a m 0 c).before w t d))
                  | true => owns (c : Thread nD τ) (((cfgT a).win w).stage ((cfgT a).slots t w)) fullShare ((dats a m 0 c).after w t)
                | false => owns (c : Thread nD τ) (((cfgT a).win w).stage ((cfgT a).slots t w)) fullShare ((dats a m 0 c).after w t)) := by
  rw [bigSep_W0]
  rewrite [stores a t]
  simp only [before_0, before_1, before_2, after_0, after_1, after_2, after_3]
  rewrite [show (dats a m 0 c).Φ t.succ = held a c from rfl, show (dats a m 0 c).Φ t.castSucc = held a c from rfl,
    show (dats a m 0 c).owesAt () t.succ = (dats a m 0 c).owesAt () t.castSucc from rfl]
  unfold held outOf
  by_cases hw : wordOf (pt a t) (tV a) = 0#32
  · rw [if_pos hw]
    iintro ⟨⟨HT0, HT1⟩, Ho, ⟨%d0, H0⟩, ⟨%d1, H1⟩, ⟨%d2, H2⟩, ⟨%d3, H3⟩⟩
    iapply (run_unused c (pt a t) _ _ _ _ _ _ _ _ (tE a) (tV a) (blkOf a m c (0 : Fin 4) t) (blkOf a m c (1 : Fin 4) t) (blkOf a m c (2 : Fin 4) t) hw Set.univ _)
    isplitl [H0]; · iexact H0
    isplitl [H1]; · iexact H1
    isplitl [H2]; · iexact H2
    isplitl [HT0]; · iexact HT0
    isplitl [HT1]; · iexact HT1
    isplitl [H3]; · iexists _; iexact H3
    iintro ⟨H0, H1, H2, HT0, HT1, H3⟩
    isplitl [HT0 HT1]
    · isplitl [HT0]
      · iexact HT0
      iexact HT1
    isplitl [Ho]; · iexact Ho
    isplitl [H0]; · iexact H0
    isplitl [H1]; · iexact H1
    isplitl [H2]; · iexact H2
    iexact H3
  · rw [if_neg hw]
    iintro ⟨⟨HT0, HT1⟩, Ho, ⟨%d0, H0⟩, ⟨%d1, H1⟩, ⟨%d2, H2⟩, ⟨%d3, H3⟩⟩
    iapply (run_used c (pt a t) _ _ _ _ _ _ _ _ (tE a) (tV a) (blkOf a m c (0 : Fin 4) t) (blkOf a m c (1 : Fin 4) t) (blkOf a m c (2 : Fin 4) t) hw Set.univ _)
    isplitl [H0]; · iexact H0
    isplitl [H1]; · iexact H1
    isplitl [H2]; · iexact H2
    isplitl [HT0]; · iexact HT0
    isplitl [HT1]; · iexact HT1
    isplitl [H3]; · iexists _; iexact H3
    iintro ⟨H0, H1, H2, HT0, HT1, H3⟩
    isplitl [HT0 HT1]
    · isplitl [HT0]
      · iexact HT0
      iexact HT1
    isplitl [Ho]; · iexact Ho
    isplitl [H0]; · iexact H0
    isplitl [H1]; · iexact H1
    isplitl [H2]; · iexact H2
    iexact H3

theorem body_obligation (c : Dev nD) : BodyObligation (dats a m 0 c) (defs₀ (F := F)) Variants.none () Set.univ := fun t => by
  rw [bigSep_W0]
  exact sound_body a m c t

/-! ## The launch -/

theorem share_eq (c : Dev nD) (w : Fin (cfgT a).W) : (dats a m 0 c).share w = fullShare := by unfold Dat.share; split <;> rfl

/-- The tables as the launch hands them over. -/
theorem tables_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem held_in (c : Dev nD) :
    iprop(BI.emp ∗ Pipeline.prefHeld pre0 c (fun _ => fullShare.right) a.1 ∗ Pipeline.scopedRest spec0 c) ⊢ (dats a m 0 c).Φ 0 := by
  rw [tables_eq, scopedRest0_eq, show (dats a m 0 c).Φ 0 = held a c from rfl]
  unfold held
  iintro ⟨-, ⟨HT0, HT1⟩, -⟩
  isplitl [HT0]
  · iexact HT0
  iexact HT1

theorem held_out (c : Dev nD) : (dats a m 0 c).Φ (Fin.last (cfgT a).N) ⊢ iprop(BI.emp ∗ Pipeline.scopedRest spec0 c) := by
  rw [scopedRest0_eq, show (dats a m 0 c).Φ (Fin.last (cfgT a).N) = held a c from rfl]
  unfold held
  iintro ⟨-, -⟩
  isplitr; · iempintro
  iempintro

/-- Every array at what the pipeline computes, every table as it was. -/
def Ends : PUnit × MemSt nD τ sig (Elt F) → Prop := fun r =>
  ∀ c : Dev nD, (∀ w : Fin (cfgT a).W, r.2.mem (((cfgT a).win w).arr.view.loc (c : Thread nD τ)) = (dats a m 0 c).arrAt w (cfgT a).N)
    ∧ ∀ j, r.2.mem ((c : Thread nD τ).loc (pre0.ref j)) = a.1 j

set_option backward.isDefEq.respectTransparency.types false in
set_option maxHeartbeats 4000000 in
theorem run_quiet (hp : ∀ (c : Dev nD) (j : Fin 2), m ((c : Thread nD τ).loc (pre0.ref j)) = a.1 j) :
    θ_run (defs (F := F)) (onTc (τ := τ) (main (F := F))) ⟨m, fun _ => 0, ρ⟩ (fun r => Ends a m r ∧ r.2.sem = fun _ => 0) :=
  Pipeline.θ_run_region_noSem_pf_quiescent pcfgs (fun _ => a) (dats a m) () ((launch0 (F := F)).cellOf_inj fun _ => a) (0 : Fin 1)
    (launch0 (F := F)).win.to₀ (launch0 (F := F)).pre (emb₁ : Emb (UR sig nD τ) 𝕄) defs₀ Variants.none m ρ main
    (hbody := fun c => (body_obligation a m c).loose) (hne := (launch0 (F := F)).block_pos)
    (harr := (launch0 (F := F)).arr_whole) (hstage := (launch0 (F := F)).stage_whole) (howed := fun _ _ => rfl)
    (u₀ := initOf (Pipeline.cells (pinned a) ((launch0 (F := F)).cellOf_inj fun _ => a))
      (Pipeline.launchToks (pinned a) ((launch0 (F := F)).cellOf_inj fun _ => a)))
    (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pinned a) (dats a m) 0 (launch0 (F := F)).win.arr_inj c (launch0 (F := F)).arr_whole
      (share_eq a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := held_in a m)
    (hout := held_out a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The output's array named, the arguments as they were, every counter zero. -/
theorem run_main (hp : ∀ (c : Dev nD) (j : Fin 2), m ((c : Thread nD τ).loc (pre0.ref j)) = a.1 j) :
    θ_run (defs (F := F)) (onTc (τ := τ) (main (F := F))) ⟨m, fun _ => 0, ρ⟩ (fun r => (∀ c : Dev nD,
      r.2.mem ((c.tc : Thread nD τ).loc main_v0) = (dats a m 0 c).arrAt (3 : Fin 4) (cfgT a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 (3 : Fin 4),
    ((h.1 c).1 (0 : Fin 4)).trans ((dats a m 0 c).arrAt_in (0 : Fin 4) rfl _),
    ((h.1 c).2 0).trans (hp c 0).symm, ((h.1 c).2 1).trans (hp c 1).symm,
    ((h.1 c).1 (1 : Fin 4)).trans ((dats a m 0 c).arrAt_in (1 : Fin 4) rfl _),
    ((h.1 c).1 (2 : Fin 4)).trans ((dats a m 0 c).arrAt_in (2 : Fin 4) rfl _)⟩, h.2⟩) (run_quiet a m ρ hp)

end Cert.DenseUp

end
-- ==== Proof.DenseUpValue.lean ====
/- The dense feed-forward's up products' blocks read at an index, and its result's array, at tables in range. -/
module

public import proofs.«01_k».proof.Proof.DenseUpData
public import Idealize.ShloMosaic.Lib.Pointwise
public import Idealize.ShloMosaic.Lib.Claim
public import Idealize.ShloMosaic.Lib.Pipeline.Covers

@[expose] public section

set_option maxRecDepth 16384

noncomputable section

namespace Cert.DenseUp

open Idealize.ShloMosaic Idealize.ShloMosaic.TcCoe
open Cert.Kernel4Ideal Cert.Kernel4Ideal.Gen

section Tables

variable {F : FTy → Type} [FloatOps F]

/-- The word of each table the second window's place is read from. -/
theorem at0 (pf : pre0.Contents (Elt F)) (i : grid0.Coords) :
    pf.at 0 (Rect.unit (s := S9) ![(Scalar.indexCast (BitVec.ofNat 32 (i 0).val) : Index).toNat] S1.size (k0_off1_inb i)) numel1_S1
      = wordOf i (pf 0) :=
  congrArg (pf 0) (funext fun a => Fin.ext (by
    have h := congrFun (k0_off1_eq i) 0
    fin_cases a
    exact (Nat.add_zero _).trans h))
theorem place1_eq (pf : pre0.Contents (Elt F)) (i : grid0.Coords) :
    cc0_transform_1 k0_off1_inb numel1_S1 pf i = ![(wordOf i (pf 0)).toNat, 0, (i 1).val] := by
  funext d
  match d with
  | ⟨0, _⟩ => exact congrArg BitVec.toNat (at0 pf i)
  | ⟨1, _⟩ => rfl
  | ⟨2, _⟩ =>
    show (BitVec.ofNat 32 (i 1).val).toNat = (i 1).val
    have h1 : (i 1).val < 11 := (i 1).isLt
    rw [BitVec.toNat_ofNat]; omega

theorem place2_eq (pf : pre0.Contents (Elt F)) (i : grid0.Coords) :
    cc0_transform_2 k0_off1_inb numel1_S1 pf i = ![(wordOf i (pf 0)).toNat, 0, (i 1).val] := place1_eq pf i

/-- A block of the one matrix, at a column block there is, lies inside its array. -/
theorem inside (i : grid0.Coords) (e : BitVec 32) (he : e.toNat < 1) (d : Fin 3) :
    ((![e.toNat, 0, (i 1).val] : Fin 3 → ℕ) d + 1) * S1x2048x512.size d ≤ S1x2048x5632.size d := by
  have h1 : (i 1).val < 11 := (i 1).isLt
  match d with
  | ⟨0, _⟩ => show (e.toNat + 1) * 1 ≤ 1; omega
  | ⟨1, _⟩ => show (0 + 1) * 2048 ≤ 2048; omega
  | ⟨2, _⟩ => show ((i 1).val + 1) * 512 ≤ 5632; omega

/-- Tables that name the one matrix there is keep every block inside its array. -/
theorem ok_of_range (pf : pre0.Contents (Elt F)) (h : ∀ x, (pf 0 x : BitVec 32).toNat < 1) : ok0 pf :=
  ⟨fun i => ⟨fun d => by rw [place1_eq]; exact inside i _ (h _) d, Or.inl rfl⟩,
    fun i => ⟨fun d => by rw [place2_eq]; exact inside i _ (h _) d, Or.inl rfl⟩⟩

variable (m : (ℓ : Loc nD τ sig) → Buf (Elt F) ℓ)

/-- The tables as launched. -/
def tabs : pre0.Contents (Elt F) := fun j => m (((0 : Dev nD) : Thread nD τ).loc (pre0.ref j))

abbrev InRange : Prop := ∀ x, (tabs m 0 x : BitVec 32).toNat < 1

def adm (h : InRange m) : (pcfg0 (F := F)).Adm := ⟨tabs m, ok_of_range (tabs m) h⟩

theorem adm_eq (h : InRange m) (c : Dev nD) (j : Fin 2) : m ((c : Thread nD τ).loc (pre0.ref j)) = (adm m h).1 j := by
  obtain rfl : c = 0 := Subsingleton.elim _ _
  rfl

end Tables

variable (a : (pcfg0 (F := Ideal)).Adm) (m : (ℓ : Loc nD τ sig) → Buf (Elt Ideal) ℓ) (c : Dev nD)

abbrev argH : Vec Ideal S9216x2048 .f32 := m ((c.tc : Thread nD τ).loc main_arg0)
abbrev argW : Vec Ideal S1x2048x5632 .f32 := m ((c.tc : Thread nD τ).loc main_arg3)
abbrev argV : Vec Ideal S1x2048x5632 .f32 := m ((c.tc : Thread nD τ).loc main_arg4)

theorem coord0 : ∀ t : Fin grid0.N, (grid0.coords t 0).val = t.val / 11 := by decide +kernel
theorem coord1 : ∀ t : Fin grid0.N, (grid0.coords t 1).val = t.val % 11 := by decide +kernel

theorem wordOf_eq (t : Fin (cfgT a).N) (p : Fin 9) (hp : p.val = t.val / 11) (T : S9.Idx → BitVec 32) :
    wordOf (pt a t) T = T (ix1 p) :=
  congrArg T (funext fun d => Fin.ext (by fin_cases d; exact (coord0 t).trans hp.symm))

theorem place3 : ∀ t : Fin (cfgT a).N, (pcfg0.win a 3).index t 0 = t.val / 11 ∧ (pcfg0.win a 3).index t 1 = t.val % 11 :=
  (by decide +kernel : ∀ t : Fin grid0.N, cc0_transform_3 (grid0.coords t) 0 = t.val / 11 ∧ cc0_transform_3 (grid0.coords t) 1 = t.val % 11)
theorem place0 : ∀ t : Fin (cfgT a).N, (pcfg0.win a 0).index t 0 = t.val / 11 ∧ (pcfg0.win a 0).index t 1 = 0 :=
  (by decide +kernel : ∀ t : Fin grid0.N, cc0_transform_0 (grid0.coords t) 0 = t.val / 11 ∧ cc0_transform_0 (grid0.coords t) 1 = 0)
theorem place1 (t : Fin (cfgT a).N) :
    (pcfg0.win a 1).index t 0 = (wordOf (pt a t) (tE a)).toNat ∧ (pcfg0.win a 1).index t 1 = 0
      ∧ (pcfg0.win a 1).index t 2 = t.val % 11 := by
  have e : (pcfg0.win a 1).index t = ![(wordOf (pt a t) (tE a)).toNat, 0, (pt a t 1).val] := place1_eq a.1 (pt a t)
  rw [e]
  exact ⟨rfl, rfl, coord1 t⟩
theorem place2 (t : Fin (cfgT a).N) :
    (pcfg0.win a 2).index t 0 = (wordOf (pt a t) (tE a)).toNat ∧ (pcfg0.win a 2).index t 1 = 0
      ∧ (pcfg0.win a 2).index t 2 = t.val % 11 := by
  have e : (pcfg0.win a 2).index t = ![(wordOf (pt a t) (tE a)).toNat, 0, (pt a t 1).val] := place2_eq a.1 (pt a t)
  rw [e]
  exact ⟨rfl, rfl, coord1 t⟩

theorem blk0_at (t : Fin (cfgT a).N) (r : Fin 1024) (k : Fin 2048) (i : Fin 9216) (hi : i.val = t.val / 11 * 1024 + r.val) :
    (blkOf a m c (0 : Fin 4) t : Vec Ideal S1024x2048 .f32) (ix2 r k) = argH m c (ix2 i k) := by
  have hp := place0 a t
  unfold blkOf argH
  generalize m = W
  blk_simp
  blk_ext

theorem blk1_at (t : Fin (cfgT a).N) (e : Fin 1) (he : e.val = (wordOf (pt a t) (tE a)).toNat)
    (k : Fin 2048) (s : Fin 512) (j : Fin 5632) (hj : j.val = t.val % 11 * 512 + s.val) :
    (blkOf a m c (1 : Fin 4) t : Vec Ideal S1x2048x512 .f32) (ix3 0 k s) = argW m c (ix3 e k j) := by
  have hp := place1 a t
  rw [← he] at hp
  unfold blkOf argW
  generalize m = W
  blk_simp
  blk_ext

theorem blk2_at (t : Fin (cfgT a).N) (e : Fin 1) (he : e.val = (wordOf (pt a t) (tE a)).toNat)
    (k : Fin 2048) (s : Fin 512) (j : Fin 5632) (hj : j.val = t.val % 11 * 512 + s.val) :
    (blkOf a m c (2 : Fin 4) t : Vec Ideal S1x2048x512 .f32) (ix3 0 k s) = argV m c (ix3 e k j) := by
  have hp := place2 a t
  rw [← he] at hp
  unfold blkOf argV
  generalize m = W
  blk_simp
  blk_ext

/-- The gated product of a tile's rows and its two blocks, at an index. -/
theorem pay1_at (x : Vec Ideal S1024x2048 .f32) (w v : Vec Ideal S1x2048x512 .f32) (r : Fin 1024) (s : Fin 512) :
    k0_pay1 x w v (ix2 r s) = ((∑ k : Fin 2048, (x (ix2 r k) : EReal) * w (ix3 0 k s))
      * Ideal.logistic (∑ k : Fin 2048, (x (ix2 r k) : EReal) * w (ix3 0 k s))) * ∑ k : Fin 2048, (x (ix2 r k) : EReal) * v (ix3 0 k s) := by
  pointwise [k0_pay1]

theorem nblk3_0 : ((cfgT a).win (3 : Fin 4)).nblk (0 : Fin 2) = 9 := by
  unfold Pipeline.Window.nblk; exact (by decide : (9216 + 1024 - 1) / 1024 = 9)
theorem nblk3_1 : ((cfgT a).win (3 : Fin 4)).nblk (1 : Fin 2) = 11 := by
  unfold Pipeline.Window.nblk; exact (by decide : (5632 + 512 - 1) / 512 = 11)

/-- Every block of the result is some point's. -/
theorem covers3 : ((cfgT a).win (3 : Fin 4)).Covers :=
  Pipeline.Window.covers_of_index_surj _ rfl
    (by intro d; match d with | ⟨0, _⟩ => exact (by decide : 0 < 1024) | ⟨1, _⟩ => exact (by decide : 0 < 512)) fun β => by
    have h0 : (β (0 : Fin 2)).val < 9 := lt_of_lt_of_eq (β (0 : Fin 2)).isLt (nblk3_0 a)
    have h1 : (β (1 : Fin 2)).val < 11 := lt_of_lt_of_eq (β (1 : Fin 2)).isLt (nblk3_1 a)
    have hp := place3 a ⟨(β (0 : Fin 2)).val * 11 + (β (1 : Fin 2)).val, (by omega : _ < 99)⟩
    refine ⟨⟨(β (0 : Fin 2)).val * 11 + (β (1 : Fin 2)).val, (by omega : _ < 99)⟩, fun d => ?_⟩
    have e0 : ((β (0 : Fin 2)).val * 11 + (β (1 : Fin 2)).val) / 11 = (β (0 : Fin 2)).val := by omega
    have e1 : ((β (0 : Fin 2)).val * 11 + (β (1 : Fin 2)).val) % 11 = (β (1 : Fin 2)).val := by omega
    match d with
    | ⟨0, _⟩ => exact hp.1.trans e0
    | ⟨1, _⟩ => exact hp.2.trans e1

/-- The result's array after the run, from what every point stores. -/
theorem result_eq (G : Buf (Elt Ideal) ((c.tc : Thread nD τ).loc main_v0))
    (h : ∀ (t : Fin (cfgT a).N) (r : Fin 1024) (s : Fin 512) (i : Fin 9216) (j : Fin 5632), i.val = t.val / 11 * 1024 + r.val →
      j.val = t.val % 11 * 512 + s.val → outOf a m c t (ix2 r s) = (G : Vec Ideal S9216x5632 .bf16) (ix2 i j)) :
    (dats a m 0 c).arrAt (3 : Fin 4) (cfgT a).N = G := by
  refine (dats a m 0 c).arrAt_eq_of_covers (3 : Fin 4) _ (covers3 a) fun t hf y => ?_
  have hp := place3 a t
  rw [after_3]
  have ht : t.val < 99 := t.isLt
  obtain ⟨r, s, rfl⟩ : ∃ (r : Fin 1024) (s : Fin 512), y = ix2 r s := ⟨y 0, y 1, eq_ix2 y⟩
  blk_simp
  refine (h t r s ⟨t.val / 11 * 1024 + r.val, by omega⟩ ⟨t.val % 11 * 512 + s.val, by omega⟩ rfl rfl).trans ?_
  blk_ext

end Cert.DenseUp

end
-- ==== Proof.DenseUpAlgebraic.lean ====
/- The dense feed-forward's up products are the reference's plain ones, where its tables name the one matrix and every tile is in use. -/
module

public import proofs.«01_k».proof.Defs
public import proofs.«01_k».proof.Proof.Gen.Pre_dense_up
public import proofs.«01_k».proof.Proof.Gen.Reference4Ideal.Run
public import proofs.«01_k».proof.Proof.DenseUpValue
public import Idealize.ShloMosaic.Lib.IdealHost

@[expose] public section

set_option maxRecDepth 16384

noncomputable section

namespace Cert.DenseUp

open Idealize.ShloMosaic Idealize.ShloMosaic.TcCoe

namespace Ref

open Cert.Reference4Ideal Cert.Reference4Ideal.Gen

/-- One product, of the rows and a stack of one matrix. -/
def prods (h : FVec Ideal S9216x2048 .f32) (w : FVec Ideal S1x2048x5632 .f32) : FVec Ideal S9216x5632 .f32 :=
  Host.dotGeneral dot_S9216x2048_S2048x5632_S9216x5632_1_0_0_1_n_n none h (shapeCast S2048x5632 w shapeCasts_S1x2048x5632_S2048x5632)

/-- A number times its logistic. -/
def gate (x : FVec Ideal S9216x5632 .f32) : FVec Ideal S9216x5632 .f32 :=
  mulf x (Host.divf (broadcastInDim S9216x5632 ![] bcast_S_S9216x5632 (constant S_ .f32 0x3F800000#32))
    (addf (broadcastInDim S9216x5632 ![] bcast_S_S9216x5632 (constant S_ .f32 0x3F800000#32)) (Host.exp (Host.negf x))))

/-- The reference's result, of its arguments. -/
def whole (h : FVec Ideal S9216x2048 .f32) (w v : FVec Ideal S1x2048x5632 .f32) : FVec Ideal S9216x5632 .bf16 :=
  truncf .bf16 (mulf (gate (prods h w)) (prods h v)) bitsLt_bf16_f32

theorem prods_at (h : FVec Ideal S9216x2048 .f32) (w : FVec Ideal S1x2048x5632 .f32) (i : Fin 9216) (j : Fin 5632) :
    prods h w (ix2 i j) = ∑ k : Fin 2048, (h (ix2 i k) : EReal) * w (ix3 0 k j) := by
  pointwise [prods]

theorem gate_at (x : FVec Ideal S9216x5632 .f32) (i : Fin 9216) (j : Fin 5632) :
    gate x (ix2 i j) = (x (ix2 i j) : EReal) * Ideal.logistic (x (ix2 i j)) := by
  show (x (ix2 i j) : EReal) * Ideal.div (Ideal.ofBits .f32 0x3F800000#32) (Ideal.ofBits .f32 0x3F800000#32 + Ideal.exp (-(x (ix2 i j) : EReal))) = _
  rw [Ideal.ofBits_one_f32]
  rfl

theorem whole_at (h : FVec Ideal S9216x2048 .f32) (w v : FVec Ideal S1x2048x5632 .f32) (i : Fin 9216) (j : Fin 5632) :
    whole h w v (ix2 i j) = ((∑ k : Fin 2048, (h (ix2 i k) : EReal) * w (ix3 0 k j))
      * Ideal.logistic (∑ k : Fin 2048, (h (ix2 i k) : EReal) * w (ix3 0 k j))) * ∑ k : Fin 2048, (h (ix2 i k) : EReal) * v (ix3 0 k j) := by
  refine (congrArg₂ (fun x y : EReal => x * y) (gate_at _ i j) (prods_at h v i j)).trans ?_
  rw [prods_at h w i j]

end Ref

open Cert.Kernel4Ideal Cert.Kernel4Ideal.Gen

/-- A comparison with zero that holds. -/
theorem eq_zero (v : BitVec 32) (h : IntOp.cmpi .eq v 0#32 = 1#1) : v = 0#32 := by
  by_contra hn
  simp only [IntOp.cmpi, beq_eq_false_iff_ne.mpr hn] at h
  exact absurd h (by decide)

theorem ne_zero (v : BitVec 32) (h : IntOp.cmpi .ne v 0#32 = 1#1) : v ≠ 0#32 := by
  rintro rfl
  exact absurd h (by decide)

/-- The precondition at its function's two results. -/
theorem zero_of_fn {F : FTy → Type} [FloatOps F] (x0 : FVec F Cert.Pre_dense_up.S9216x2048 .f32) (te tv : IVec Cert.Pre_dense_up.S9 32)
    (w v : FVec F Cert.Pre_dense_up.S1x2048x5632 .f32)
    (h : (Cert.Pre_dense_up.fn x0 te tv w v).1 = (fun _ => 1#1) ∧ (Cert.Pre_dense_up.fn x0 te tv w v).2 = (fun _ => 1#1)) :
    (∀ x, (te x).toNat < 1) ∧ ∀ x, tv x ≠ 0#32 :=
  ⟨fun x => by rw [eq_zero (te x) (congrFun h.1 x)]; decide, fun x => ne_zero (tv x) (congrFun h.2 x)⟩

theorem range_ideal (m : (ℓ : Loc nD τ sig) → Buf (Elt Ideal) ℓ) (h : Cert.Pre_Kernel4Ideal m) :
    InRange m ∧ ∀ x, (tabs m 1 x : BitVec 32) ≠ 0#32 := zero_of_fn _ _ _ _ _ (h 0)

theorem range_bits (m : (ℓ : Loc nD τ sig) → Buf (Elt Bits) ℓ) (h : Cert.Pre_Kernel4 m) : InRange m := (zero_of_fn _ _ _ _ _ (h 0)).1

variable (m : (ℓ : Loc nD τ sig) → Buf (Elt Ideal) ℓ) (c : Dev nD)

/-- The reference's result, of the kernel's arguments. -/
def refUp : FVec Ideal Cert.Reference4Ideal.S9216x5632 .bf16 :=
  Ref.whole (m ((c.tc : Thread nD τ).loc main_arg0)) (m ((c.tc : Thread nD τ).loc main_arg3)) (m ((c.tc : Thread nD τ).loc main_arg4))

/-- What the kernel leaves in its result is the reference's result. -/
theorem up_result (h : InRange m) (hu : ∀ x, (tabs m 1 x : BitVec 32) ≠ 0#32) :
    (dats (adm m h) m 0 c).arrAt (3 : Fin 4) (cfgT (adm m h)).N = refUp m c := by
  refine result_eq (adm m h) m c (refUp m c) fun t r s i j hi hj => ?_
  obtain rfl : c = 0 := Subsingleton.elim _ _
  have hw : wordOf (pt (adm m h) t) (tV (adm m h)) ≠ 0#32 := hu _
  have he : (wordOf (pt (adm m h) t) (tE (adm m h))).toNat < 1 := h _
  refine Eq.trans ?_ (Ref.whole_at (argH m 0) (argW m 0) (argV m 0) i j).symm
  unfold outOf
  rw [if_neg hw]
  refine (pay1_at _ _ _ r s).trans ?_
  exact congrArg₂ (fun x y : EReal => (x * Ideal.logistic x) * y)
    (Finset.sum_congr rfl fun k _ => congrArg₂ (fun x y : EReal => x * y) (blk0_at (adm m h) m 0 t r k i hi)
      (blk1_at (adm m h) m 0 t 0 (by show 0 = _; omega) k s j hj))
    (Finset.sum_congr rfl fun k _ => congrArg₂ (fun x y : EReal => x * y) (blk0_at (adm m h) m 0 t r k i hi)
      (blk2_at (adm m h) m 0 t 0 (by show 0 = _; omega) k s j hj))

end Cert.DenseUp

end
-- ==== Proof.DenseDownSame.lean ====
/- The dense feed-forward's down product's printed text and its ideal twin's are the same, so a run of the one is a run of the other. -/
module

public import proofs.«01_k».proof.Proof.Gen.Kernel5
public import proofs.«01_k».proof.Proof.Gen.Kernel5Ideal

@[expose] public section

set_option maxRecDepth 16384

noncomputable section

namespace Cert.DenseDown

open Idealize.ShloMosaic

variable {F : FTy → Type} [FloatOps F]

/-- The two bodies. -/
theorem body_same : @Cert.Kernel5.cc0_ffn_down F _ _ = @Cert.Kernel5Ideal.cc0_ffn_down F _ _ := rfl

/-- The two tables of bodies. -/
theorem bodies_same : Cert.Kernel5.defs₀ (F := F) = Cert.Kernel5Ideal.defs₀ (F := F) := by
  funext p
  match p with
  | .tc =>
    funext ℓ a
    match ℓ, a with
    | ⟨0, _⟩, (t, s) => exact congrFun (congrFun (congrFun (congrFun (congrFun (congrFun (congrFun (congrFun (congrFun (congrFun (congrFun body_same (Cert.Kernel5Ideal.grid0.coords t)) (Memref.whole Cert.Kernel5Ideal.main_arg1)) (Memref.isWhole_whole _)) (Memref.whole Cert.Kernel5Ideal.main_arg2)) (Memref.isWhole_whole _)) (Cert.Kernel5Ideal.spec0_0.stage (s 0))) (Cert.Kernel5Ideal.Facts₀.hstage0_0 ((s 0).cast Cert.Kernel5Ideal.Facts₀.nbuf0_0))) (Cert.Kernel5Ideal.spec0_1.stage (s 1))) (Cert.Kernel5Ideal.Facts₀.hstage0_1 ((s 1).cast Cert.Kernel5Ideal.Facts₀.nbuf0_1))) (Cert.Kernel5Ideal.spec0_2.stage (s 2))) (Cert.Kernel5Ideal.Facts₀.hstage0_2 ((s 2).cast Cert.Kernel5Ideal.Facts₀.nbuf0_2))
  | .scScalar _ => rfl
  | .scVector _ _ => rfl

theorem defs_same : Cert.Kernel5.defs (F := F) = Cert.Kernel5Ideal.defs (F := F) :=
  congrArg (Pipeline.defs Cert.Kernel5Ideal.pcfgs) bodies_same

theorem main_same : Cert.Kernel5.main (F := F) = Cert.Kernel5Ideal.main (F := F) := rfl

end Cert.DenseDown

end
-- ==== Proof.DenseDownRun.lean ====
/- The dense feed-forward's down product's body at one grid point: a tile that is in use, and a tile that is not. -/
module

public import proofs.«01_k».proof.Proof.Gen.Kernel5Ideal.Skeleton
public import proofs.«01_k».proof.Proof.Gen.Kernel5Ideal.Launch
public import Idealize.ShloMosaic.Lib.Pipeline.Kit
public import Idealize.ShloMosaic.Lib.Pipeline.TableIdle
public import Idealize.ShloMosaic.Lib.Pipeline.FrameBody
public import Idealize.ShloMosaic.Lib.Pipeline.ReadBack
public import Idealize.ShloMosaic.Lib.Pipeline.ValueKit
public import Idealize.ShloMosaic.Lib.VecWindow
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.DenseDown

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen

variable {F : FTy → Type} [FloatOps F]

local notation "𝕄" => MT nD τ sig Unit (Elt F) ℕ (UR sig nD τ) ℕ

/-- The two tables: a tile's expert, and whether a tile is in use. -/
abbrev tabE : Memref sig .tc .smem S9 .i32 := Memref.whole main_arg1
abbrev tabV : Memref sig .tc .smem S9 .i32 := Memref.whole main_arg2

/-- The word of the second table that the body reads at a point. -/
abbrev wordOf (i : grid0.Coords) (T : S9.Idx → BitVec 32) : BitVec 32 := T fun a => match a with | ⟨0, _⟩ => i 0

theorem cond1_iff (w : BitVec 32) : k0_cond1 w = 1#1 ↔ w ≠ 0#32 := by
  unfold k0_cond1
  simp only [Scalar.cmpi, Scalar.extui, IntOp.cmpi]
  by_cases h : w = 0#32
  · subst h; decide
  · rw [show (w != 0#32) = true from bne_iff_ne.mpr h]; exact ⟨fun _ => h, fun _ => by decide⟩

theorem cond2_iff (w : BitVec 32) : k0_cond2 w = 1#1 ↔ w = 0#32 := by
  unfold k0_cond2
  simp only [Scalar.cmpi, Scalar.extui, IntOp.cmpi]
  by_cases h : w = 0#32
  · subst h; decide
  · rw [show (w == 0#32) = false from beq_eq_false_iff_ne.mpr h]
    exact ⟨fun h' => absurd h' (by decide), fun h' => absurd h' h⟩

theorem read1 (i : grid0.Coords) (T : S9.Idx → BitVec 32) :
    View.readAt (Elt F) tabV.view (Rect.unit (s := S9) (k0_off1 i) S1.size (k0_off1_inb i)).toLoadRect T
      (Shape.Idx.first (numel1_S1.symm ▸ Nat.one_pos)) = wordOf i T :=
  congrArg T (funext fun a => Fin.ext (by
    have h := congrFun (k0_off1_eq i) 0
    fin_cases a
    exact (Nat.add_zero _).trans h))

theorem read2 (i : grid0.Coords) (T : S9.Idx → BitVec 32) :
    View.readAt (Elt F) tabV.view (Rect.unit (s := S9) (k0_off2 i) S1.size (k0_off2_inb i)).toLoadRect T
      (Shape.Idx.first (numel1_S1.symm ▸ Nat.one_pos)) = wordOf i T :=
  congrArg T (funext fun a => Fin.ext (by
    have h := congrFun (k0_off2_eq i) 0
    fin_cases a
    exact (Nat.add_zero _).trans h))

set_option maxHeartbeats 4000000 in
/-- A tile in use: the product of its rows and its expert's block. -/
theorem run_used (c : Dev nD) (i : grid0.Coords)
    (arg4 : Memref sig .tc .vmem S1024x5632 .bf16) (harg4 : arg4.IsWhole) (arg5 : Memref sig .tc .vmem S1x5632x256 .f32)
    (harg5 : arg5.IsWhole) (arg6 : Memref sig .tc .vmem S1024x256 .f32) (harg6 : arg6.IsWhole)
    (T0 T1 : S9.Idx → BitVec 32) (x0 : Vec F S1024x5632 .bf16) (x1 : Vec F S1x5632x256 .f32)
    (hw : wordOf i T1 ≠ 0#32) (E : Set ℕ) (K : PUnit → sProp 𝕄) :
    iprop(owns (c : Thread nD τ) arg4 fullShare x0
        ∗ owns (c : Thread nD τ) arg5 fullShare x1
        ∗ (tabE.view.loc (c : Thread nD τ) ↦{fullShare.right} T0)
        ∗ (tabV.view.loc (c : Thread nD τ) ↦{fullShare.right} T1)
        ∗ (∃ d, owns (c : Thread nD τ) arg6 fullShare d)
        ∗ (iprop(owns (c : Thread nD τ) arg4 fullShare x0
            ∗ owns (c : Thread nD τ) arg5 fullShare x1
            ∗ (tabE.view.loc (c : Thread nD τ) ↦{fullShare.right} T0)
            ∗ (tabV.view.loc (c : Thread nD τ) ↦{fullShare.right} T1)
            ∗ owns (c : Thread nD τ) arg6 fullShare (k0_pay1 x0 x1)) -∗ K ⟨⟩))
      ⊢ wp frame (wpE (defs₀ (F := F)) Variants.none c none) E
          (cc0_ffn_down i (Memref.whole main_arg1) (Memref.isWhole_whole _) (Memref.whole main_arg2) (Memref.isWhole_whole _)
            arg4 harg4 arg5 harg5 arg6 harg6) K := by
  have h1 := (cond1_iff _).mpr hw
  have h2 := fun h => hw ((cond2_iff _).mp h)
  rw [← read1 (F := F)] at h1
  rw [← read2 (F := F)] at h2
  unfold owns; rw [cc0_ffn_down_eq_skeleton]; unfold cc0_ffn_down_skel
  iintro ⟨⟨%f0, %hf0, H0⟩, ⟨%f1, %hf1, H1⟩, HT0, HT1, ⟨%d2, %f2, -, H2⟩, Hk⟩
  subst hf0 hf1
  have hT0 : tabE.IsWhole := Memref.isWhole_whole _
  have hT1 : tabV.IsWhole := Memref.isWhole_whole _
  sl_exec! (disch := first | (guard_target = k0_cond1 _ = _; exact h1) | (guard_target = ¬(k0_cond2 _ = _); exact h2))
  sl_step
  iapply Hk
  isplitl [H0]
  · iexists _; isplitr; · ipureintro; rfl
    iexact H0
  isplitl [H1]
  · iexists _; isplitr; · ipureintro; rfl
    iexact H1
  isplitl [HT0]; · iexact HT0
  isplitl [HT1]; · iexact HT1
  iexists _; isplitr; swap; · iexact H2
  ipureintro
  refine (View.read_writes_eq_canon _ _ _ (View.cover_of_tiled_head _ _ _ (by rfl))).trans ?_
  sl_unfold_run_names
  refine (View.canon_unit_zero (by decide) _ _).trans ?_
  exact congrArg₂ k0_pay1 (View.readAt_full _ _ _) (View.readAt_full _ _ _)

set_option maxHeartbeats 4000000 in
/-- A tile not in use: zeros. -/
theorem run_unused (c : Dev nD) (i : grid0.Coords)
    (arg4 : Memref sig .tc .vmem S1024x5632 .bf16) (harg4 : arg4.IsWhole) (arg5 : Memref sig .tc .vmem S1x5632x256 .f32)
    (harg5 : arg5.IsWhole) (arg6 : Memref sig .tc .vmem S1024x256 .f32) (harg6 : arg6.IsWhole)
    (T0 T1 : S9.Idx → BitVec 32) (x0 : Vec F S1024x5632 .bf16) (x1 : Vec F S1x5632x256 .f32)
    (hw : wordOf i T1 = 0#32) (E : Set ℕ) (K : PUnit → sProp 𝕄) :
    iprop(owns (c : Thread nD τ) arg4 fullShare x0
        ∗ owns (c : Thread nD τ) arg5 fullShare x1
        ∗ (tabE.view.loc (c : Thread nD τ) ↦{fullShare.right} T0)
        ∗ (tabV.view.loc (c : Thread nD τ) ↦{fullShare.right} T1)
        ∗ (∃ d, owns (c : Thread nD τ) arg6 fullShare d)
        ∗ (iprop(owns (c : Thread nD τ) arg4 fullShare x0
            ∗ owns (c : Thread nD τ) arg5 fullShare x1
            ∗ (tabE.view.loc (c : Thread nD τ) ↦{fullShare.right} T0)
            ∗ (tabV.view.loc (c : Thread nD τ) ↦{fullShare.right} T1)
            ∗ owns (c : Thread nD τ) arg6 fullShare k0_pay2) -∗ K ⟨⟩))
      ⊢ wp frame (wpE (defs₀ (F := F)) Variants.none c none) E
          (cc0_ffn_down i (Memref.whole main_arg1) (Memref.isWhole_whole _) (Memref.whole main_arg2) (Memref.isWhole_whole _)
            arg4 harg4 arg5 harg5 arg6 harg6) K := by
  have h1 := fun h => (cond1_iff _).mp h hw
  have h2 := (cond2_iff _).mpr hw
  rw [← read1 (F := F)] at h1
  rw [← read2 (F := F)] at h2
  unfold owns; rw [cc0_ffn_down_eq_skeleton]; unfold cc0_ffn_down_skel
  iintro ⟨⟨%f0, %hf0, H0⟩, ⟨%f1, %hf1, H1⟩, HT0, HT1, ⟨%d2, %f2, -, H2⟩, Hk⟩
  subst hf0 hf1
  have hT0 : tabE.IsWhole := Memref.isWhole_whole _
  have hT1 : tabV.IsWhole := Memref.isWhole_whole _
  sl_exec! (disch := first | (guard_target = ¬(k0_cond1 _ = _); exact h1) | (guard_target = k0_cond2 _ = _; exact h2))
  sl_step
  iapply Hk
  isplitl [H0]
  · iexists _; isplitr; · ipureintro; rfl
    iexact H0
  isplitl [H1]
  · iexists _; isplitr; · ipureintro; rfl
    iexact H1
  isplitl [HT0]; · iexact HT0
  isplitl [HT1]; · iexact HT1
  iexists _; isplitr; swap; · iexact H2
  ipureintro
  refine (View.read_writes_eq_canon _ _ _ (View.cover_of_tiled_head _ _ _ (by rfl))).trans ?_
  sl_unfold_run_names
  exact View.canon_unit_zero (by decide) _ _

end Cert.DenseDown

end
-- ==== Proof.DenseDownData.lean ====
/- The dense feed-forward's down product's pipeline at any tables in range: its data, the body's triple at every point, the run. -/
module

public import proofs.«01_k».proof.Proof.DenseDownRun

@[expose] public section

set_option maxRecDepth 16384

noncomputable section

namespace Cert.DenseDown

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

/-- The two tables of an admissible pair, and the pipeline at them. -/
abbrev tE : S9.Idx → BitVec 32 := a.1 0
abbrev tV : S9.Idx → BitVec 32 := a.1 1
abbrev cfgT : Pipeline.Cfg sig Λ₀ := cfg0 (F := F) a
abbrev pinned : Fin 1 → Pipeline.Cfg sig Λ₀ := Pipeline.pin (pcfgs (F := F)) fun _ => a
abbrev pt (t : Fin (cfgT a).N) : grid0.Coords := grid0.coords t

abbrev b0 (t : Fin (cfgT a).N) : Memref sig .tc .vmem S1024x5632 .bf16 := spec0_0.stage ((cfgT a).slots t (0 : Fin 3))
abbrev b1 (t : Fin (cfgT a).N) : Memref sig .tc .vmem S1x5632x256 .f32 := spec0_1.stage ((cfgT a).slots t (1 : Fin 3))
abbrev b2 (t : Fin (cfgT a).N) : Memref sig .tc .vmem S1024x256 .f32 := spec0_2.stage ((cfgT a).slots t (2 : Fin 3))

/-- A window's block at a point, of the array as launched. -/
def blkOf (c : Dev nD) (w : Fin (cfgT a).W) (t : Fin (cfgT a).N) :
    (((cfgT a).win w).xblock ((cfgT a).grid.coords t)).Idx → Elt F ((cfgT a).win w).elt :=
  (((cfgT a).win w).blk t).view.read (Elt F) (m (((cfgT a).win w).arr.view.loc (c : Thread nD τ)))

/-- What the body stores at a point. -/
def outOf (c : Dev nD) (t : Fin (cfgT a).N) : Vec F S1024x256 .f32 :=
  if wordOf (pt a t) (tV a) = 0#32 then k0_pay2 else k0_pay1 (blkOf a m c 0 t) (blkOf a m c 1 t)

/-- Between points: the body's halves of the tables. -/
def held (c : Dev nD) : sProp 𝕄 :=
  iprop((tabE.view.loc (c : Thread nD τ) ↦{fullShare.right} tE a) ∗ (tabV.view.loc (c : Thread nD τ) ↦{fullShare.right} tV a))

def dats (_ : Fin 1) (c : Dev nD) : Dat τ (Elt F) Unit ℕ (UR sig nD τ) ℕ (cfgT a) c where
  A w := m (((cfgT a).win w).arr.view.loc (c : Thread nD τ))
  after w t := match w with
    | ⟨0, _⟩ => blkOf a m c (0 : Fin 3) t
    | ⟨1, _⟩ => blkOf a m c (1 : Fin 3) t
    | ⟨2, _⟩ => outOf a m c t
  Φ _ := held a c
  q _ := fullShare
  owed _ := 0

theorem after_0 (c : Dev nD) (t : Fin (cfgT a).N) : (dats a m 0 c).after (0 : Fin 3) t = blkOf a m c (0 : Fin 3) t := rfl
theorem after_1 (c : Dev nD) (t : Fin (cfgT a).N) : (dats a m 0 c).after (1 : Fin 3) t = blkOf a m c (1 : Fin 3) t := rfl
theorem after_2 (c : Dev nD) (t : Fin (cfgT a).N) : (dats a m 0 c).after (2 : Fin 3) t = outOf a m c t := rfl

theorem before_0 (c : Dev nD) (t : Fin (cfgT a).N) (d) : (dats a m 0 c).before (0 : Fin 3) t d = blkOf a m c (0 : Fin 3) t :=
  ((dats a m 0 c).before_in_eq_fetched (0 : Fin 3) rfl (fun _ => rfl) (fun _ _ _ => rfl)
    (fun t => by rw [after_0]; unfold Dat.blockOf blkOf; rfl) t d).trans (by unfold Dat.fetched Dat.blockOf blkOf; rfl)
theorem before_1 (c : Dev nD) (t : Fin (cfgT a).N) (d) : (dats a m 0 c).before (1 : Fin 3) t d = blkOf a m c (1 : Fin 3) t :=
  ((dats a m 0 c).before_in_eq_fetched (1 : Fin 3) rfl (fun _ => rfl) (fun _ _ _ => rfl)
    (fun t => by rw [after_1]; unfold Dat.blockOf blkOf; rfl) t d).trans (by unfold Dat.fetched Dat.blockOf blkOf; rfl)

/-- One of the two conditions holds at every point, so the body stores its output there. -/
theorem stores (t : Fin (cfgT a).N) : (cfgT a).idle (2 : Fin 3) ((cfgT a).grid.coords t) = false := by
  have h : ∀ w : BitVec 32, (!(k0_cond1 w == 1#1) && !(k0_cond2 w == 1#1)) = false := fun w => by
    by_cases hw : w = 0#32
    · rw [(cond2_iff w).mpr hw]; simp
    · rw [(cond1_iff w).mpr hw]; simp
  exact h (a.1.atD 1 (k0_off1 ((cfgT a).grid.coords t)))

abbrev bodyAt (t : Fin (cfgT a).N) : Prog (TpuEff nD τ sig (Elt F) Λ₀ .tc) PUnit :=
  cc0_ffn_down (pt a t) (Memref.whole main_arg1) (Memref.isWhole_whole _) (Memref.whole main_arg2) (Memref.isWhole_whole _)
    (b0 a t) (hstage0_0 (((cfgT a).slots t (0 : Fin 3)).cast nbuf0_0)) (b1 a t) (hstage0_1 (((cfgT a).slots t (1 : Fin 3)).cast nbuf0_1))
    (b2 a t) (hstage0_2 (((cfgT a).slots t (2 : Fin 3)).cast nbuf0_2))

set_option maxHeartbeats 4000000 in
theorem sound_body (c : Dev nD) (t : Fin (cfgT a).N) :
    iprop((dats a m 0 c).Φ t.castSucc ∗ (dats a m 0 c).owesAt () t.castSucc
        ∗ (∃ d, owns (c : Thread nD τ) (b0 a t) fullShare ((dats a m 0 c).before (0 : Fin 3) t d))
        ∗ (∃ d, owns (c : Thread nD τ) (b1 a t) fullShare ((dats a m 0 c).before (1 : Fin 3) t d))
        ∗ (∃ d, owns (c : Thread nD τ) (b2 a t) fullShare ((dats a m 0 c).before (2 : Fin 3) t d)))
      ⊢ wp frame (wpE (defs₀ (F := F)) Variants.none c none) Set.univ (bodyAt a t) fun _ =>
          iprop((dats a m 0 c).Φ t.succ ∗ (dats a m 0 c).owesAt () t.succ
            ∗ bigSep Finset.univ fun w : Fin (cfgT a).W =>
                match (cfgT a).idle w ((cfgT a).grid.coords t) with
                | true =>
                  match ((cfgT a).win w).flush t with
                  | false => iprop(∃ d, owns (c : Thread nD τ) (((cfgT a).win w).stage ((cfgT a).slots t w)) fullShare ((dats a m 0 c).before w t d))
                  | true => owns (c : Thread nD τ) (((cfgT a).win w).stage ((cfgT a).slots t w)) fullShare ((dats a m 0 c).after w t)
                | false => owns (c : Thread nD τ) (((cfgT a).win w).stage ((cfgT a).slots t w)) fullShare ((dats a m 0 c).after w t)) := by
  rw [bigSep_W0]
  rewrite [stores a t]
  simp only [before_0, before_1, after_0, after_1, after_2]
  rewrite [show (dats a m 0 c).Φ t.succ = held a c from rfl, show (dats a m 0 c).Φ t.castSucc = held a c from rfl,
    show (dats a m 0 c).owesAt () t.succ = (dats a m 0 c).owesAt () t.castSucc from rfl]
  unfold held outOf
  by_cases hw : wordOf (pt a t) (tV a) = 0#32
  · rw [if_pos hw]
    iintro ⟨⟨HT0, HT1⟩, Ho, ⟨%d0, H0⟩, ⟨%d1, H1⟩, ⟨%d2, H2⟩⟩
    iapply (run_unused c (pt a t) _ _ _ _ _ _ (tE a) (tV a) (blkOf a m c (0 : Fin 3) t) (blkOf a m c (1 : Fin 3) t) hw Set.univ _)
    isplitl [H0]; · iexact H0
    isplitl [H1]; · iexact H1
    isplitl [HT0]; · iexact HT0
    isplitl [HT1]; · iexact HT1
    isplitl [H2]; · iexists _; iexact H2
    iintro ⟨H0, H1, HT0, HT1, H2⟩
    isplitl [HT0 HT1]
    · isplitl [HT0]
      · iexact HT0
      iexact HT1
    isplitl [Ho]; · iexact Ho
    isplitl [H0]; · iexact H0
    isplitl [H1]; · iexact H1
    iexact H2
  · rw [if_neg hw]
    iintro ⟨⟨HT0, HT1⟩, Ho, ⟨%d0, H0⟩, ⟨%d1, H1⟩, ⟨%d2, H2⟩⟩
    iapply (run_used c (pt a t) _ _ _ _ _ _ (tE a) (tV a) (blkOf a m c (0 : Fin 3) t) (blkOf a m c (1 : Fin 3) t) hw Set.univ _)
    isplitl [H0]; · iexact H0
    isplitl [H1]; · iexact H1
    isplitl [HT0]; · iexact HT0
    isplitl [HT1]; · iexact HT1
    isplitl [H2]; · iexists _; iexact H2
    iintro ⟨H0, H1, HT0, HT1, H2⟩
    isplitl [HT0 HT1]
    · isplitl [HT0]
      · iexact HT0
      iexact HT1
    isplitl [Ho]; · iexact Ho
    isplitl [H0]; · iexact H0
    isplitl [H1]; · iexact H1
    iexact H2

theorem body_obligation (c : Dev nD) : BodyObligation (dats a m 0 c) (defs₀ (F := F)) Variants.none () Set.univ := fun t => by
  rw [bigSep_W0]
  exact sound_body a m c t

/-! ## The launch -/

theorem share_eq (c : Dev nD) (w : Fin (cfgT a).W) : (dats a m 0 c).share w = fullShare := by unfold Dat.share; split <;> rfl

/-- The tables as the launch hands them over. -/
theorem tables_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem held_in (c : Dev nD) :
    iprop(BI.emp ∗ Pipeline.prefHeld pre0 c (fun _ => fullShare.right) a.1 ∗ Pipeline.scopedRest spec0 c) ⊢ (dats a m 0 c).Φ 0 := by
  rw [tables_eq, scopedRest0_eq, show (dats a m 0 c).Φ 0 = held a c from rfl]
  unfold held
  iintro ⟨-, ⟨HT0, HT1⟩, -⟩
  isplitl [HT0]
  · iexact HT0
  iexact HT1

theorem held_out (c : Dev nD) : (dats a m 0 c).Φ (Fin.last (cfgT a).N) ⊢ iprop(BI.emp ∗ Pipeline.scopedRest spec0 c) := by
  rw [scopedRest0_eq, show (dats a m 0 c).Φ (Fin.last (cfgT a).N) = held a c from rfl]
  unfold held
  iintro ⟨-, -⟩
  isplitr; · iempintro
  iempintro

/-- Every array at what the pipeline computes, every table as it was. -/
def Ends : PUnit × MemSt nD τ sig (Elt F) → Prop := fun r =>
  ∀ c : Dev nD, (∀ w : Fin (cfgT a).W, r.2.mem (((cfgT a).win w).arr.view.loc (c : Thread nD τ)) = (dats a m 0 c).arrAt w (cfgT a).N)
    ∧ ∀ j, r.2.mem ((c : Thread nD τ).loc (pre0.ref j)) = a.1 j

set_option backward.isDefEq.respectTransparency.types false in
set_option maxHeartbeats 4000000 in
theorem run_quiet (hp : ∀ (c : Dev nD) (j : Fin 2), m ((c : Thread nD τ).loc (pre0.ref j)) = a.1 j) :
    θ_run (defs (F := F)) (onTc (τ := τ) (main (F := F))) ⟨m, fun _ => 0, ρ⟩ (fun r => Ends a m r ∧ r.2.sem = fun _ => 0) :=
  Pipeline.θ_run_region_noSem_pf_quiescent pcfgs (fun _ => a) (dats a m) () ((launch0 (F := F)).cellOf_inj fun _ => a) (0 : Fin 1)
    (launch0 (F := F)).win.to₀ (launch0 (F := F)).pre (emb₁ : Emb (UR sig nD τ) 𝕄) defs₀ Variants.none m ρ main
    (hbody := fun c => (body_obligation a m c).loose) (hne := (launch0 (F := F)).block_pos)
    (harr := (launch0 (F := F)).arr_whole) (hstage := (launch0 (F := F)).stage_whole) (howed := fun _ _ => rfl)
    (u₀ := initOf (Pipeline.cells (pinned a) ((launch0 (F := F)).cellOf_inj fun _ => a))
      (Pipeline.launchToks (pinned a) ((launch0 (F := F)).cellOf_inj fun _ => a)))
    (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pinned a) (dats a m) 0 (launch0 (F := F)).win.arr_inj c (launch0 (F := F)).arr_whole
      (share_eq a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := held_in a m)
    (hout := held_out a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The output's array named, the arguments as they were, every counter zero. -/
theorem run_main (hp : ∀ (c : Dev nD) (j : Fin 2), m ((c : Thread nD τ).loc (pre0.ref j)) = a.1 j) :
    θ_run (defs (F := F)) (onTc (τ := τ) (main (F := F))) ⟨m, fun _ => 0, ρ⟩ (fun r => (∀ c : Dev nD,
      r.2.mem ((c.tc : Thread nD τ).loc main_v0) = (dats a m 0 c).arrAt (2 : Fin 3) (cfgT a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 (2 : Fin 3),
    ((h.1 c).1 (0 : Fin 3)).trans ((dats a m 0 c).arrAt_in (0 : Fin 3) rfl _),
    ((h.1 c).2 0).trans (hp c 0).symm, ((h.1 c).2 1).trans (hp c 1).symm,
    ((h.1 c).1 (1 : Fin 3)).trans ((dats a m 0 c).arrAt_in (1 : Fin 3) rfl _)⟩, h.2⟩) (run_quiet a m ρ hp)

end Cert.DenseDown

end
-- ==== Proof.DenseDownValue.lean ====
/- The dense feed-forward's down product's blocks read at an index, and its result's array, at tables in range. -/
module

public import proofs.«01_k».proof.Proof.DenseDownData
public import Idealize.ShloMosaic.Lib.Pointwise
public import Idealize.ShloMosaic.Lib.Claim
public import Idealize.ShloMosaic.Lib.Pipeline.Covers

@[expose] public section

set_option maxRecDepth 16384

noncomputable section

namespace Cert.DenseDown

open Idealize.ShloMosaic Idealize.ShloMosaic.TcCoe
open Cert.Kernel5Ideal Cert.Kernel5Ideal.Gen

section Tables

variable {F : FTy → Type} [FloatOps F]

/-- The word of each table the second window's place is read from. -/
theorem at0 (pf : pre0.Contents (Elt F)) (i : grid0.Coords) :
    pf.at 0 (Rect.unit (s := S9) ![(Scalar.indexCast (BitVec.ofNat 32 (i 0).val) : Index).toNat] S1.size (k0_off1_inb i)) numel1_S1
      = wordOf i (pf 0) :=
  congrArg (pf 0) (funext fun a => Fin.ext (by
    have h := congrFun (k0_off1_eq i) 0
    fin_cases a
    exact (Nat.add_zero _).trans h))
theorem at1 (pf : pre0.Contents (Elt F)) (i : grid0.Coords) :
    pf.at 1 (Rect.unit (s := S9) ![(Scalar.indexCast (BitVec.ofNat 32 (i 0).val) : Index).toNat] S1.size (k0_off1_inb i)) numel1_S1
      = wordOf i (pf 1) :=
  congrArg (pf 1) (funext fun a => Fin.ext (by
    have h := congrFun (k0_off1_eq i) 0
    fin_cases a
    exact (Nat.add_zero _).trans h))

/-- The column block of a point: its own in a tile in use, the last otherwise. -/
theorem col_eq (v : BitVec 32) (n : ℕ) (hn : n < 8) :
    (Scalar.select (Scalar.cmpi .ne v 0#32) (BitVec.ofNat 32 n) 7#32).toNat = if v = 0#32 then 7 else n := by
  by_cases h : v = 0#32
  · subst h; rfl
  · rw [if_neg h]
    have : Scalar.cmpi .ne v 0#32 = 1#1 := by
      show BitVec.ofBool (v != 0#32) = 1#1
      rw [show (v != 0#32) = true from bne_iff_ne.mpr h]; rfl
    rw [this]
    show (BitVec.ofNat 32 n).toNat = n
    rw [BitVec.toNat_ofNat]; omega

theorem place1_eq (pf : pre0.Contents (Elt F)) (i : grid0.Coords) :
    cc0_transform_1 k0_off1_inb numel1_S1 pf i
      = ![(wordOf i (pf 0)).toNat, 0, if wordOf i (pf 1) = 0#32 then 7 else (i 1).val] := by
  funext d
  match d with
  | ⟨0, _⟩ => exact congrArg BitVec.toNat (at0 pf i)
  | ⟨1, _⟩ => rfl
  | ⟨2, _⟩ =>
    exact (congrArg (fun v => (Scalar.select (Scalar.cmpi .ne v 0#32) (BitVec.ofNat 32 (i 1).val) 7#32).toNat) (at1 pf i)).trans
      (col_eq _ _ (i 1).isLt)

/-- Tables that name the one matrix there is keep every block inside its array. -/
theorem ok_of_range (pf : pre0.Contents (Elt F)) (h : ∀ x, (pf 0 x : BitVec 32).toNat < 1) : ok0 pf := fun i =>
  ⟨fun d => by
    rw [place1_eq]
    have h1 := (i 1).isLt
    have h0 : (wordOf i (pf 0)).toNat < 1 := h _
    match d with
    | ⟨0, _⟩ => show ((wordOf i (pf 0)).toNat + 1) * 1 ≤ 1; omega
    | ⟨1, _⟩ => show (0 + 1) * 5632 ≤ 5632; omega
    | ⟨2, _⟩ =>
      show ((if wordOf i (pf 1) = 0#32 then 7 else (i 1).val) + 1) * 256 ≤ 2048
      have h1' : (i 1).val < 8 := h1
      split <;> omega, Or.inl rfl⟩

variable (m : (ℓ : Loc nD τ sig) → Buf (Elt F) ℓ)

/-- The tables as launched. -/
def tabs : pre0.Contents (Elt F) := fun j => m (((0 : Dev nD) : Thread nD τ).loc (pre0.ref j))

abbrev InRange : Prop := ∀ x, (tabs m 0 x : BitVec 32).toNat < 1

def adm (h : InRange m) : (pcfg0 (F := F)).Adm := ⟨tabs m, ok_of_range (tabs m) h⟩

theorem adm_eq (h : InRange m) (c : Dev nD) (j : Fin 2) : m ((c : Thread nD τ).loc (pre0.ref j)) = (adm m h).1 j := by
  obtain rfl : c = 0 := Subsingleton.elim _ _
  rfl

end Tables

variable (a : (pcfg0 (F := Ideal)).Adm) (m : (ℓ : Loc nD τ sig) → Buf (Elt Ideal) ℓ) (c : Dev nD)

abbrev argU : Vec Ideal S9216x5632 .bf16 := m ((c.tc : Thread nD τ).loc main_arg0)
abbrev argW : Vec Ideal S1x5632x2048 .f32 := m ((c.tc : Thread nD τ).loc main_arg3)

theorem coord0 : ∀ t : Fin grid0.N, (grid0.coords t 0).val = t.val / 8 := by decide +kernel
theorem coord1 : ∀ t : Fin grid0.N, (grid0.coords t 1).val = t.val % 8 := by decide +kernel

theorem wordOf_eq (t : Fin (cfgT a).N) (p : Fin 9) (hp : p.val = t.val / 8) (T : S9.Idx → BitVec 32) :
    wordOf (pt a t) T = T (ix1 p) :=
  congrArg T (funext fun d => Fin.ext (by fin_cases d; exact (coord0 t).trans hp.symm))

theorem place0 : ∀ t : Fin (cfgT a).N, (pcfg0.win a 0).index t 0 = t.val / 8 ∧ (pcfg0.win a 0).index t 1 = 0 :=
  (by decide +kernel : ∀ t : Fin grid0.N, cc0_transform_0 (grid0.coords t) 0 = t.val / 8 ∧ cc0_transform_0 (grid0.coords t) 1 = 0)
theorem place2 : ∀ t : Fin (cfgT a).N, (pcfg0.win a 2).index t 0 = t.val / 8 ∧ (pcfg0.win a 2).index t 1 = t.val % 8 :=
  (by decide +kernel : ∀ t : Fin grid0.N, cc0_transform_2 (grid0.coords t) 0 = t.val / 8 ∧ cc0_transform_2 (grid0.coords t) 1 = t.val % 8)
theorem place1 (t : Fin (cfgT a).N) (h : wordOf (pt a t) (tV a) ≠ 0#32) :
    (pcfg0.win a 1).index t 0 = (wordOf (pt a t) (tE a)).toNat ∧ (pcfg0.win a 1).index t 1 = 0
      ∧ (pcfg0.win a 1).index t 2 = t.val % 8 := by
  have e : (pcfg0.win a 1).index t = ![(wordOf (pt a t) (tE a)).toNat, 0, (pt a t 1).val] :=
    (place1_eq a.1 (pt a t)).trans (by rw [if_neg h])
  rw [e]
  exact ⟨rfl, rfl, coord1 t⟩

theorem blk0_at (t : Fin (cfgT a).N) (r : Fin 1024) (k : Fin 5632) (i : Fin 9216) (hi : i.val = t.val / 8 * 1024 + r.val) :
    (blkOf a m c (0 : Fin 3) t : Vec Ideal S1024x5632 .bf16) (ix2 r k) = argU m c (ix2 i k) := by
  have hp := place0 a t
  unfold blkOf argU
  generalize m = W
  blk_simp
  blk_ext

theorem blk1_at (t : Fin (cfgT a).N) (h : wordOf (pt a t) (tV a) ≠ 0#32) (e : Fin 1) (he : e.val = (wordOf (pt a t) (tE a)).toNat)
    (k : Fin 5632) (s : Fin 256) (j : Fin 2048) (hj : j.val = t.val % 8 * 256 + s.val) :
    (blkOf a m c (1 : Fin 3) t : Vec Ideal S1x5632x256 .f32) (ix3 0 k s) = argW m c (ix3 e k j) := by
  have hp := place1 a t h
  rw [← he] at hp
  unfold blkOf argW
  generalize m = W
  blk_simp
  blk_ext

/-- The product of a tile's rows and its expert's block, at an index. -/
theorem pay1_at (x : Vec Ideal S1024x5632 .bf16) (w : Vec Ideal S1x5632x256 .f32) (r : Fin 1024) (s : Fin 256) :
    k0_pay1 x w (ix2 r s) = ∑ k : Fin 5632, (x (ix2 r k) : EReal) * w (ix3 0 k s) := by
  pointwise [k0_pay1]

theorem pay2_at (r : Fin 1024) (s : Fin 256) : (k0_pay2 (F := Ideal)) (ix2 r s) = Ideal.ofBits .f32 0x00000000#32 := by
  pointwise [k0_pay2]

theorem nblk2_0 : ((cfgT a).win (2 : Fin 3)).nblk (0 : Fin 2) = 9 := by
  unfold Pipeline.Window.nblk; exact (by decide : (9216 + 1024 - 1) / 1024 = 9)
theorem nblk2_1 : ((cfgT a).win (2 : Fin 3)).nblk (1 : Fin 2) = 8 := by
  unfold Pipeline.Window.nblk; exact (by decide : (2048 + 256 - 1) / 256 = 8)

/-- Every block of the result is some point's. -/
theorem covers2 : ((cfgT a).win (2 : Fin 3)).Covers :=
  Pipeline.Window.covers_of_index_surj _ rfl
    (by intro d; match d with | ⟨0, _⟩ => exact (by decide : 0 < 1024) | ⟨1, _⟩ => exact (by decide : 0 < 256)) fun β => by
    have h0 : (β (0 : Fin 2)).val < 9 := lt_of_lt_of_eq (β (0 : Fin 2)).isLt (nblk2_0 a)
    have h1 : (β (1 : Fin 2)).val < 8 := lt_of_lt_of_eq (β (1 : Fin 2)).isLt (nblk2_1 a)
    have hp := place2 a ⟨(β (0 : Fin 2)).val * 8 + (β (1 : Fin 2)).val, (by omega : _ < 72)⟩
    refine ⟨⟨(β (0 : Fin 2)).val * 8 + (β (1 : Fin 2)).val, (by omega : _ < 72)⟩, fun d => ?_⟩
    have e0 : ((β (0 : Fin 2)).val * 8 + (β (1 : Fin 2)).val) / 8 = (β (0 : Fin 2)).val := by omega
    have e1 : ((β (0 : Fin 2)).val * 8 + (β (1 : Fin 2)).val) % 8 = (β (1 : Fin 2)).val := by omega
    match d with
    | ⟨0, _⟩ => exact hp.1.trans e0
    | ⟨1, _⟩ => exact hp.2.trans e1

/-- The result's array after the run, from what every point stores. -/
theorem result_eq (G : Buf (Elt Ideal) ((c.tc : Thread nD τ).loc main_v0))
    (h : ∀ (t : Fin (cfgT a).N) (r : Fin 1024) (s : Fin 256) (i : Fin 9216) (j : Fin 2048), i.val = t.val / 8 * 1024 + r.val →
      j.val = t.val % 8 * 256 + s.val → outOf a m c t (ix2 r s) = (G : Vec Ideal S9216x2048 .f32) (ix2 i j)) :
    (dats a m 0 c).arrAt (2 : Fin 3) (cfgT a).N = G := by
  refine (dats a m 0 c).arrAt_eq_of_covers (2 : Fin 3) _ (covers2 a) fun t hf y => ?_
  have hp := place2 a t
  rw [after_2]
  have ht : t.val < 72 := t.isLt
  obtain ⟨r, s, rfl⟩ : ∃ (r : Fin 1024) (s : Fin 256), y = ix2 r s := ⟨y 0, y 1, eq_ix2 y⟩
  blk_simp
  refine (h t r s ⟨t.val / 8 * 1024 + r.val, by omega⟩ ⟨t.val % 8 * 256 + s.val, by omega⟩ rfl rfl).trans ?_
  blk_ext

end Cert.DenseDown

end
-- ==== Proof.DenseDownAlgebraic.lean ====
/- The dense feed-forward's down product is the reference's plain product, where its tables name the one matrix and every tile is in use. -/
module

public import proofs.«01_k».proof.Defs
public import proofs.«01_k».proof.Proof.Gen.Pre_dense_down
public import proofs.«01_k».proof.Proof.Gen.Reference5Ideal.Run
public import proofs.«01_k».proof.Proof.DenseDownValue

@[expose] public section

set_option maxRecDepth 16384

noncomputable section

namespace Cert.DenseDown

open Idealize.ShloMosaic Idealize.ShloMosaic.TcCoe

namespace Ref

open Cert.Reference5Ideal Cert.Reference5Ideal.Gen

/-- The reference's result, of its arguments. -/
def whole (up : FVec Ideal S9216x5632 .bf16) (w : FVec Ideal S1x5632x2048 .f32) : FVec Ideal S9216x2048 .f32 :=
  Host.dotGeneral dot_S9216x5632_S5632x2048_S9216x2048_1_0_0_1_n_n none (extf .f32 up bitsLt_bf16_f32)
    (shapeCast S5632x2048 w shapeCasts_S1x5632x2048_S5632x2048)

theorem whole_at (up : FVec Ideal S9216x5632 .bf16) (w : FVec Ideal S1x5632x2048 .f32) (i : Fin 9216) (j : Fin 2048) :
    whole up w (ix2 i j) = ∑ k : Fin 5632, (up (ix2 i k) : EReal) * w (ix3 0 k j) := by
  pointwise [whole]

end Ref

open Cert.Kernel5Ideal Cert.Kernel5Ideal.Gen

/-- A comparison with zero that holds. -/
theorem eq_zero (v : BitVec 32) (h : IntOp.cmpi .eq v 0#32 = 1#1) : v = 0#32 := by
  by_contra hn
  simp only [IntOp.cmpi, beq_eq_false_iff_ne.mpr hn] at h
  exact absurd h (by decide)

theorem ne_zero (v : BitVec 32) (h : IntOp.cmpi .ne v 0#32 = 1#1) : v ≠ 0#32 := by
  rintro rfl
  exact absurd h (by decide)

/-- The precondition at its function's two results. -/
theorem zero_of_fn {F : FTy → Type} [FloatOps F] (x0 : FVec F Cert.Pre_dense_down.S9216x5632 .bf16) (te tv : IVec Cert.Pre_dense_down.S9 32)
    (w : FVec F Cert.Pre_dense_down.S1x5632x2048 .f32)
    (h : (Cert.Pre_dense_down.fn x0 te tv w).1 = (fun _ => 1#1) ∧ (Cert.Pre_dense_down.fn x0 te tv w).2 = (fun _ => 1#1)) :
    (∀ x, (te x).toNat < 1) ∧ ∀ x, tv x ≠ 0#32 :=
  ⟨fun x => by rw [eq_zero (te x) (congrFun h.1 x)]; decide, fun x => ne_zero (tv x) (congrFun h.2 x)⟩

theorem range_ideal (m : (ℓ : Loc nD τ sig) → Buf (Elt Ideal) ℓ) (h : Cert.Pre_Kernel5Ideal m) :
    InRange m ∧ ∀ x, (tabs m 1 x : BitVec 32) ≠ 0#32 := zero_of_fn _ _ _ _ (h 0)

theorem range_bits (m : (ℓ : Loc nD τ sig) → Buf (Elt Bits) ℓ) (h : Cert.Pre_Kernel5 m) : InRange m := (zero_of_fn _ _ _ _ (h 0)).1

variable (m : (ℓ : Loc nD τ sig) → Buf (Elt Ideal) ℓ) (c : Dev nD)

/-- The reference's result, of the kernel's arguments. -/
def refDown : FVec Ideal Cert.Reference5Ideal.S9216x2048 .f32 :=
  Ref.whole (m ((c.tc : Thread nD τ).loc main_arg0)) (m ((c.tc : Thread nD τ).loc main_arg3))

/-- What the kernel leaves in its result is the reference's result. -/
theorem down_result (h : InRange m) (hu : ∀ x, (tabs m 1 x : BitVec 32) ≠ 0#32) :
    (dats (adm m h) m 0 c).arrAt (2 : Fin 3) (cfgT (adm m h)).N = refDown m c := by
  refine result_eq (adm m h) m c (refDown m c) fun t r s i j hi hj => ?_
  obtain rfl : c = 0 := Subsingleton.elim _ _
  have hw : wordOf (pt (adm m h) t) (tV (adm m h)) ≠ 0#32 := hu _
  have he : (wordOf (pt (adm m h) t) (tE (adm m h))).toNat < 1 := h _
  refine Eq.trans ?_ (Ref.whole_at (argU m 0) (argW m 0) i j).symm
  unfold outOf
  rw [if_neg hw]
  refine (pay1_at _ _ r s).trans ?_
  exact Finset.sum_congr rfl fun k _ => congrArg₂ (fun x y : EReal => x * y) (blk0_at (adm m h) m 0 t r k i hi)
    (blk1_at (adm m h) m 0 t hw 0 (by show 0 = _; omega) k s j hj)

end Cert.DenseDown

end
-- ==== Proof.InLeaves.lean ====
/- What one point of the input projection leaves in its scratch and its result's block. -/
module

public import proofs.«01_k».proof.Proof.Gen.Kernel6Ideal.Frame
public import Idealize.ShloMosaic.Lib.Pointwise
public import Idealize.ShloMosaic.Lib.Claim
public import Idealize.ShloMosaic.Lib.Pipeline.ValueKit
public import Idealize.ShloMosaic.Lib.IdealHost

@[expose] public section

set_option maxRecDepth 16384

noncomputable section

namespace Cert.In

open Idealize.ShloMosaic Idealize.ShloMosaic.TcCoe
open Cert.Kernel6Ideal Cert.Kernel6Ideal.Gen

section Leaves

variable {F : FTy → Type} [FloatOps F]

theorem z2 : (![0, 0] : Fin 2 → ℕ) = fun _ => 0 := funext fun a => by fin_cases a <;> rfl
theorem z3 : (![0, 0, 0] : Fin 3 → ℕ) = fun _ => 0 := funext fun a => by fin_cases a <;> rfl
theorem z4 : (![0, 0, 0, 0] : Fin 4 → ℕ) = fun _ => 0 := funext fun a => by fin_cases a <;> rfl

variable (c : Dev nD) (i : grid0.Coords)
  (arg2 : Memref sig .tc .vmem S1024x2048 .f32) (harg2 : arg2.IsWhole) (arg3 : Memref sig .tc .vmem S1x1x1x2048 .f32) (harg3 : arg3.IsWhole)
  (arg4 : Memref sig .tc .vmem S1x1x1x2048 .f32) (harg4 : arg4.IsWhole) (arg5 : Memref sig .tc .vmem S1x2048x1536 .bf16) (harg5 : arg5.IsWhole)
  (arg6 : Memref sig .tc .vmem S1024x1536 .f32) (harg6 : arg6.IsWhole) (arg7 : Memref sig .tc .vmem S1024x2048 .bf16) (harg7 : arg7.IsWhole)
  (x0 : Vec F S1024x2048 .f32) (x1 x2 : Vec F S1x1x1x2048 .f32) (x3 : Vec F S1x2048x1536 .bf16)

/-- A row block's first point leaves the modulated rows in the scratch. -/
theorem rows_A (hc : cond0_0 i) :
    sout0_A_0 c i arg2 harg2 arg3 harg3 arg4 harg4 arg5 harg5 arg6 harg6 arg7 harg7 hc x0 x1 x2 x3 = k0_pay1 x0 x2 x1 := by
  unfold sout0_A_0
  rw [View.read_writes_eq_canon _ _ _ (scover0_A_0 c i arg2 harg2 arg3 harg3 arg4 harg4 arg5 harg5 arg6 harg6 arg7 harg7 hc x0 x1 x2 x3)]
  unfold kernelRun0_A
  dsimp only
  sl_unfold_words
  rw [View.canon_unit_zero z2]
  simp only [View.readAt_eq_ld, harg2.read_unread, harg3.read_unread, harg4.read_unread, View.ld_unit_zero (S := S1024x2048) z2,
    View.ld_unit_zero (S := S1x1x1x2048) z4]

/-- The first point's block of the result is the product of the rows it leaves. -/
theorem out_A (hc : cond0_0 i) :
    out0_A_4 c i arg2 harg2 arg3 harg3 arg4 harg4 arg5 harg5 arg6 harg6 arg7 harg7 hc x0 x1 x2 x3 = k0_pay2 (k0_pay1 x0 x2 x1) x3 := by
  unfold out0_A_4
  rw [View.read_writes_eq_canon _ _ _ (cover0_A_4 c i arg2 harg2 arg3 harg3 arg4 harg4 arg5 harg5 arg6 harg6 arg7 harg7 hc x0 x1 x2 x3)]
  unfold kernelRun0_A
  dsimp only
  sl_unfold_words
  rw [View.canon_unit_zero z2, View.readCov_unit_zero (S := S1024x2048) _ z2]
  simp only [View.readAt_eq_ld, harg2.read_unread, harg3.read_unread, harg4.read_unread, harg5.read_unread,
    View.ld_unit_zero (S := S1024x2048) z2, View.ld_unit_zero (S := S1x1x1x2048) z4, View.ld_unit_zero (S := S1x2048x1536) z3]

/-- A later point's block is the product of the rows it finds. -/
theorem out_B (hc : ¬cond0_0 i) (xs : Vec F S1024x2048 .bf16) :
    out0_B_4 c i arg2 harg2 arg3 harg3 arg4 harg4 arg5 harg5 arg6 harg6 arg7 harg7 hc x0 x1 x2 x3 xs = k0_pay2 xs x3 := by
  unfold out0_B_4
  rw [View.read_writes_eq_canon _ _ _ (cover0_B_4 c i arg2 harg2 arg3 harg3 arg4 harg4 arg5 harg5 arg6 harg6 arg7 harg7 hc x0 x1 x2 x3 xs)]
  unfold kernelRun0_B
  dsimp only
  sl_unfold_words
  rw [View.canon_unit_zero z2]
  simp only [View.readAt_eq_ld, harg5.read_unread, harg7.read_unread, View.ld_unit_zero (S := S1024x2048) z2,
    View.ld_unit_zero (S := S1x2048x1536) z3]

end Leaves

end Cert.In

end
-- ==== Proof.InBlocks.lean ====
/- The input projection's blocks read at an index, and one point's payloads. -/
module

public import proofs.«01_k».proof.Proof.Gen.Kernel6Ideal.Frame
public import Idealize.ShloMosaic.Lib.Pointwise
public import Idealize.ShloMosaic.Lib.Claim
public import Idealize.ShloMosaic.Lib.Pipeline.ValueKit
public import Idealize.ShloMosaic.Lib.IdealHost

@[expose] public section

set_option maxRecDepth 16384

noncomputable section

namespace Cert.In

open Idealize.ShloMosaic Idealize.ShloMosaic.TcCoe
open Cert.Kernel6Ideal Cert.Kernel6Ideal.Gen

variable (m : (ℓ : Loc nD τ sig) → Buf (Elt Ideal) ℓ) (c : Dev nD)

abbrev argX : Vec Ideal S8192x2048 .f32 := m ((c.tc : Thread nD τ).loc main_arg0)
abbrev argS : Vec Ideal S1x2x1x12288 .f32 := m ((c.tc : Thread nD τ).loc main_arg1)
abbrev argC : Vec Ideal S1x2x1x12288 .f32 := m ((c.tc : Thread nD τ).loc main_arg2)
abbrev argW : Vec Ideal S1x2048x4608 .bf16 := m ((c.tc : Thread nD τ).loc main_arg3)

theorem place0 : ∀ t : Fin cfg0.N, win0_0.index t 0 = t.val / 3 ∧ win0_0.index t 1 = 0 :=
  (by decide +kernel : ∀ t : Fin grid0.N, win0_0.index t 0 = t.val / 3 ∧ win0_0.index t 1 = 0)
theorem place1 : ∀ t : Fin cfg0.N, win0_1.index t 0 = 0 ∧ win0_1.index t 1 = t.val / 12 ∧ win0_1.index t 2 = 0 ∧ win0_1.index t 3 = 0 :=
  (by decide +kernel : ∀ t : Fin grid0.N, win0_1.index t 0 = 0 ∧ win0_1.index t 1 = t.val / 12 ∧ win0_1.index t 2 = 0 ∧ win0_1.index t 3 = 0)
theorem place2 : ∀ t : Fin cfg0.N, win0_2.index t 0 = 0 ∧ win0_2.index t 1 = t.val / 12 ∧ win0_2.index t 2 = 0 ∧ win0_2.index t 3 = 1 :=
  (by decide +kernel : ∀ t : Fin grid0.N, win0_2.index t 0 = 0 ∧ win0_2.index t 1 = t.val / 12 ∧ win0_2.index t 2 = 0 ∧ win0_2.index t 3 = 1)
theorem place3 : ∀ t : Fin cfg0.N, win0_3.index t 0 = 0 ∧ win0_3.index t 1 = 0 ∧ win0_3.index t 2 = t.val % 3 :=
  (by decide +kernel : ∀ t : Fin grid0.N, win0_3.index t 0 = 0 ∧ win0_3.index t 1 = 0 ∧ win0_3.index t 2 = t.val % 3)
theorem place4 : ∀ t : Fin cfg0.N, win0_4.index t 0 = t.val / 3 ∧ win0_4.index t 1 = t.val % 3 :=
  (by decide +kernel : ∀ t : Fin grid0.N, win0_4.index t 0 = t.val / 3 ∧ win0_4.index t 1 = t.val % 3)

theorem blk0_at (t : Fin cfg0.N) (r : Fin 1024) (k : Fin 2048) (i : Fin 8192) (hi : i.val = t.val / 3 * 1024 + r.val) :
    (iblk m c 0 t : Vec Ideal S1024x2048 .f32) (ix2 r k) = (V m c main_arg0 : Vec Ideal S8192x2048 .f32) (ix2 i k) := by
  have hp := place0 t
  unfold iblk
  generalize V m c = W
  blk_simp
  blk_ext

theorem blk1_at (t : Fin cfg0.N) (b : Fin 2) (hb : b.val = t.val / 12) (k : Fin 2048) (k' : Fin 12288) (hk : k'.val = k.val) :
    (iblk m c 1 t : Vec Ideal S1x1x1x2048 .f32) (ix4 0 0 0 k) = (V m c main_arg1 : Vec Ideal S1x2x1x12288 .f32) (ix4 0 b 0 k') := by
  have hp := place1 t
  unfold iblk
  generalize V m c = W
  blk_simp
  blk_ext

theorem blk2_at (t : Fin cfg0.N) (b : Fin 2) (hb : b.val = t.val / 12) (k : Fin 2048) (k' : Fin 12288) (hk : k'.val = 2048 + k.val) :
    (iblk m c 2 t : Vec Ideal S1x1x1x2048 .f32) (ix4 0 0 0 k) = (V m c main_arg2 : Vec Ideal S1x2x1x12288 .f32) (ix4 0 b 0 k') := by
  have hp := place2 t
  unfold iblk
  generalize V m c = W
  blk_simp
  blk_ext

theorem blk3_at (t : Fin cfg0.N) (k : Fin 2048) (s : Fin 1536) (j : Fin 4608) (hj : j.val = t.val % 3 * 1536 + s.val) :
    (iblk m c 3 t : Vec Ideal S1x2048x1536 .bf16) (ix3 0 k s) = (V m c main_arg3 : Vec Ideal S1x2048x4608 .bf16) (ix3 0 k j) := by
  have hp := place3 t
  unfold iblk
  generalize V m c = W
  blk_simp
  blk_ext

/-- A row under its scale and shift, at an index. -/
theorem pay1_at (x : Vec Ideal S1024x2048 .f32) (a b : Vec Ideal S1x1x1x2048 .f32) (r : Fin 1024) (k : Fin 2048) :
    k0_pay1 x a b (ix2 r k) = (x (ix2 r k) : EReal) * (1 + a (ix4 0 0 0 k)) + b (ix4 0 0 0 k) := by
  rw [← Ideal.ofBits_one_f32]
  pointwise [k0_pay1]

theorem pay2_at (x : Vec Ideal S1024x2048 .bf16) (w : Vec Ideal S1x2048x1536 .bf16) (r : Fin 1024) (s : Fin 1536) :
    k0_pay2 x w (ix2 r s) = ∑ k : Fin 2048, (x (ix2 r k) : EReal) * w (ix3 0 k s) := by
  pointwise [k0_pay2]

/-- The modulated rows, of the arguments. -/
def rowAt (i : Fin 8192) (k : Fin 2048) : EReal :=
  (argX m c (ix2 i k) : EReal) * (1 + argC m c (ix4 0 ⟨i.val / 4096, by omega⟩ 0 ⟨2048 + k.val, by omega⟩))
    + argS m c (ix4 0 ⟨i.val / 4096, by omega⟩ 0 ⟨k.val, by omega⟩)

/-- The first point of a row block computes its modulated rows. -/
theorem first_at (t : Fin cfg0.N) (r : Fin 1024) (k : Fin 2048) (i : Fin 8192) (hi : i.val = t.val / 3 * 1024 + r.val) :
    k0_pay1 (iblk m c 0 t : Vec Ideal S1024x2048 .f32) (iblk m c 2 t : Vec Ideal S1x1x1x2048 .f32)
      (iblk m c 1 t : Vec Ideal S1x1x1x2048 .f32) (ix2 r k) = rowAt m c i k := by
  have hr := r.isLt
  refine (pay1_at _ _ _ r k).trans ?_
  rw [blk0_at m c t r k i hi, blk1_at m c t ⟨i.val / 4096, by omega⟩ (by show i.val / 4096 = _; omega) k ⟨k.val, by omega⟩ rfl,
    blk2_at m c t ⟨i.val / 4096, by omega⟩ (by show i.val / 4096 = _; omega) k ⟨2048 + k.val, by omega⟩ rfl]
  rfl

end Cert.In

end
-- ==== Proof.InValue.lean ====
/- The input projection's points, one after the other, and its result's array. -/
module

public import proofs.«01_k».proof.Proof.InLeaves
public import proofs.«01_k».proof.Proof.InBlocks
public import Idealize.ShloMosaic.Lib.Pointwise
public import Idealize.ShloMosaic.Lib.Claim
public import Idealize.ShloMosaic.Lib.Pipeline.ValueKit
public import Idealize.ShloMosaic.Lib.IdealHost

@[expose] public section

set_option maxRecDepth 16384

noncomputable section

namespace Cert.In

open Idealize.ShloMosaic Idealize.ShloMosaic.TcCoe
open Cert.Kernel6Ideal Cert.Kernel6Ideal.Gen

variable (m : (ℓ : Loc nD τ sig) → Buf (Elt Ideal) ℓ) (c : Dev nD)

/-- What a row block's first point leaves. -/
theorem outs_A (t : Fin cfg0.N) (h0 : t.val % 3 = 0) :
    outsAt0 m c t.val t.isLt = (k0_pay2 (k0_pay1 (iblk m c 0 t) (iblk m c 2 t) (iblk m c 1 t)) (iblk m c 3 t),
      k0_pay1 (iblk m c 0 t) (iblk m c 2 t) (iblk m c 1 t)) := by
  rw [outsAt0_A m c t h0, out_A, rows_A]

/-- What a later point leaves in its block, and in the scratch. -/
theorem outs_B (t : Fin cfg0.N) (h0 : ¬t.val % 3 = 0) :
    outsAt0 m c t.val t.isLt = (k0_pay2 (outsAt0 m c (t.val - 1) (Nat.lt_of_le_of_lt (Nat.sub_le _ _) t.isLt)).2 (iblk m c 3 t),
      (outsAt0 m c (t.val - 1) (Nat.lt_of_le_of_lt (Nat.sub_le _ _) t.isLt)).2) := by
  rw [outsAt0_B m c t h0, out_B]
  generalize (outsAt0 m c (t.val - 1) _).2 = X
  unfold sout0_B_0
  rfl

/-- After every point the scratch holds its row block's modulated rows. -/
theorem held_at (n : ℕ) : ∀ (hn : n < cfg0.N) (r : Fin 1024) (k : Fin 2048) (i : Fin 8192), i.val = n / 3 * 1024 + r.val →
    (outsAt0 m c n hn).2 (ix2 r k) = rowAt m c i k := by
  induction n using Nat.strong_induction_on with
  | _ n ih =>
    intro hn r k i hi
    by_cases h0 : n % 3 = 0
    · have e := congrArg Prod.snd (outs_A m c ⟨n, hn⟩ h0)
      dsimp only at e
      rw [e]
      exact first_at m c ⟨n, hn⟩ r k i hi
    · have e := congrArg Prod.snd (outs_B m c ⟨n, hn⟩ h0)
      dsimp only at e
      rw [e]
      exact ih (n - 1) (by omega) _ r k i (by omega)

/-- Every point's block of the result, of the arguments. -/
theorem out_at (t : Fin cfg0.N) (r : Fin 1024) (s : Fin 1536) (i : Fin 8192) (j : Fin 4608) (hi : i.val = t.val / 3 * 1024 + r.val)
    (hj : j.val = t.val % 3 * 1536 + s.val) :
    (outsAt0 m c t.val t.isLt).1 (ix2 r s) = ∑ k : Fin 2048, rowAt m c i k * argW m c (ix3 0 k j) := by
  by_cases h0 : t.val % 3 = 0
  · have e := congrArg Prod.fst (outs_A m c t h0)
    dsimp only at e
    rw [e]
    refine (pay2_at _ _ r s).trans ?_
    exact Finset.sum_congr rfl fun k _ => congrArg₂ (fun x y : EReal => x * y) (first_at m c t r k i hi) (blk3_at m c t k s j hj)
  · have e := congrArg Prod.fst (outs_B m c t h0)
    dsimp only at e
    rw [e]
    refine (pay2_at _ _ r s).trans ?_
    exact Finset.sum_congr rfl fun k _ => congrArg₂ (fun x y : EReal => x * y)
      (held_at m c (t.val - 1) _ r k i (by omega)) (blk3_at m c t k s j hj)

/-- The result's array after the run. -/
theorem result_eq (G : Buf (Elt Ideal) ((c.tc : Thread nD τ).loc main_v0))
    (h : ∀ (i : Fin 8192) (j : Fin 4608),
      ∑ k : Fin 2048, rowAt m c i k * argW m c (ix3 0 k j) = (G : Vec Ideal S8192x4608 .f32) (ix2 i j)) :
    (dats m 0 c).arrAt 4 cfg0.N = G := by
  refine (dats m 0 c).arrAt_eq_of_covers 4 _ (by decide +kernel) fun t hf y => ?_
  have hp := place4 t
  rw [after0_4]
  have ht : t.val < 24 := lt_of_lt_of_eq t.isLt N_0
  obtain ⟨r, s, rfl⟩ : ∃ (r : Fin 1024) (s : Fin 1536), y = ix2 r s := ⟨y 0, y 1, eq_ix2 y⟩
  blk_simp
  refine (out_at m c t r s ⟨t.val / 3 * 1024 + r.val, by omega⟩ ⟨t.val % 3 * 1536 + s.val, by omega⟩ rfl rfl).trans ((h _ _).trans ?_)
  blk_ext

end Cert.In

end
-- ==== Proof.InAlgebraic.lean ====
/- The input projection is the reference's product of the modulated rows. -/
module

public import proofs.«01_k».proof.Defs
public import proofs.«01_k».proof.Proof.Gen.Reference6Ideal.Run
public import proofs.«01_k».proof.Proof.InValue

@[expose] public section

set_option maxRecDepth 16384

noncomputable section

namespace Cert.In

open Idealize.ShloMosaic Idealize.ShloMosaic.TcCoe

namespace Ref

open Cert.Reference6Ideal Cert.Reference6Ideal.Gen

/-- The reference's rows, scaled and shifted. -/
def rows (x : FVec Ideal S8192x2048 .f32) (sh sc : FVec Ideal S1x2x1x12288 .f32) : FVec Ideal S2x4096x2048 .f32 :=
  addf (mulf (shapeCast S2x4096x2048 x shapeCasts_S8192x2048_S2x4096x2048)
      (broadcastInDim S2x4096x2048 ![0, 1, 2] bcast_S2x1x2048_S2x4096x2048_0_1_2
        (addf (broadcastInDim S2x1x2048 ![] bcast_S_S2x1x2048 (constant S_ .f32 0x3F800000#32))
          (shapeCast S2x1x2048 (extractStridedSlice S1x2x1x2048 ![0, 0, 0, 2048] sc slices_S1x2x1x12288_S1x2x1x2048_0_0_0_2048)
            shapeCasts_S1x2x1x2048_S2x1x2048))))
    (broadcastInDim S2x4096x2048 ![0, 1, 2] bcast_S2x1x2048_S2x4096x2048_0_1_2
      (shapeCast S2x1x2048 (extractStridedSlice S1x2x1x2048 ![0, 0, 0, 0] sh slices_S1x2x1x12288_S1x2x1x2048_0_0_0_0)
        shapeCasts_S1x2x1x2048_S2x1x2048))

/-- The reference's product of such rows. -/
def prod (h : FVec Ideal S2x4096x2048 .f32) (w : FVec Ideal S1x2048x4608 .bf16) : FVec Ideal S8192x4608 .f32 :=
  shapeCast S8192x4608 (Host.dotGeneral dot_S2x4096x2048_S2048x4608_S2x4096x4608_2_0_01_1_n_n none h
    (extf .f32 (shapeCast S2048x4608 w shapeCasts_S1x2048x4608_S2048x4608) bitsLt_bf16_f32)) shapeCasts_S2x4096x4608_S8192x4608

theorem rows_at (x : FVec Ideal S8192x2048 .f32) (sh sc : FVec Ideal S1x2x1x12288 .f32) (b : Fin 2) (p : Fin 4096) (k : Fin 2048)
    (i : Fin 8192) (hi : i.val = b.val * 4096 + p.val) (k0 k1 : Fin 12288) (h0 : k0.val = k.val) (h1 : k1.val = 2048 + k.val) :
    rows x sh sc (ix3 b p k) = (x (ix2 i k) : EReal) * (1 + sc (ix4 0 b 0 k1)) + sh (ix4 0 b 0 k0) := by
  obtain ⟨i, hi'⟩ := i
  obtain ⟨k0, h0'⟩ := k0
  obtain ⟨k1, h1'⟩ := k1
  obtain rfl : i = b.val * 4096 + p.val := hi
  obtain rfl : k0 = k.val := h0
  obtain rfl : k1 = 2048 + k.val := h1
  rw [← Ideal.ofBits_one_f32]
  pointwise [rows]

theorem prod_at (h : FVec Ideal S2x4096x2048 .f32) (w : FVec Ideal S1x2048x4608 .bf16) (i : Fin 8192) (j : Fin 4608) :
    prod h w (ix2 i j) = ∑ k : Fin 2048, (h (ix3 ⟨i.val / 4096, by omega⟩ ⟨i.val % 4096, by omega⟩ k) : EReal) * w (ix3 0 k j) := by
  pointwise [prod]

end Ref

open Cert.Kernel6Ideal Cert.Kernel6Ideal.Gen

variable (m : (ℓ : Loc nD τ sig) → Buf (Elt Ideal) ℓ) (c : Dev nD)

/-- The reference's result, of the kernel's arguments. -/
def refIn : FVec Ideal Cert.Reference6Ideal.S8192x4608 .f32 :=
  Ref.prod (Ref.rows (m ((c.tc : Thread nD τ).loc main_arg0)) (m ((c.tc : Thread nD τ).loc main_arg1)) (m ((c.tc : Thread nD τ).loc main_arg2)))
    (m ((c.tc : Thread nD τ).loc main_arg3))

/-- It is, at an index, the sum over a row's modulated entries. -/
theorem ref_at (i : Fin 8192) (j : Fin 4608) :
    ∑ k : Fin 2048, rowAt m c i k * argW m c (ix3 0 k j) = refIn m c (ix2 i j) := by
  refine Eq.trans ?_ (Ref.prod_at _ _ i j).symm
  refine Finset.sum_congr rfl fun k _ => congrArg (fun x : EReal => x * (argW m c (ix3 0 k j) : EReal)) ?_
  exact (Ref.rows_at _ _ _ ⟨i.val / 4096, by omega⟩ ⟨i.val % 4096, by omega⟩ k i (by show i.val = i.val / 4096 * 4096 + i.val % 4096; omega)
    ⟨k.val, by omega⟩ ⟨2048 + k.val, by omega⟩ rfl rfl).symm

/-- What the kernel leaves in its result is the reference's result. -/
theorem in_result : (dats m 0 c).arrAt 4 cfg0.N = refIn m c := result_eq m c (refIn m c) (ref_at m c)

end Cert.In

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_experts
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Pre_gathers
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Pre_dense_up
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Reference5Ideal.Run
public import proofs.«01_k».proof.Proof.Gen.Pre_dense_down
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Same
public import proofs.«01_k».proof.Proof.Data
public import proofs.«01_k».proof.Proof.Algebraic
public import proofs.«01_k».proof.Proof.Finite
public import proofs.«01_k».proof.Proof.DownSame
public import proofs.«01_k».proof.Proof.DownAlgebraic
public import proofs.«01_k».proof.Proof.UpSame
public import proofs.«01_k».proof.Proof.UpAlgebraic
public import proofs.«01_k».proof.Proof.DenseUpSame
public import proofs.«01_k».proof.Proof.DenseUpAlgebraic
public import proofs.«01_k».proof.Proof.DenseDownSame
public import proofs.«01_k».proof.Proof.DenseDownAlgebraic
public import proofs.«01_k».proof.Proof.InAlgebraic
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The kernel at machine floats: its text is that of its ideal twin, whose run is over any float values. -/
theorem frame_kernel : Cert.quiescent_Kernel := fun m ρ _ => by
  rw [Cert.Attn.defs_same, Cert.Attn.main_same]
  exact Cert.Attn.frame_run (F := Bits) m ρ

theorem frame_ideal : Cert.quiescent_KernelIdeal := fun m ρ _ => Cert.Attn.frame_run m ρ

theorem frame_ideal_finite : Cert.quiescent_KernelIdeal_pre_finite := fun m ρ _ => Cert.Attn.frame_run m ρ

/-- The reference leaves its arguments, and it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

theorem frame_reference_finite : Cert.quiescent_ReferenceIdeal_pre_finite := fun m ρ _ => frame_reference m ρ trivial

/-- The kernel and the reference end with the same result, from finite queries, latents and keys. -/
theorem same_result : Cert.algebraic_KernelIdeal_ReferenceIdeal_pre_finite := by
  intro m g m' g' hpre hagree
  refine ⟨fun c => Cert.Attn.refOut m c, ?_, ?_⟩
  · refine (θ_run Cert.KernelIdeal.defs _ _).mono (fun r h c => ⟨?_, h.2.1 c⟩)
      (θ_run_and (Cert.Attn.run_main m g) (Cert.Attn.frame_run m g))
    exact ((h.1 c).1 5).trans (Cert.Attn.kernel_result (Cert.Attn.finite_of_pre m hpre c))
  · refine (θ_run Cert.ReferenceIdeal.defs _ _).mono (fun r h c => ⟨(h c).1.trans ?_, (h c).2⟩)
      (Cert.ReferenceIdeal.Value.run m' g')
    rw [Cert.Attn.Ref.res_eq]
    obtain ⟨h0, h1, h2, h3, h4⟩ := hagree c
    unfold Cert.Attn.refOut Cert.Attn.refLatent
    rw [h0, h1, h2, h3, h4]

/-- The experts' down product at machine floats, from tables in range. -/
theorem frame_kernel2 : Cert.quiescent_Kernel2 := fun m ρ h => by
  rw [Cert.Down.defs_same, Cert.Down.main_same]
  exact (θ_run Cert.Kernel2Ideal.defs _ _).mono (fun r h => ⟨fun c => (h.1 c).2, h.2⟩)
    (Cert.Down.run_main (F := Bits) (Cert.Down.adm m (Cert.Down.range_bits m h)) m ρ (Cert.Down.adm_eq m (Cert.Down.range_bits m h)))

theorem frame_ideal2 : Cert.quiescent_Kernel2Ideal := fun m ρ h =>
  (θ_run Cert.Kernel2Ideal.defs _ _).mono (fun r h => ⟨fun c => (h.1 c).2, h.2⟩)
    (Cert.Down.run_main (Cert.Down.adm m (Cert.Down.range_ideal m h)) m ρ (Cert.Down.adm_eq m (Cert.Down.range_ideal m h)))

theorem frame_reference2 : Cert.quiescent_Reference2Ideal := fun m ρ _ =>
  (θ_run Cert.Reference2Ideal.defs _ _).mono
    (fun r h => ⟨fun c => (h c).2, sem_eq_zero_of_no_sems (by decide) r.2⟩) (Cert.Reference2Ideal.Value.run m ρ)

theorem frame_reference2_experts : Cert.quiescent_Reference2Ideal_pre_experts := fun m ρ _ => frame_reference2 m ρ trivial

/-- The experts' down product and its reference end with the same result, from tables in range. -/
theorem same_result2 : Cert.algebraic_Kernel2Ideal_Reference2Ideal := by
  intro m g m' g' hpre hagree
  have hr := Cert.Down.range_ideal m hpre
  refine ⟨fun c => Cert.Down.refDown m c, ?_, ?_⟩
  · exact (θ_run Cert.Kernel2Ideal.defs _ _).mono (fun r h c => ⟨(h.1 c).1.trans (Cert.Down.down_result m c hr), (h.1 c).2⟩)
      (Cert.Down.run_main (Cert.Down.adm m hr) m g (Cert.Down.adm_eq m hr))
  · refine (θ_run Cert.Reference2Ideal.defs _ _).mono (fun r h c => ⟨(h c).1.trans ?_, (h c).2⟩)
      (Cert.Reference2Ideal.Value.run m' g')
    obtain ⟨h0, h1, h2, h3⟩ := hagree c
    rw [h0, h1, h2, h3]
    rfl

/-- The experts' up products at machine floats, from tables in range. -/
theorem frame_kernel3 : Cert.quiescent_Kernel3 := fun m ρ h => by
  rw [Cert.Up.defs_same, Cert.Up.main_same]
  have hr := Cert.Up.range_bits m h
  exact (θ_run Cert.Kernel3Ideal.defs _ _).mono (fun r h => ⟨fun c => (h.1 c).2, h.2⟩)
    (Cert.Up.run_main (F := Bits) (Cert.Up.adm m hr) m ρ (Cert.Up.rows_ok m hr) (Cert.Up.adm_eq m hr))

theorem frame_ideal3 : Cert.quiescent_Kernel3Ideal := fun m ρ h =>
  have hr := Cert.Up.range_ideal m h
  (θ_run Cert.Kernel3Ideal.defs _ _).mono (fun r h => ⟨fun c => (h.1 c).2, h.2⟩)
    (Cert.Up.run_main (Cert.Up.adm m hr) m ρ (Cert.Up.rows_ok m hr) (Cert.Up.adm_eq m hr))

theorem frame_reference3 : Cert.quiescent_Reference3Ideal := fun m ρ _ =>
  (θ_run Cert.Reference3Ideal.defs _ _).mono
    (fun r h => ⟨fun c => (h c).2, sem_eq_zero_of_no_sems (by decide) r.2⟩) (Cert.Reference3Ideal.Value.run m ρ)

theorem frame_reference3_gathers : Cert.quiescent_Reference3Ideal_pre_gathers := fun m ρ _ => frame_reference3 m ρ trivial

/-- The experts' up products and their reference end with the same result, from tables in range. -/
theorem same_result3 : Cert.algebraic_Kernel3Ideal_Reference3Ideal := by
  intro m g m' g' hpre hagree
  have hr := Cert.Up.range_ideal m hpre
  refine ⟨fun c => Cert.Up.refUp m c, ?_, ?_⟩
  · exact (θ_run Cert.Kernel3Ideal.defs _ _).mono (fun r h c => ⟨(h.1 c).1.trans (Cert.Up.up_result m c hr), (h.1 c).2⟩)
      (Cert.Up.run_main (Cert.Up.adm m hr) m g (Cert.Up.rows_ok m hr) (Cert.Up.adm_eq m hr))
  · refine (θ_run Cert.Reference3Ideal.defs _ _).mono (fun r h c => ⟨(h c).1.trans ?_, (h c).2⟩)
      (Cert.Reference3Ideal.Value.run m' g')
    obtain ⟨h0, h1, h2, h3, h4, h5⟩ := hagree c
    rw [h0, h1, h2, h3, h4, h5]
    rfl

/-- The dense feed-forward's up products at machine floats, from tables that name the one matrix. -/
theorem frame_kernel4 : Cert.quiescent_Kernel4 := fun m ρ h => by
  rw [Cert.DenseUp.defs_same, Cert.DenseUp.main_same]
  have hr := Cert.DenseUp.range_bits m h
  exact (θ_run Cert.Kernel4Ideal.defs _ _).mono (fun r h => ⟨fun c => (h.1 c).2, h.2⟩)
    (Cert.DenseUp.run_main (F := Bits) (Cert.DenseUp.adm m hr) m ρ (Cert.DenseUp.adm_eq m hr))

theorem frame_ideal4 : Cert.quiescent_Kernel4Ideal := fun m ρ h =>
  have hr := (Cert.DenseUp.range_ideal m h).1
  (θ_run Cert.Kernel4Ideal.defs _ _).mono (fun r h => ⟨fun c => (h.1 c).2, h.2⟩)
    (Cert.DenseUp.run_main (Cert.DenseUp.adm m hr) m ρ (Cert.DenseUp.adm_eq m hr))

theorem frame_reference4 : Cert.quiescent_Reference4Ideal := fun m ρ _ =>
  (θ_run Cert.Reference4Ideal.defs _ _).mono
    (fun r h => ⟨fun c => (h c).2, sem_eq_zero_of_no_sems (by decide) r.2⟩) (Cert.Reference4Ideal.Value.run m ρ)

theorem frame_reference4_dense_up : Cert.quiescent_Reference4Ideal_pre_dense_up := fun m ρ _ => frame_reference4 m ρ trivial

/-- The dense feed-forward's up products and the reference end with the same result, from such tables with every tile in use. -/
theorem same_result4 : Cert.algebraic_Kernel4Ideal_Reference4Ideal := by
  intro m g m' g' hpre hagree
  obtain ⟨hr, hu⟩ := Cert.DenseUp.range_ideal m hpre
  refine ⟨fun c => Cert.DenseUp.refUp m c, ?_, ?_⟩
  · exact (θ_run Cert.Kernel4Ideal.defs _ _).mono (fun r h c => ⟨(h.1 c).1.trans (Cert.DenseUp.up_result m c hr hu), (h.1 c).2⟩)
      (Cert.DenseUp.run_main (Cert.DenseUp.adm m hr) m g (Cert.DenseUp.adm_eq m hr))
  · refine (θ_run Cert.Reference4Ideal.defs _ _).mono (fun r h c => ⟨(h c).1.trans ?_, (h c).2⟩)
      (Cert.Reference4Ideal.Value.run m' g')
    obtain ⟨h0, h1, h2, h3, h4⟩ := hagree c
    rw [h0, h3, h4]
    rfl

/-- The dense feed-forward's down product at machine floats, from tables that name the one matrix. -/
theorem frame_kernel5 : Cert.quiescent_Kernel5 := fun m ρ h => by
  rw [Cert.DenseDown.defs_same, Cert.DenseDown.main_same]
  have hr := Cert.DenseDown.range_bits m h
  exact (θ_run Cert.Kernel5Ideal.defs _ _).mono (fun r h => ⟨fun c => (h.1 c).2, h.2⟩)
    (Cert.DenseDown.run_main (F := Bits) (Cert.DenseDown.adm m hr) m ρ (Cert.DenseDown.adm_eq m hr))

theorem frame_ideal5 : Cert.quiescent_Kernel5Ideal := fun m ρ h =>
  have hr := (Cert.DenseDown.range_ideal m h).1
  (θ_run Cert.Kernel5Ideal.defs _ _).mono (fun r h => ⟨fun c => (h.1 c).2, h.2⟩)
    (Cert.DenseDown.run_main (Cert.DenseDown.adm m hr) m ρ (Cert.DenseDown.adm_eq m hr))

theorem frame_reference5 : Cert.quiescent_Reference5Ideal := fun m ρ _ =>
  (θ_run Cert.Reference5Ideal.defs _ _).mono
    (fun r h => ⟨fun c => (h c).2, sem_eq_zero_of_no_sems (by decide) r.2⟩) (Cert.Reference5Ideal.Value.run m ρ)

theorem frame_reference5_dense_down : Cert.quiescent_Reference5Ideal_pre_dense_down := fun m ρ _ => frame_reference5 m ρ trivial

/-- The dense feed-forward's down product and the reference end with the same result, from such tables with every tile in use. -/
theorem same_result5 : Cert.algebraic_Kernel5Ideal_Reference5Ideal := by
  intro m g m' g' hpre hagree
  obtain ⟨hr, hu⟩ := Cert.DenseDown.range_ideal m hpre
  refine ⟨fun c => Cert.DenseDown.refDown m c, ?_, ?_⟩
  · exact (θ_run Cert.Kernel5Ideal.defs _ _).mono (fun r h c => ⟨(h.1 c).1.trans (Cert.DenseDown.down_result m c hr hu), (h.1 c).2⟩)
      (Cert.DenseDown.run_main (Cert.DenseDown.adm m hr) m g (Cert.DenseDown.adm_eq m hr))
  · refine (θ_run Cert.Reference5Ideal.defs _ _).mono (fun r h c => ⟨(h c).1.trans ?_, (h c).2⟩)
      (Cert.Reference5Ideal.Value.run m' g')
    obtain ⟨h0, h1, h2, h3⟩ := hagree c
    rw [h0, h3]
    rfl

/-- The input projection at machine floats. -/
theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_reference6 : Cert.quiescent_Reference6Ideal := fun m ρ _ =>
  (θ_run Cert.Reference6Ideal.defs _ _).mono
    (fun r h => ⟨fun c => (h c).2, sem_eq_zero_of_no_sems (by decide) r.2⟩) (Cert.Reference6Ideal.Value.run m ρ)

/-- The input projection and its reference end with the same result. -/
theorem same_result6 : Cert.algebraic_Kernel6Ideal_Reference6Ideal := by
  intro m g m' g' _ hagree
  refine ⟨fun c => Cert.In.refIn m c, ?_, ?_⟩
  · exact (θ_run Cert.Kernel6Ideal.defs _ _).mono (fun r h c => ⟨((h.1 c).1 4).trans (Cert.In.in_result m c), h.2.1 c⟩)
      (θ_run_and (Cert.Kernel6Ideal.Gen.run_main m g) (Cert.Kernel6Ideal.Gen.frame m g))
  · refine (θ_run Cert.Reference6Ideal.defs _ _).mono (fun r h c => ⟨(h c).1.trans ?_, (h c).2⟩)
      (Cert.Reference6Ideal.Value.run m' g')
    obtain ⟨h0, h1, h2, h3⟩ := hagree c
    rw [h0, h1, h2, h3]
    rfl

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Pre_finite.Gen.facts,
    Cert.Pre_experts.Gen.facts, Cert.Pre_gathers.Gen.facts, Cert.Pre_dense_up.Gen.facts, Cert.Pre_dense_down.Gen.facts,
    frame_kernel, frame_ideal, frame_ideal_finite, frame_reference, frame_reference_finite, frame_kernel2, frame_ideal2,
    frame_reference2, frame_reference2_experts, frame_kernel3, frame_ideal3, frame_reference3, frame_reference3_gathers,
    frame_kernel4, frame_ideal4, frame_reference4, frame_reference4_dense_up, frame_kernel5, frame_ideal5, frame_reference5,
    frame_reference5_dense_down, frame_kernel6, frame_ideal6, frame_reference6, trivial, same_result, trivial, same_result2, trivial, same_result3, trivial, same_result4,
    trivial, same_result5, trivial, same_result6⟩

end Cert.Proof

end
